-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10)) (m ((c.tc : Thread Cert.AttnRefIdeal.nD Cert.AttnRefIdeal.τ).loc Cert.AttnRefIdeal.main_arg11))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10)
      ∧ r.2.mem ((c.tc : Thread Cert.AttnRefIdeal.nD Cert.AttnRefIdeal.τ).loc Cert.AttnRefIdeal.main_arg11) = m ((c.tc : Thread Cert.AttnRefIdeal.nD Cert.AttnRefIdeal.τ).loc Cert.AttnRefIdeal.main_arg11))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)
      ∧ m' ((c.tc : Thread Cert.AttnRefIdeal.nD Cert.AttnRefIdeal.τ).loc Cert.AttnRefIdeal.main_arg11) = m ((c.tc : Thread Cert.AttnIdeal.nD Cert.AttnIdeal.τ).loc Cert.AttnIdeal.main_arg11)) →
    ∃ (v0 : (c : Dev Cert.AttnIdeal.nD) → Buf (Elt Ideal) ((c.tc : Thread Cert.AttnIdeal.nD Cert.AttnIdeal.τ).loc Cert.AttnIdeal.main_v23_0)) (v1 : (c : Dev Cert.AttnIdeal.nD) → Buf (Elt Ideal) ((c.tc : Thread Cert.AttnIdeal.nD Cert.AttnIdeal.τ).loc Cert.AttnIdeal.main_v23_1)) (v2 : (c : Dev Cert.AttnIdeal.nD) → Buf (Elt Ideal) ((c.tc : Thread Cert.AttnIdeal.nD Cert.AttnIdeal.τ).loc Cert.AttnIdeal.main_v23_2)) (v3 : (c : Dev Cert.AttnIdeal.nD) → Buf (Elt Ideal) ((c.tc : Thread Cert.AttnIdeal.nD Cert.AttnIdeal.τ).loc Cert.AttnIdeal.main_v23_3)) (v4 : (c : Dev Cert.AttnIdeal.nD) → Buf (Elt Ideal) ((c.tc : Thread Cert.AttnIdeal.nD Cert.AttnIdeal.τ).loc Cert.AttnIdeal.main_v23_4)) (v5 : (c : Dev Cert.AttnIdeal.nD) → Buf (Elt Ideal) ((c.tc : Thread Cert.AttnIdeal.nD Cert.AttnIdeal.τ).loc Cert.AttnIdeal.main_v23_5)) (v6 : (c : Dev Cert.AttnIdeal.nD) → Buf (Elt Ideal) ((c.tc : Thread Cert.AttnIdeal.nD Cert.AttnIdeal.τ).loc Cert.AttnIdeal.main_v23_6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v23_0) = v0 c
          ∧ r.2.mem ((c.tc : Thread Cert.AttnIdeal.nD Cert.AttnIdeal.τ).loc Cert.AttnIdeal.main_v23_1) = v1 c
          ∧ r.2.mem ((c.tc : Thread Cert.AttnIdeal.nD Cert.AttnIdeal.τ).loc Cert.AttnIdeal.main_v23_2) = v2 c
          ∧ r.2.mem ((c.tc : Thread Cert.AttnIdeal.nD Cert.AttnIdeal.τ).loc Cert.AttnIdeal.main_v23_3) = v3 c
          ∧ r.2.mem ((c.tc : Thread Cert.AttnIdeal.nD Cert.AttnIdeal.τ).loc Cert.AttnIdeal.main_v23_4) = v4 c
          ∧ r.2.mem ((c.tc : Thread Cert.AttnIdeal.nD Cert.AttnIdeal.τ).loc Cert.AttnIdeal.main_v23_5) = v5 c
          ∧ r.2.mem ((c.tc : Thread Cert.AttnIdeal.nD Cert.AttnIdeal.τ).loc Cert.AttnIdeal.main_v23_6) = v6 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v75) = v0 c
          ∧ r.2.mem ((c.tc : Thread Cert.AttnRefIdeal.nD Cert.AttnRefIdeal.τ).loc Cert.AttnRefIdeal.main_v76) = v1 c
          ∧ r.2.mem ((c.tc : Thread Cert.AttnRefIdeal.nD Cert.AttnRefIdeal.τ).loc Cert.AttnRefIdeal.main_v77) = v2 c
          ∧ r.2.mem ((c.tc : Thread Cert.AttnRefIdeal.nD Cert.AttnRefIdeal.τ).loc Cert.AttnRefIdeal.main_v78) = v3 c
          ∧ r.2.mem ((c.tc : Thread Cert.AttnRefIdeal.nD Cert.AttnRefIdeal.τ).loc Cert.AttnRefIdeal.main_v79) = v4 c
          ∧ r.2.mem ((c.tc : Thread Cert.AttnRefIdeal.nD Cert.AttnRefIdeal.τ).loc Cert.AttnRefIdeal.main_v80) = v5 c
          ∧ r.2.mem ((c.tc : Thread Cert.AttnRefIdeal.nD Cert.AttnRefIdeal.τ).loc Cert.AttnRefIdeal.main_v81) = v6 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10)
          ∧ r.2.mem ((c.tc : Thread Cert.AttnRefIdeal.nD Cert.AttnRefIdeal.τ).loc Cert.AttnRefIdeal.main_arg11) = m' ((c.tc : Thread Cert.AttnRefIdeal.nD Cert.AttnRefIdeal.τ).loc Cert.AttnRefIdeal.main_arg11))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v61) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)
      ∧ m' ((c.tc : Thread Cert.ModRefIdeal.nD Cert.ModRefIdeal.τ).loc Cert.ModRefIdeal.main_arg5) = m ((c.tc : Thread Cert.ModIdeal.nD Cert.ModIdeal.τ).loc Cert.ModIdeal.main_arg5)) →
    ∃ (v0 : (c : Dev Cert.ModIdeal.nD) → Buf (Elt Ideal) ((c.tc : Thread Cert.ModIdeal.nD Cert.ModIdeal.τ).loc Cert.ModIdeal.main_v3_0)) (v1 : (c : Dev Cert.ModIdeal.nD) → Buf (Elt Ideal) ((c.tc : Thread Cert.ModIdeal.nD Cert.ModIdeal.τ).loc Cert.ModIdeal.main_v3_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3_0) = v0 c
          ∧ r.2.mem ((c.tc : Thread Cert.ModIdeal.nD Cert.ModIdeal.τ).loc Cert.ModIdeal.main_v3_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v11) = v0 c
          ∧ r.2.mem ((c.tc : Thread Cert.ModRefIdeal.nD Cert.ModRefIdeal.τ).loc Cert.ModRefIdeal.main_v15) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4)
          ∧ r.2.mem ((c.tc : Thread Cert.ModRefIdeal.nD Cert.ModRefIdeal.τ).loc Cert.ModRefIdeal.main_arg5) = m' ((c.tc : Thread Cert.ModRefIdeal.nD Cert.ModRefIdeal.τ).loc Cert.ModRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v19_2)) (v1 : (c : Dev Cert.ProjIdeal.nD) → Buf (Elt Ideal) ((c.tc : Thread Cert.ProjIdeal.nD Cert.ProjIdeal.τ).loc Cert.ProjIdeal.main_v19_3)) (v2 : (c : Dev Cert.ProjIdeal.nD) → Buf (Elt Ideal) ((c.tc : Thread Cert.ProjIdeal.nD Cert.ProjIdeal.τ).loc Cert.ProjIdeal.main_v19_4)) (v3 : (c : Dev Cert.ProjIdeal.nD) → Buf (Elt Ideal) ((c.tc : Thread Cert.ProjIdeal.nD Cert.ProjIdeal.τ).loc Cert.ProjIdeal.main_v19_7)) (v4 : (c : Dev Cert.ProjIdeal.nD) → Buf (Elt Ideal) ((c.tc : Thread Cert.ProjIdeal.nD Cert.ProjIdeal.τ).loc Cert.ProjIdeal.main_v19_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_2) = v0 c
          ∧ r.2.mem ((c.tc : Thread Cert.ProjIdeal.nD Cert.ProjIdeal.τ).loc Cert.ProjIdeal.main_v19_3) = v1 c
          ∧ r.2.mem ((c.tc : Thread Cert.ProjIdeal.nD Cert.ProjIdeal.τ).loc Cert.ProjIdeal.main_v19_4) = v2 c
          ∧ r.2.mem ((c.tc : Thread Cert.ProjIdeal.nD Cert.ProjIdeal.τ).loc Cert.ProjIdeal.main_v19_7) = v3 c
          ∧ r.2.mem ((c.tc : Thread Cert.ProjIdeal.nD Cert.ProjIdeal.τ).loc Cert.ProjIdeal.main_v19_8) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v47) = v0 c
          ∧ r.2.mem ((c.tc : Thread Cert.ProjRefIdeal.nD Cert.ProjRefIdeal.τ).loc Cert.ProjRefIdeal.main_v48) = v1 c
          ∧ r.2.mem ((c.tc : Thread Cert.ProjRefIdeal.nD Cert.ProjRefIdeal.τ).loc Cert.ProjRefIdeal.main_v49) = v2 c
          ∧ r.2.mem ((c.tc : Thread Cert.ProjRefIdeal.nD Cert.ProjRefIdeal.τ).loc Cert.ProjRefIdeal.main_v50) = v3 c
          ∧ r.2.mem ((c.tc : Thread Cert.ProjRefIdeal.nD Cert.ProjRefIdeal.τ).loc Cert.ProjRefIdeal.main_v51) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hMod : Cert.Mod.Facts) (hModIdeal : Cert.ModIdeal.Facts) (hModRefIdeal : Cert.ModRefIdeal.Facts) (hProj : Cert.Proj.Facts) (hProjIdeal : Cert.ProjIdeal.Facts) (hProjRefIdeal : Cert.ProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Mod (hMod := hMod)
    ∧ quiescent_ModIdeal (hModIdeal := hModIdeal)
    ∧ quiescent_ModRefIdeal (hModRefIdeal := hModRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Merge_MergeIdeal
    ∧ algebraic_MergeIdeal_MergeRefIdeal (hMergeIdeal := hMergeIdeal) (hMergeRefIdeal := hMergeRefIdeal)
    ∧ preserves_Mod_ModIdeal
    ∧ algebraic_ModIdeal_ModRefIdeal (hModIdeal := hModIdeal) (hModRefIdeal := hModRefIdeal)
    ∧ preserves_Proj_ProjIdeal
    ∧ algebraic_ProjIdeal_ProjRefIdeal (hProjIdeal := hProjIdeal) (hProjRefIdeal := hProjRefIdeal)
-- ==== Pre_finite.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x2048x8x64 .f32) (main_arg1 : FVec F S8x2048x2x64 .f32) (main_arg2 : FVec F S8x2048x2x64 .f32) (main_arg3 : FVec F S8x256x2x64 .f32) (main_arg4 : FVec F S8x256x2x64 .f32) (main_arg5 : FVec F S8 .f32) (main_arg6 : FVec F S512x1024 .f32) (main_arg7 : FVec F S512x1024 .f32) (main_arg8 : FVec F S1024x1024 .f32) (main_arg9 : FVec F S1024x2816 .f32) (main_arg10 : FVec F S1024x2816 .f32) (main_arg11 : FVec F S2816x1024 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S8x256x2x64 .f32 := Host.absf main_arg3
  let main_cst_2 : FVec F S_ .f32 := constant S_ .f32 0x7F800000#32
  let main_v10 : FVec F S8x256x2x64 .f32 := broadcastInDim S8x256x2x64 ![] bcast_S_S8x256x2x64 main_cst_2
  let main_v11 : IVec S8x256x2x64 1 := cmpf .olt main_v9 main_v10
  let main_c_3 : IVec S_ 1 := constantI S_ 1 1#1
  let main_v12 : IVec S_ 1 := (fun x v => Host.reduce IntOp.andi x v reducesTo_S8x256x2x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Attn.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x2048x4x64 : Shape := ⟨4, ![8, 2048, 4, 64]⟩
abbrev S8x2048x4x128 : Shape := ⟨4, ![8, 2048, 4, 128]⟩
abbrev S8x2048x8x128 : Shape := ⟨4, ![8, 2048, 8, 128]⟩
abbrev S8x2048x1024 : Shape := ⟨3, ![8, 2048, 1024]⟩
abbrev S8x16x128x128 : Shape := ⟨4, ![8, 16, 128, 128]⟩
abbrev S8x2048x128 : Shape := ⟨3, ![8, 2048, 128]⟩
abbrev S8x2x128x128 : Shape := ⟨4, ![8, 2, 128, 128]⟩
abbrev S8x256x128 : Shape := ⟨3, ![8, 256, 128]⟩
abbrev S8x2048x512 : Shape := ⟨3, ![8, 2048, 512]⟩
abbrev S1x1024x1024 : Shape := ⟨3, ![1, 1024, 1024]⟩
abbrev S1x16x128x128 : Shape := ⟨4, ![1, 16, 128, 128]⟩
abbrev S1x2x128x128 : Shape := ⟨4, ![1, 2, 128, 128]⟩
abbrev S1x2048x128 : Shape := ⟨3, ![1, 2048, 128]⟩
abbrev S1x256x128 : Shape := ⟨3, ![1, 256, 128]⟩
abbrev S32x1024 : Shape := ⟨2, ![32, 1024]⟩
abbrev S64x1024 : Shape := ⟨2, ![64, 1024]⟩
abbrev S64x2816 : Shape := ⟨2, ![64, 2816]⟩
abbrev S176x1024 : Shape := ⟨2, ![176, 1024]⟩
abbrev S1x1024x512 : Shape := ⟨3, ![1, 1024, 512]⟩
abbrev S128x128 : Shape := ⟨2, ![128, 128]⟩
abbrev S1x1x128x128 : Shape := ⟨4, ![1, 1, 128, 128]⟩
abbrev S128x640 : Shape := ⟨2, ![128, 640]⟩
abbrev S1x128x128 : Shape := ⟨3, ![1, 128, 128]⟩
abbrev S256x128 : Shape := ⟨2, ![256, 128]⟩
abbrev S640x128 : Shape := ⟨2, ![640, 128]⟩
abbrev S640x256 : Shape := ⟨2, ![640, 256]⟩
abbrev S256x640 : Shape := ⟨2, ![256, 640]⟩
abbrev S1 : Shape := ⟨1, ![1]⟩
abbrev S128x256 : Shape := ⟨2, ![128, 256]⟩
abbrev S128 : Shape := ⟨1, ![128]⟩
abbrev S128x1 : Shape := ⟨2, ![128, 1]⟩
abbrev S256x256 : Shape := ⟨2, ![256, 256]⟩

abbrev nBuf : Space → Nat
  | .hbm => 45
  | .vmem => 36
  | .smem => 1
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S_, .f32⟩
  | .hbm, ⟨13, _⟩ => ⟨S8x2048x8x64, .f32⟩
  | .hbm, ⟨14, _⟩ => ⟨S8x2048x8x64, .f32⟩
  | .hbm, ⟨15, _⟩ => ⟨S_, .f32⟩
  | .hbm, ⟨16, _⟩ => ⟨S_, .f32⟩
  | .hbm, ⟨17, _⟩ => ⟨S8x2048x8x64, .f32⟩
  | .hbm, ⟨18, _⟩ => ⟨S8x2048x8x64, .f32⟩
  | .hbm, ⟨19, _⟩ => ⟨S_, .f32⟩
  | .hbm, ⟨20, _⟩ => ⟨S8x2048x4x64, .f32⟩
  | .hbm, ⟨21, _⟩ => ⟨S8x2048x4x64, .f32⟩
  | .hbm, ⟨22, _⟩ => ⟨S8x2048x4x128, .f32⟩
  | .hbm, ⟨23, _⟩ => ⟨S8x2048x4x64, .f32⟩
  | .hbm, ⟨24, _⟩ => ⟨S8x2048x4x128, .f32⟩
  | .hbm, ⟨25, _⟩ => ⟨S8x2048x8x128, .f32⟩
  | .hbm, ⟨26, _⟩ => ⟨S8x2048x1024, .f32⟩
  | .hbm, ⟨27, _⟩ => ⟨S8x2048x1024, .bf16⟩
  | .hbm, ⟨28, _⟩ => ⟨S8x16x128x128, .f32⟩
  | .hbm, ⟨29, _⟩ => ⟨S8x16x128x128, .f32⟩
  | .hbm, ⟨30, _⟩ => ⟨S8x16x128x128, .bf16⟩
  | .hbm, ⟨31, _⟩ => ⟨S8x2048x128, .f32⟩
  | .hbm, ⟨32, _⟩ => ⟨S8x2048x128, .bf16⟩
  | .hbm, ⟨33, _⟩ => ⟨S8x2x128x128, .f32⟩
  | .hbm, ⟨34, _⟩ => ⟨S8x2x128x128, .f32⟩
  | .hbm, ⟨35, _⟩ => ⟨S8x2x128x128, .bf16⟩
  | .hbm, ⟨36, _⟩ => ⟨S8x256x128, .f32⟩
  | .hbm, ⟨37, _⟩ => ⟨S8x256x128, .bf16⟩
  | .hbm, ⟨38, _⟩ => ⟨S8x2048x512, .bf16⟩
  | .hbm, ⟨39, _⟩ => ⟨S512x1024, .bf16⟩
  | .hbm, ⟨40, _⟩ => ⟨S512x1024, .bf16⟩
  | .hbm, ⟨41, _⟩ => ⟨S1024x1024, .bf16⟩
  | .hbm, ⟨42, _⟩ => ⟨S1024x2816, .bf16⟩
  | .hbm, ⟨43, _⟩ => ⟨S1024x2816, .bf16⟩
  | .hbm, ⟨44, _⟩ => ⟨S2816x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x16x128x128, .bf16⟩
  | .local _ .vmem, ⟨3, _⟩ => ⟨S1x16x128x128, .bf16⟩
  | .local _ .vmem, ⟨4, _⟩ => ⟨S1x2x128x128, .bf16⟩
  | .local _ .vmem, ⟨5, _⟩ => ⟨S1x2x128x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x128, .bf16⟩
  | .local _ .vmem, ⟨9, _⟩ => ⟨S1x256x128, .bf16⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S64x1024, .f32⟩
  | .local _ .vmem, ⟨15, _⟩ => ⟨S64x1024, .f32⟩
  | .local _ .vmem, ⟨16, _⟩ => ⟨S64x2816, .f32⟩
  | .local _ .vmem, ⟨17, _⟩ => ⟨S64x2816, .f32⟩
  | .local _ .vmem, ⟨18, _⟩ => ⟨S64x2816, .f32⟩
  | .local _ .vmem, ⟨19, _⟩ => ⟨S64x2816, .f32⟩
  | .local _ .vmem, ⟨20, _⟩ => ⟨S176x1024, .f32⟩
  | .local _ .vmem, ⟨21, _⟩ => ⟨S176x1024, .f32⟩
  | .local _ .vmem, ⟨22, _⟩ => ⟨S1x1024x512, .bf16⟩
  | .local _ .vmem, ⟨23, _⟩ => ⟨S1x1024x512, .bf16⟩
  | .local _ .vmem, ⟨24, _⟩ => ⟨S32x1024, .bf16⟩
  | .local _ .vmem, ⟨25, _⟩ => ⟨S32x1024, .bf16⟩
  | .local _ .vmem, ⟨26, _⟩ => ⟨S32x1024, .bf16⟩
  | .local _ .vmem, ⟨27, _⟩ => ⟨S32x1024, .bf16⟩
  | .local _ .vmem, ⟨28, _⟩ => ⟨S64x1024, .bf16⟩
  | .local _ .vmem, ⟨29, _⟩ => ⟨S64x1024, .bf16⟩
  | .local _ .vmem, ⟨30, _⟩ => ⟨S64x2816, .bf16⟩
  | .local _ .vmem, ⟨31, _⟩ => ⟨S64x2816, .bf16⟩
  | .local _ .vmem, ⟨32, _⟩ => ⟨S64x2816, .bf16⟩
  | .local _ .vmem, ⟨33, _⟩ => ⟨S64x2816, .bf16⟩
  | .local _ .vmem, ⟨34, _⟩ => ⟨S176x1024, .bf16⟩
  | .local _ .vmem, ⟨35, _⟩ => ⟨S176x1024, .bf16⟩
  | .local _ .smem, ⟨0, _⟩ => ⟨S8, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev main_v23_5 : Ref sig .tc := ⟨.hbm, 43, rfl⟩
abbrev main_v23_6 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![8, 2], ![false, false]⟩

def k0_off1 (i : grid0.Coords) (c0_i32 : BitVec 32) : Fin 4 → Nat :=
  let c0_32 : Index := 0#32
  let arg1 : BitVec 32 := BitVec.ofNat 32 (i 1).val
  let c8_i32 : BitVec 32 := 8#32
  let v27 : BitVec 32 := Scalar.muli arg1 c8_i32
  let v28 : BitVec 32 := Scalar.addi v27 c0_i32
  let c1_i32 : BitVec 32 := 1#32
  let v29 : BitVec 32 := Scalar.subi v28 c1_i32
  let c0_i32_30 : BitVec 32 := 0#32
  let v30 : BitVec 32 := Scalar.maxsi v29 c0_i32_30
  let v33 : Index := Scalar.indexCast v30
  let c0_33 : Index := 0#32
  let c0_34 : Index := 0#32
  ![0, v33.toNat, 0, 0]
def k0_off2 (i : grid0.Coords) (c0_i32 : BitVec 32) : Fin 4 → Nat :=
  let c0_35 : Index := 0#32
  let arg1 : BitVec 32 := BitVec.ofNat 32 (i 1).val
  let c8_i32 : BitVec 32 := 8#32
  let v27 : BitVec 32 := Scalar.muli arg1 c8_i32
  let v28 : BitVec 32 := Scalar.addi v27 c0_i32
  let v36 : Index := Scalar.indexCast v28
  let c0_36 : Index := 0#32
  let c0_37 : Index := 0#32
  ![0, v36.toNat, 0, 0]
def k0_off3 (i : grid0.Coords) (c0_i32 : BitVec 32) : Fin 4 → Nat :=
  let c0_38 : Index := 0#32
  let arg1 : BitVec 32 := BitVec.ofNat 32 (i 1).val
  let c8_i32 : BitVec 32 := 8#32
  let v27 : BitVec 32 := Scalar.muli arg1 c8_i32
  let v28 : BitVec 32 := Scalar.addi v27 c0_i32
  let c1_i32_31 : BitVec 32 := 1#32
  let v31 : BitVec 32 := Scalar.addi v28 c1_i32_31
  let c15_i32 : BitVec 32 := 15#32
  let v32 : BitVec 32 := Scalar.minsi v31 c15_i32
  let v39 : Index := Scalar.indexCast v32
  let c0_39 : Index := 0#32
  let c0_40 : Index := 0#32
  ![0, v39.toNat, 0, 0]
def k0_mult1 (i : grid0.Coords) : BitVec 32 :=
  let arg1 : BitVec 32 := BitVec.ofNat 32 (i 1).val
  let c8_i32 : BitVec 32 := 8#32
  let v27 : BitVec 32 := Scalar.muli arg1 c8_i32
  let c0_i32 : BitVec 32 := 0#32
  let v28 : BitVec 32 := Scalar.addi v27 c0_i32
  let c1_i32 : BitVec 32 := 1#32
  let v29 : BitVec 32 := Scalar.subi v28 c1_i32
  let c0_i32_30 : BitVec 32 := 0#32
  let v30 : BitVec 32 := Scalar.maxsi v29 c0_i32_30
  let c128_i32 : BitVec 32 := 128#32
  let v43 : BitVec 32 := Scalar.muli v30 c128_i32
  v43
def k0_off4 (i : grid0.Coords) (c0_i32 : BitVec 32) : Fin 3 → Nat :=
  let c0_41 : Index := 0#32
  let arg1 : BitVec 32 := BitVec.ofNat 32 (i 1).val
  let c8_i32 : BitVec 32 := 8#32
  let v27 : BitVec 32 := Scalar.muli arg1 c8_i32
  let v28 : BitVec 32 := Scalar.addi v27 c0_i32
  let c1_i32 : BitVec 32 := 1#32
  let v29 : BitVec 32 := Scalar.subi v28 c1_i32
  let c0_i32_30 : BitVec 32 := 0#32
  let v30 : BitVec 32 := Scalar.maxsi v29 c0_i32_30
  let c128_i32 : BitVec 32 := 128#32
  let v43 : BitVec 32 := Scalar.muli v30 c128_i32
  let v44 : BitVec 32 := v43
  let v45 : Index := Scalar.indexCast v44
  let c0_42 : Index := 0#32
  ![0, v45.toNat, 0]
def k0_mult2 (i : grid0.Coords) : BitVec 32 :=
  let arg1 : BitVec 32 := BitVec.ofNat 32 (i 1).val
  let c8_i32 : BitVec 32 := 8#32
  let v27 : BitVec 32 := Scalar.muli arg1 c8_i32
  let c0_i32 : BitVec 32 := 0#32
  let v28 : BitVec 32 := Scalar.addi v27 c0_i32
  let c128_i32_43 : BitVec 32 := 128#32
  let v48 : BitVec 32 := Scalar.muli v28 c128_i32_43
  v48
def k0_off5 (i : grid0.Coords) (c0_i32 : BitVec 32) : Fin 3 → Nat :=
  let c0_44 : Index := 0#32
  let arg1 : BitVec 32 := BitVec.ofNat 32 (i 1).val
  let c8_i32 : BitVec 32 := 8#32
  let v27 : BitVec 32 := Scalar.muli arg1 c8_i32
  let v28 : BitVec 32 := Scalar.addi v27 c0_i32
  let c128_i32_43 : BitVec 32 := 128#32
  let v48 : BitVec 32 := Scalar.muli v28 c128_i32_43
  let v49 : BitVec 32 := v48
  let v50 : Index := Scalar.indexCast v49
  let c0_45 : Index := 0#32
  ![0, v50.toNat, 0]
def k0_mult3 (i : grid0.Coords) : BitVec 32 :=
  let arg1 : BitVec 32 := BitVec.ofNat 32 (i 1).val
  let c8_i32 : BitVec 32 := 8#32
  let v27 : BitVec 32 := Scalar.muli arg1 c8_i32
  let c0_i32 : BitVec 32 := 0#32
  let v28 : BitVec 32 := Scalar.addi v27 c0_i32
  let c1_i32_31 : BitVec 32 := 1#32
  let v31 : BitVec 32 := Scalar.addi v28 c1_i32_31
  let c15_i32 : BitVec 32 := 15#32
  let v32 : BitVec 32 := Scalar.minsi v31 c15_i32
  let c128_i32_46 : BitVec 32 := 128#32
  let v53 : BitVec 32 := Scalar.muli v32 c128_i32_46
  v53
def k0_off6 (i : grid0.Coords) (c0_i32 : BitVec 32) : Fin 3 → Nat :=
  let c0_47 : Index := 0#32
  let arg1 : BitVec 32 := BitVec.ofNat 32 (i 1).val
  let c8_i32 : BitVec 32 := 8#32
  let v27 : BitVec 32 := Scalar.muli arg1 c8_i32
  let v28 : BitVec 32 := Scalar.addi v27 c0_i32
  let c1_i32_31 : BitVec 32 := 1#32
  let v31 : BitVec 32 := Scalar.addi v28 c1_i32_31
  let c15_i32 : BitVec 32 := 15#32
  let v32 : BitVec 32 := Scalar.minsi v31 c15_i32
  let c128_i32_46 : BitVec 32 := 128#32
  let v53 : BitVec 32 := Scalar.muli v32 c128_i32_46
  let v54 : BitVec 32 := v53
  let v55 : Index := Scalar.indexCast v54
  let c0_48 : Index := 0#32
  ![0, v55.toNat, 0]
def k0_mult4 (i : grid0.Coords) : BitVec 32 :=
  let arg1 : BitVec 32 := BitVec.ofNat 32 (i 1).val
  let c8_i32_126 : BitVec 32 := 8#32
  let v342 : BitVec 32 := Scalar.muli arg1 c8_i32_126
  let c1_i32_127 : BitVec 32 := 1#32
  let v343 : BitVec 32 := Scalar.addi v342 c1_i32_127
  let c1_i32_128 : BitVec 32 := 1#32
  let v344 : BitVec 32 := Scalar.subi v343 c1_i32_128
  let c0_i32_129 : BitVec 32 := 0#32
  let v345 : BitVec 32 := Scalar.maxsi v344 c0_i32_129
  let c128_i32_141 : BitVec 32 := 128#32
  let v358 : BitVec 32 := Scalar.muli v345 c128_i32_141
  v358
def k0_mult5 (i : grid0.Coords) : BitVec 32 :=
  let arg1 : BitVec 32 := BitVec.ofNat 32 (i 1).val
  let c8_i32_126 : BitVec 32 := 8#32
  let v342 : BitVec 32 := Scalar.muli arg1 c8_i32_126
  let c1_i32_127 : BitVec 32 := 1#32
  let v343 : BitVec 32 := Scalar.addi v342 c1_i32_127
  let c128_i32_144 : BitVec 32 := 128#32
  let v363 : BitVec 32 := Scalar.muli v343 c128_i32_144
  v363
def k0_mult6 (i : grid0.Coords) : BitVec 32 :=
  let arg1 : BitVec 32 := BitVec.ofNat 32 (i 1).val
  let c8_i32_126 : BitVec 32 := 8#32
  let v342 : BitVec 32 := Scalar.muli arg1 c8_i32_126
  let c1_i32_127 : BitVec 32 := 1#32
  let v343 : BitVec 32 := Scalar.addi v342 c1_i32_127
  let c1_i32_130 : BitVec 32 := 1#32
  let v346 : BitVec 32 := Scalar.addi v343 c1_i32_130
  let c15_i32_131 : BitVec 32 := 15#32
  let v347 : BitVec 32 := Scalar.minsi v346 c15_i32_131
  let c128_i32_147 : BitVec 32 := 128#32
  let v368 : BitVec 32 := Scalar.muli v347 c128_i32_147
  v368
def k0_mult7 (i : grid0.Coords) : BitVec 32 :=
  let arg1 : BitVec 32 := BitVec.ofNat 32 (i 1).val
  let c8_i32_250 : BitVec 32 := 8#32
  let v690 : BitVec 32 := Scalar.muli arg1 c8_i32_250
  let c2_i32 : BitVec 32 := 2#32
  let v691 : BitVec 32 := Scalar.addi v690 c2_i32
  let c1_i32_251 : BitVec 32 := 1#32
  let v692 : BitVec 32 := Scalar.subi v691 c1_i32_251
  let c0_i32_252 : BitVec 32 := 0#32
  let v693 : BitVec 32 := Scalar.maxsi v692 c0_i32_252
  let c128_i32_264 : BitVec 32 := 128#32
  let v706 : BitVec 32 := Scalar.muli v693 c128_i32_264
  v706
def k0_mult8 (i : grid0.Coords) : BitVec 32 :=
  let arg1 : BitVec 32 := BitVec.ofNat 32 (i 1).val
  let c8_i32_250 : BitVec 32 := 8#32
  let v690 : BitVec 32 := Scalar.muli arg1 c8_i32_250
  let c2_i32 : BitVec 32 := 2#32
  let v691 : BitVec 32 := Scalar.addi v690 c2_i32
  let c128_i32_267 : BitVec 32 := 128#32
  let v711 : BitVec 32 := Scalar.muli v691 c128_i32_267
  v711
def k0_mult9 (i : grid0.Coords) : BitVec 32 :=
  let arg1 : BitVec 32 := BitVec.ofNat 32 (i 1).val
  let c8_i32_250 : BitVec 32 := 8#32
  let v690 : BitVec 32 := Scalar.muli arg1 c8_i32_250
  let c2_i32 : BitVec 32 := 2#32
  let v691 : BitVec 32 := Scalar.addi v690 c2_i32
  let c1_i32_253 : BitVec 32 := 1#32
  let v694 : BitVec 32 := Scalar.addi v691 c1_i32_253
  let c15_i32_254 : BitVec 32 := 15#32
  let v695 : BitVec 32 := Scalar.minsi v694 c15_i32_254
  let c128_i32_270 : BitVec 32 := 128#32
  let v716 : BitVec 32 := Scalar.muli v695 c128_i32_270
  v716
def k0_mult10 (i : grid0.Coords) : BitVec 32 :=
  let arg1 : BitVec 32 := BitVec.ofNat 32 (i 1).val
  let c8_i32_373 : BitVec 32 := 8#32
  let v1038 : BitVec 32 := Scalar.muli arg1 c8_i32_373
  let c3_i32 : BitVec 32 := 3#32
  let v1039 : BitVec 32 := Scalar.addi v1038 c3_i32
  let c1_i32_374 : BitVec 32 := 1#32
  let v1040 : BitVec 32 := Scalar.subi v1039 c1_i32_374
  let c0_i32_375 : BitVec 32 := 0#32
  let v1041 : BitVec 32 := Scalar.maxsi v1040 c0_i32_375
  let c128_i32_387 : BitVec 32 := 128#32
  let v1054 : BitVec 32 := Scalar.muli v1041 c128_i32_387
  v1054
def k0_mult11 (i : grid0.Coords) : BitVec 32 :=
  let arg1 : BitVec 32 := BitVec.ofNat 32 (i 1).val
  let c8_i32_373 : BitVec 32 := 8#32
  let v1038 : BitVec 32 := Scalar.muli arg1 c8_i32_373
  let c3_i32 : BitVec 32 := 3#32
  let v1039 : BitVec 32 := Scalar.addi v1038 c3_i32
  let c128_i32_390 : BitVec 32 := 128#32
  let v1059 : BitVec 32 := Scalar.muli v1039 c128_i32_390
  v1059
def k0_mult12 (i : grid0.Coords) : BitVec 32 :=
  let arg1 : BitVec 32 := BitVec.ofNat 32 (i 1).val
  let c8_i32_373 : BitVec 32 := 8#32
  let v1038 : BitVec 32 := Scalar.muli arg1 c8_i32_373
  let c3_i32 : BitVec 32 := 3#32
  let v1039 : BitVec 32 := Scalar.addi v1038 c3_i32
  let c1_i32_376 : BitVec 32 := 1#32
  let v1042 : BitVec 32 := Scalar.addi v1039 c1_i32_376
  let c15_i32_377 : BitVec 32 := 15#32
  let v1043 : BitVec 32 := Scalar.minsi v1042 c15_i32_377
  let c128_i32_393 : BitVec 32 := 128#32
  let v1064 : BitVec 32 := Scalar.muli v1043 c128_i32_393
  v1064
def k0_mult13 (i : grid0.Coords) : BitVec 32 :=
  let arg1 : BitVec 32 := BitVec.ofNat 32 (i 1).val
  let c8_i32_496 : BitVec 32 := 8#32
  let v1386 : BitVec 32 := Scalar.muli arg1 c8_i32_496
  let c4_i32 : BitVec 32 := 4#32
  let v1387 : BitVec 32 := Scalar.addi v1386 c4_i32
  let c1_i32_497 : BitVec 32 := 1#32
  let v1388 : BitVec 32 := Scalar.subi v1387 c1_i32_497
  let c0_i32_498 : BitVec 32 := 0#32
  let v1389 : BitVec 32 := Scalar.maxsi v1388 c0_i32_498
  let c128_i32_510 : BitVec 32 := 128#32
  let v1402 : BitVec 32 := Scalar.muli v1389 c128_i32_510
  v1402
def k0_mult14 (i : grid0.Coords) : BitVec 32 :=
  let arg1 : BitVec 32 := BitVec.ofNat 32 (i 1).val
  let c8_i32_496 : BitVec 32 := 8#32
  let v1386 : BitVec 32 := Scalar.muli arg1 c8_i32_496
  let c4_i32 : BitVec 32 := 4#32
  let v1387 : BitVec 32 := Scalar.addi v1386 c4_i32
  let c128_i32_513 : BitVec 32 := 128#32
  let v1407 : BitVec 32 := Scalar.muli v1387 c128_i32_513
  v1407
def k0_mult15 (i : grid0.Coords) : BitVec 32 :=
  let arg1 : BitVec 32 := BitVec.ofNat 32 (i 1).val
  let c8_i32_496 : BitVec 32 := 8#32
  let v1386 : BitVec 32 := Scalar.muli arg1 c8_i32_496
  let c4_i32 : BitVec 32 := 4#32
  let v1387 : BitVec 32 := Scalar.addi v1386 c4_i32
  let c1_i32_499 : BitVec 32 := 1#32
  let v1390 : BitVec 32 := Scalar.addi v1387 c1_i32_499
  let c15_i32_500 : BitVec 32 := 15#32
  let v1391 : BitVec 32 := Scalar.minsi v1390 c15_i32_500
  let c128_i32_516 : BitVec 32 := 128#32
  let v1412 : BitVec 32 := Scalar.muli v1391 c128_i32_516
  v1412
def k0_mult16 (i : grid0.Coords) : BitVec 32 :=
  let arg1 : BitVec 32 := BitVec.ofNat 32 (i 1).val
  let c8_i32_619 : BitVec 32 := 8#32
  let v1734 : BitVec 32 := Scalar.muli arg1 c8_i32_619
  let c5_i32 : BitVec 32 := 5#32
  let v1735 : BitVec 32 := Scalar.addi v1734 c5_i32
  let c1_i32_620 : BitVec 32 := 1#32
  let v1736 : BitVec 32 := Scalar.subi v1735 c1_i32_620
  let c0_i32_621 : BitVec 32 := 0#32
  let v1737 : BitVec 32 := Scalar.maxsi v1736 c0_i32_621
  let c128_i32_633 : BitVec 32 := 128#32
  let v1750 : BitVec 32 := Scalar.muli v1737 c128_i32_633
  v1750
def k0_mult17 (i : grid0.Coords) : BitVec 32 :=
  let arg1 : BitVec 32 := BitVec.ofNat 32 (i 1).val
  let c8_i32_619 : BitVec 32 := 8#32
  let v1734 : BitVec 32 := Scalar.muli arg1 c8_i32_619
  let c5_i32 : BitVec 32 := 5#32
  let v1735 : BitVec 32 := Scalar.addi v1734 c5_i32
  let c128_i32_636 : BitVec 32 := 128#32
  let v1755 : BitVec 32 := Scalar.muli v1735 c128_i32_636
  v1755
def k0_mult18 (i : grid0.Coords) : BitVec 32 :=
  let arg1 : BitVec 32 := BitVec.ofNat 32 (i 1).val
  let c8_i32_619 : BitVec 32 := 8#32
  let v1734 : BitVec 32 := Scalar.muli arg1 c8_i32_619
  let c5_i32 : BitVec 32 := 5#32
  let v1735 : BitVec 32 := Scalar.addi v1734 c5_i32
  let c1_i32_622 : BitVec 32 := 1#32
  let v1738 : BitVec 32 := Scalar.addi v1735 c1_i32_622
  let c15_i32_623 : BitVec 32 := 15#32
  let v1739 : BitVec 32 := Scalar.minsi v1738 c15_i32_623
  let c128_i32_639 : BitVec 32 := 128#32
  let v1760 : BitVec 32 := Scalar.muli v1739 c128_i32_639
  v1760
def k0_mult19 (i : grid0.Coords) : BitVec 32 :=
  let arg1 : BitVec 32 := BitVec.ofNat 32 (i 1).val
  let c8_i32_742 : BitVec 32 := 8#32
  let v2082 : BitVec 32 := Scalar.muli arg1 c8_i32_742
  let c6_i32 : BitVec 32 := 6#32
  let v2083 : BitVec 32 := Scalar.addi v2082 c6_i32
  let c1_i32_743 : BitVec 32 := 1#32
  let v2084 : BitVec 32 := Scalar.subi v2083 c1_i32_743
  let c0_i32_744 : BitVec 32 := 0#32
  let v2085 : BitVec 32 := Scalar.maxsi v2084 c0_i32_744
  let c128_i32_756 : BitVec 32 := 128#32
  let v2098 : BitVec 32 := Scalar.muli v2085 c128_i32_756
  v2098
def k0_mult20 (i : grid0.Coords) : BitVec 32 :=
  let arg1 : BitVec 32 := BitVec.ofNat 32 (i 1).val
  let c8_i32_742 : BitVec 32 := 8#32
  let v2082 : BitVec 32 := Scalar.muli arg1 c8_i32_742
  let c6_i32 : BitVec 32 := 6#32
  let v2083 : BitVec 32 := Scalar.addi v2082 c6_i32
  let c128_i32_759 : BitVec 32 := 128#32
  let v2103 : BitVec 32 := Scalar.muli v2083 c128_i32_759
  v2103
def k0_mult21 (i : grid0.Coords) : BitVec 32 :=
  let arg1 : BitVec 32 := BitVec.ofNat 32 (i 1).val
  let c8_i32_742 : BitVec 32 := 8#32
  let v2082 : BitVec 32 := Scalar.muli arg1 c8_i32_742
  let c6_i32 : BitVec 32 := 6#32
  let v2083 : BitVec 32 := Scalar.addi v2082 c6_i32
  let c1_i32_745 : BitVec 32 := 1#32
  let v2086 : BitVec 32 := Scalar.addi v2083 c1_i32_745
  let c15_i32_746 : BitVec 32 := 15#32
  let v2087 : BitVec 32 := Scalar.minsi v2086 c15_i32_746
  let c128_i32_762 : BitVec 32 := 128#32
  let v2108 : BitVec 32 := Scalar.muli v2087 c128_i32_762
  v2108
def k0_mult22 (i : grid0.Coords) : BitVec 32 :=
  let arg1 : BitVec 32 := BitVec.ofNat 32 (i 1).val
  let c8_i32_865 : BitVec 32 := 8#32
  let v2430 : BitVec 32 := Scalar.muli arg1 c8_i32_865
  let c7_i32 : BitVec 32 := 7#32
  let v2431 : BitVec 32 := Scalar.addi v2430 c7_i32
  let c1_i32_866 : BitVec 32 := 1#32
  let v2432 : BitVec 32 := Scalar.subi v2431 c1_i32_866
  let c0_i32_867 : BitVec 32 := 0#32
  let v2433 : BitVec 32 := Scalar.maxsi v2432 c0_i32_867
  let c128_i32_879 : BitVec 32 := 128#32
  let v2446 : BitVec 32 := Scalar.muli v2433 c128_i32_879
  v2446
def k0_mult23 (i : grid0.Coords) : BitVec 32 :=
  let arg1 : BitVec 32 := BitVec.ofNat 32 (i 1).val
  let c8_i32_865 : BitVec 32 := 8#32
  let v2430 : BitVec 32 := Scalar.muli arg1 c8_i32_865
  let c7_i32 : BitVec 32 := 7#32
  let v2431 : BitVec 32 := Scalar.addi v2430 c7_i32
  let c128_i32_882 : BitVec 32 := 128#32
  let v2451 : BitVec 32 := Scalar.muli v2431 c128_i32_882
  v2451
def k0_mult24 (i : grid0.Coords) : BitVec 32 :=
  let arg1 : BitVec 32 := BitVec.ofNat 32 (i 1).val
  let c8_i32_865 : BitVec 32 := 8#32
  let v2430 : BitVec 32 := Scalar.muli arg1 c8_i32_865
  let c7_i32 : BitVec 32 := 7#32
  let v2431 : BitVec 32 := Scalar.addi v2430 c7_i32
  let c1_i32_868 : BitVec 32 := 1#32
  let v2434 : BitVec 32 := Scalar.addi v2431 c1_i32_868
  let c15_i32_869 : BitVec 32 := 15#32
  let v2435 : BitVec 32 := Scalar.minsi v2434 c15_i32_869
  let c128_i32_885 : BitVec 32 := 128#32
  let v2456 : BitVec 32 := Scalar.muli v2435 c128_i32_885
  v2456
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S176x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x16x128x2x4x64 : Shape := ⟨6, ![8, 16, 128, 2, 4, 64]⟩
abbrev S_ : Shape := ⟨0, ![]⟩
abbrev S8x2304x2x64 : Shape := ⟨4, ![8, 2304, 2, 64]⟩
abbrev S8x18x128x2x64 : Shape := ⟨5, ![8, 18, 128, 2, 64]⟩
abbrev S8x16x128x2x64 : Shape := ⟨5, ![8, 16, 128, 2, 64]⟩
abbrev S8x16x384x2x64 : Shape := ⟨5, ![8, 16, 384, 2, 64]⟩
abbrev S8x16x2x384x128x4 : Shape := ⟨6, ![8, 16, 2, 384, 128, 4]⟩
abbrev S8x16x2x4x128x384 : Shape := ⟨6, ![8, 16, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S128x384 : Shape := ⟨2, ![128, 384]⟩
abbrev S1x128x384 : Shape := ⟨3, ![1, 128, 384]⟩
abbrev S16x128x384 : Shape := ⟨3, ![16, 128, 384]⟩
abbrev S1x16x1x1x128x384 : Shape := ⟨6, ![1, 16, 1, 1, 128, 384]⟩
abbrev S8x2x256x16x128x4 : Shape := ⟨6, ![8, 2, 256, 16, 128, 4]⟩
abbrev S8x16x2x4x128x256 : Shape := ⟨6, ![8, 16, 2, 4, 128, 256]⟩
abbrev S1x1x2x4x1x1 : Shape := ⟨6, ![1, 1, 2, 4, 1, 1]⟩
abbrev S8x16x2x4x128x1 : Shape := ⟨6, ![8, 16, 2, 4, 128, 1]⟩
abbrev S8x16x2x4x128x641 : Shape := ⟨6, ![8, 16, 2, 4, 128, 641]⟩
abbrev S8x16x2x4x128 : Shape := ⟨5, ![8, 16, 2, 4, 128]⟩
abbrev S8x16x2x64x4x128 : Shape := ⟨6, ![8, 16, 2, 64, 4, 128]⟩
abbrev S8x2x64x16x4x128 : Shape := ⟨6, ![8, 2, 64, 16, 4, 128]⟩
abbrev S8x2048x512 : Shape := ⟨3, ![8, 2048, 512]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x16x128x2x4x64, .f32⟩
  | .hbm, ⟨13, _⟩ => ⟨S_, .f32⟩
  | .hbm, ⟨14, _⟩ => ⟨S8x16x128x2x4x64, .f32⟩
  | .hbm, ⟨15, _⟩ => ⟨S8x16x128x2x4x64, .f32⟩
  | .hbm, ⟨16, _⟩ => ⟨S_, .i32⟩
  | .hbm, ⟨17, _⟩ => ⟨S_, .f32⟩
  | .hbm, ⟨18, _⟩ => ⟨S8x2304x2x64, .f32⟩
  | .hbm, ⟨19, _⟩ => ⟨S8x18x128x2x64, .f32⟩
  | .hbm, ⟨20, _⟩ => ⟨S8x16x128x2x64, .f32⟩
  | .hbm, ⟨21, _⟩ => ⟨S8x16x128x2x64, .f32⟩
  | .hbm, ⟨22, _⟩ => ⟨S8x16x128x2x64, .f32⟩
  | .hbm, ⟨23, _⟩ => ⟨S8x16x384x2x64, .f32⟩
  | .hbm, ⟨24, _⟩ => ⟨S_, .i32⟩
  | .hbm, ⟨25, _⟩ => ⟨S_, .f32⟩
  | .hbm, ⟨26, _⟩ => ⟨S8x2304x2x64, .f32⟩
  | .hbm, ⟨27, _⟩ => ⟨S8x18x128x2x64, .f32⟩
  | .hbm, ⟨28, _⟩ => ⟨S8x16x128x2x64, .f32⟩
  | .hbm, ⟨29, _⟩ => ⟨S8x16x128x2x64, .f32⟩
  | .hbm, ⟨30, _⟩ => ⟨S8x16x128x2x64, .f32⟩
  | .hbm, ⟨31, _⟩ => ⟨S8x16x384x2x64, .f32⟩
  | .hbm, ⟨32, _⟩ => ⟨S8x16x2x384x128x4, .f32⟩
  | .hbm, ⟨33, _⟩ => ⟨S8x16x2x4x128x384, .f32⟩
  | .hbm, ⟨34, _⟩ => ⟨S128, .i32⟩
  | .hbm, ⟨35, _⟩ => ⟨S128x1, .i32⟩
  | .hbm, ⟨36, _⟩ => ⟨S384, .i32⟩
  | .hbm, ⟨37, _⟩ => ⟨S1x384, .i32⟩
  | .hbm, ⟨38, _⟩ => ⟨S16, .i32⟩
  | .hbm, ⟨39, _⟩ => ⟨S16x1x1, .i32⟩
  | .hbm, ⟨40, _⟩ => ⟨S_, .i32⟩
  | .hbm, ⟨41, _⟩ => ⟨S16x1x1, .i32⟩
  | .hbm, ⟨42, _⟩ => ⟨S16x1x1, .i32⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S1x1x384, .i32⟩
  | .hbm, ⟨47, _⟩ => ⟨S16x1x384, .i32⟩
  | .hbm, ⟨48, _⟩ => ⟨S16x1x384, .i32⟩
  | .hbm, ⟨49, _⟩ => ⟨S16x1x384, .i32⟩
  | .hbm, ⟨50, _⟩ => ⟨S_, .i32⟩
  | .hbm, ⟨51, _⟩ => ⟨S1x384, .i32⟩
  | .hbm, ⟨52, _⟩ => ⟨S1x384, .i32⟩
  | .hbm, ⟨53, _⟩ => ⟨S128x384, .i32⟩
  | .hbm, ⟨54, _⟩ => ⟨S128x384, .i32⟩
  | .hbm, ⟨55, _⟩ => ⟨S128x384, .i32⟩
  | .hbm, ⟨56, _⟩ => ⟨S128x384, .i32⟩
  | .hbm, ⟨57, _⟩ => ⟨S_, .i32⟩
  | .hbm, ⟨58, _⟩ => ⟨S128x384, .i32⟩
  | .hbm, ⟨59, _⟩ => ⟨S128x384, .i1⟩
  | .hbm, ⟨60, _⟩ => ⟨S1x128x384, .i1⟩
  | .hbm, ⟨61, _⟩ => ⟨S_, .i32⟩
  | .hbm, ⟨62, _⟩ => ⟨S16x1x384, .i32⟩
  | .hbm, ⟨63, _⟩ => ⟨S16x1x384, .i1⟩
  | .hbm, ⟨64, _⟩ => ⟨S16x128x384, .i1⟩
  | .hbm, ⟨65, _⟩ => ⟨S16x128x384, .i1⟩
  | .hbm, ⟨66, _⟩ => ⟨S16x128x384, .i1⟩
  | .hbm, ⟨67, _⟩ => ⟨S_, .i32⟩
  | .hbm, ⟨68, _⟩ => ⟨S16x1x384, .i32⟩
  | .hbm, ⟨69, _⟩ => ⟨S16x1x384, .i1⟩
  | .hbm, ⟨70, _⟩ => ⟨S16x128x384, .i1⟩
  | .hbm, ⟨71, _⟩ => ⟨S16x128x384, .i1⟩
  | .hbm, ⟨72, _⟩ => ⟨S1x16x1x1x128x384, .i1⟩
  | .hbm, ⟨73, _⟩ => ⟨S_, .f32⟩
  | .hbm, ⟨74, _⟩ => ⟨S_, .f32⟩
  | .hbm, ⟨75, _⟩ => ⟨S8x16x2x4x128x384, .i1⟩
  | .hbm, ⟨76, _⟩ => ⟨S8x16x2x4x128x384, .f32⟩
  | .hbm, ⟨77, _⟩ => ⟨S8x16x2x4x128x384, .f32⟩
  | .hbm, ⟨78, _⟩ => ⟨S8x2x256x16x128x4, .f32⟩
  | .hbm, ⟨79, _⟩ => ⟨S8x16x2x4x128x256, .f32⟩
  | .hbm, ⟨80, _⟩ => ⟨S1x1x2x4x1x1, .f32⟩
  | .hbm, ⟨81, _⟩ => ⟨S8x16x2x4x128x1, .f32⟩
  | .hbm, ⟨82, _⟩ => ⟨S8x16x2x4x128x641, .f32⟩
  | .hbm, ⟨83, _⟩ => ⟨S_, .f32⟩
  | .hbm, ⟨84, _⟩ => ⟨S8x16x2x4x128, .f32⟩
  | .hbm, ⟨85, _⟩ => ⟨S_, .f32⟩
  | .hbm, ⟨86, _⟩ => ⟨S8x16x2x4x128, .f32⟩
  | .hbm, ⟨87, _⟩ => ⟨S8x16x2x4x128, .f32⟩
  | .hbm, ⟨88, _⟩ => ⟨S8x16x2x4x128x1, .f32⟩
  | .hbm, ⟨89, _⟩ => ⟨S8x16x2x4x128x641, .f32⟩
  | .hbm, ⟨90, _⟩ => ⟨S8x16x2x4x128x641, .f32⟩
  | .hbm, ⟨91, _⟩ => ⟨S8x16x2x4x128x641, .f32⟩
  | .hbm, ⟨92, _⟩ => ⟨S_, .f32⟩
  | .hbm, ⟨93, _⟩ => ⟨S8x16x2x4x128, .f32⟩
  | .hbm, ⟨94, _⟩ => ⟨S8x16x2x4x128x1, .f32⟩
  | .hbm, ⟨95, _⟩ => ⟨S8x16x2x4x128x641, .f32⟩
  | .hbm, ⟨96, _⟩ => ⟨S8x16x2x4x128x641, .f32⟩
  | .hbm, ⟨97, _⟩ => ⟨S8x16x2x4x128x384, .f32⟩
  | .hbm, ⟨98, _⟩ => ⟨S8x16x2x64x4x128, .f32⟩
  | .hbm, ⟨99, _⟩ => ⟨S8x16x128x2x4x64, .f32⟩
  | .hbm, ⟨100, _⟩ => ⟨S8x16x2x4x128x256, .f32⟩
  | .hbm, ⟨101, _⟩ => ⟨S8x2x64x16x4x128, .f32⟩
  | .hbm, ⟨102, _⟩ => ⟨S8x16x128x2x4x64, .f32⟩
  | .hbm, ⟨103, _⟩ => ⟨S8x16x128x2x4x64, .f32⟩
  | .hbm, ⟨104, _⟩ => ⟨S8x2048x512, .f32⟩
  | .hbm, ⟨105, _⟩ => ⟨S8x2048x512, .bf16⟩
  | .hbm, ⟨106, _⟩ => ⟨S512x1024, .bf16⟩
  | .hbm, ⟨107, _⟩ => ⟨S512x1024, .bf16⟩
  | .hbm, ⟨108, _⟩ => ⟨S1024x1024, .bf16⟩
  | .hbm, ⟨109, _⟩ => ⟨S1024x2816, .bf16⟩
  | .hbm, ⟨110, _⟩ => ⟨S1024x2816, .bf16⟩
  | .hbm, ⟨111, _⟩ => ⟨S2816x1024, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S8x6144 : Shape := ⟨2, ![8, 6144]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S16x6144 : Shape := ⟨2, ![16, 6144]⟩
abbrev S16x1x6144 : Shape := ⟨3, ![16, 1, 6144]⟩
abbrev S1x1024 : Shape := ⟨2, ![1, 1024]⟩
abbrev S1x512x1024 : Shape := ⟨3, ![1, 512, 1024]⟩
abbrev S1x512x512 : Shape := ⟨3, ![1, 512, 512]⟩
abbrev S1x512x2048 : Shape := ⟨3, ![1, 512, 2048]⟩
abbrev S1x1x6144 : Shape := ⟨3, ![1, 1, 6144]⟩
abbrev S1x1x1024 : Shape := ⟨3, ![1, 1, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 34
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x2048, .f32⟩
  | .hbm, ⟨4, _⟩ => ⟨S8x6144, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S_, .f32⟩
  | .hbm, ⟨13, _⟩ => ⟨S8x6144, .f32⟩
  | .hbm, ⟨14, _⟩ => ⟨S16x6144, .f32⟩
  | .hbm, ⟨15, _⟩ => ⟨S16x1x6144, .f32⟩
  | .hbm, ⟨16, _⟩ => ⟨S8x2048x512, .bf16⟩
  | .hbm, ⟨17, _⟩ => ⟨S8x2048x512, .bf16⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .bf16⟩
  | .hbm, ⟨26, _⟩ => ⟨S1x1024, .f32⟩
  | .hbm, ⟨27, _⟩ => ⟨S512x1024, .bf16⟩
  | .hbm, ⟨28, _⟩ => ⟨S512x1024, .bf16⟩
  | .hbm, ⟨29, _⟩ => ⟨S1024x1024, .bf16⟩
  | .hbm, ⟨30, _⟩ => ⟨S1024x2816, .bf16⟩
  | .hbm, ⟨31, _⟩ => ⟨S1024x2816, .bf16⟩
  | .hbm, ⟨32, _⟩ => ⟨S2816x1024, .bf16⟩
  | .hbm, ⟨33, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x512x1024, .f32⟩
  | .local _ .vmem, ⟨18, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S8x6144 : Shape := ⟨2, ![8, 6144]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x2048, .f32⟩
  | .hbm, ⟨4, _⟩ => ⟨S8x6144, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x2816, .f32⟩
  | .hbm, ⟨75, _⟩ => ⟨S8x2048x2816, .f32⟩
  | .hbm, ⟨76, _⟩ => ⟨S8x2048x2816, .f32⟩
  | .hbm, ⟨77, _⟩ => ⟨S_, .f32⟩
  | .hbm, ⟨78, _⟩ => ⟨S8x2048x2816, .f32⟩
  | .hbm, ⟨79, _⟩ => ⟨S8x2048x2816, .f32⟩
  | .hbm, ⟨80, _⟩ => ⟨S_, .f32⟩
  | .hbm, ⟨81, _⟩ => ⟨S8x2048x2816, .f32⟩
  | .hbm, ⟨82, _⟩ => ⟨S8x2048x2816, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1024x5376 : Shape := ⟨2, ![1024, 5376]⟩
abbrev S5376 : Shape := ⟨1, ![5376]⟩
abbrev S1x1024 : Shape := ⟨2, ![1, 1024]⟩
abbrev S1x6144 : Shape := ⟨2, ![1, 6144]⟩
abbrev S1x5376 : Shape := ⟨2, ![1, 5376]⟩
abbrev S16x1x6144 : Shape := ⟨3, ![16, 1, 6144]⟩
abbrev S1024x1024 : Shape := ⟨2, ![1024, 1024]⟩
abbrev S1024x896 : Shape := ⟨2, ![1024, 896]⟩
abbrev S1x896 : Shape := ⟨2, ![1, 896]⟩
abbrev S16x1x1024 : Shape := ⟨3, ![16, 1, 1024]⟩
abbrev S7x1024 : Shape := ⟨2, ![7, 1024]⟩
abbrev S16x1024 : Shape := ⟨2, ![16, 1024]⟩
abbrev S1x1x1024 : Shape := ⟨3, ![1, 1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1024x5376, .f32⟩
  | .hbm, ⟨5, _⟩ => ⟨S5376, .f32⟩
  | .hbm, ⟨6, _⟩ => ⟨S1x1024, .f32⟩
  | .hbm, ⟨7, _⟩ => ⟨S1x6144, .f32⟩
  | .hbm, ⟨8, _⟩ => ⟨S1x5376, .f32⟩
  | .hbm, ⟨9, _⟩ => ⟨S16x1x6144, .f32⟩
  | .hbm, ⟨10, _⟩ => ⟨S1024x5376, .bf16⟩
  | .local _ .vmem, ⟨0, _⟩ => ⟨S8x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x896, .f32⟩
  | .local _ .vmem, ⟨7, _⟩ => ⟨S1024x896, .f32⟩
  | .local _ .vmem, ⟨8, _⟩ => ⟨S1x896, .f32⟩
  | .local _ .vmem, ⟨9, _⟩ => ⟨S1x896, .f32⟩
  | .local _ .vmem, ⟨10, _⟩ => ⟨S16x1x1024, .f32⟩
  | .local _ .vmem, ⟨11, _⟩ => ⟨S16x1x1024, .f32⟩
  | .local _ .vmem, ⟨12, _⟩ => ⟨S1024x896, .bf16⟩
  | .local _ .vmem, ⟨13, _⟩ => ⟨S1024x896, .bf16⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ModRefIdeal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1024x5376 : Shape := ⟨2, ![1024, 5376]⟩
abbrev S5376 : Shape := ⟨1, ![5376]⟩
abbrev S_ : Shape := ⟨0, ![]⟩
abbrev S8x6144 : Shape := ⟨2, ![8, 6144]⟩
abbrev S1x6144 : Shape := ⟨2, ![1, 6144]⟩
abbrev S7x6144 : Shape := ⟨2, ![7, 6144]⟩
abbrev S16x6144 : Shape := ⟨2, ![16, 6144]⟩
abbrev S16x1x6144 : Shape := ⟨3, ![16, 1, 6144]⟩
abbrev S1x5376 : Shape := ⟨2, ![1, 5376]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1024x5376, .f32⟩
  | .hbm, ⟨5, _⟩ => ⟨S5376, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x6144, .f32⟩
  | .hbm, ⟨16, _⟩ => ⟨S1x6144, .f32⟩
  | .hbm, ⟨17, _⟩ => ⟨S8x6144, .f32⟩
  | .hbm, ⟨18, _⟩ => ⟨S8x6144, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S6144, .f32⟩
  | .hbm, ⟨29, _⟩ => ⟨S6144, .f32⟩
  | .hbm, ⟨30, _⟩ => ⟨S7x6144, .f32⟩
  | .hbm, ⟨31, _⟩ => ⟨S1x6144, .f32⟩
  | .hbm, ⟨32, _⟩ => ⟨S16x6144, .f32⟩
  | .hbm, ⟨33, _⟩ => ⟨S16x1x6144, .f32⟩
  | .hbm, ⟨34, _⟩ => ⟨S1x5376, .f32⟩
  | .hbm, ⟨35, _⟩ => ⟨S1024x5376, .f32⟩
  | .hbm, ⟨36, _⟩ => ⟨S1024x5376, .f32⟩
  | .hbm, ⟨37, _⟩ => ⟨S1024x5376, .bf16⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== Proj.lean ====
abbrev S8x2048x1024 : Shape := ⟨3, ![8, 2048, 1024]⟩
abbrev S8x6144 : Shape := ⟨2, ![8, 6144]⟩
abbrev S1024 : Shape := ⟨1, ![1024]⟩
abbrev S1024x5376 : Shape := ⟨2, ![1024, 5376]⟩
abbrev S2x2x512 : Shape := ⟨3, ![2, 2, 512]⟩
abbrev S64 : Shape := ⟨1, ![64]⟩
abbrev S2048x128 : Shape := ⟨2, ![2048, 128]⟩
abbrev S_ : Shape := ⟨0, ![]⟩
abbrev S768 : Shape := ⟨1, ![768]⟩
abbrev S512 : Shape := ⟨1, ![512]⟩
abbrev S2048 : Shape := ⟨1, ![2048]⟩
abbrev S1792 : Shape := ⟨1, ![1792]⟩
abbrev S2816 : Shape := ⟨1, ![2816]⟩
abbrev S3328 : Shape := ⟨1, ![3328]⟩
abbrev S5376 : Shape := ⟨1, ![5376]⟩
abbrev S16x6144 : Shape := ⟨2, ![16, 6144]⟩
abbrev S16x1x6144 : Shape := ⟨3, ![16, 1, 6144]⟩
abbrev S1x1024 : Shape := ⟨2, ![1, 1024]⟩
abbrev S1x5376 : Shape := ⟨2, ![1, 5376]⟩
abbrev S1x64 : Shape := ⟨2, ![1, 64]⟩
abbrev S8x2048x3072 : Shape := ⟨3, ![8, 2048, 3072]⟩
abbrev S8x64x1024 : Shape := ⟨3, ![8, 64, 1024]⟩
abbrev S8x16x512x128 : Shape := ⟨4, ![8, 16, 512, 128]⟩
abbrev S8x2048x512 : Shape := ⟨3, ![8, 2048, 512]⟩
abbrev S8x16x128x128 : Shape := ⟨4, ![8, 16, 128, 128]⟩
abbrev S8x2048x128 : Shape := ⟨3, ![8, 2048, 128]⟩
abbrev S8x2048x2048 : Shape := ⟨3, ![8, 2048, 2048]⟩
abbrev S1x256x1024 : Shape := ⟨3, ![1, 256, 1024]⟩
abbrev S1x1x6144 : Shape := ⟨3, ![1, 1, 6144]⟩
abbrev S256x128 : Shape := ⟨2, ![256, 128]⟩
abbrev S1x256x3072 : Shape := ⟨3, ![1, 256, 3072]⟩
abbrev S1x8x1024 : Shape := ⟨3, ![1, 8, 1024]⟩
abbrev S1x2x512x128 : Shape := ⟨4, ![1, 2, 512, 128]⟩
abbrev S1x256x512 : Shape := ⟨3, ![1, 256, 512]⟩
abbrev S1x2x128x128 : Shape := ⟨4, ![1, 2, 128, 128]⟩
abbrev S1x256x128 : Shape := ⟨3, ![1, 256, 128]⟩
abbrev S1x256x2048 : Shape := ⟨3, ![1, 256, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1x512 : Shape := ⟨3, ![1, 1, 512]⟩
abbrev S1x512 : Shape := ⟨2, ![1, 512]⟩
abbrev S1x128 : Shape := ⟨2, ![1, 128]⟩
abbrev S1024x512 : Shape := ⟨2, ![1024, 512]⟩
abbrev S256x512 : Shape := ⟨2, ![256, 512]⟩
abbrev S1024x256 : Shape := ⟨2, ![1024, 256]⟩
abbrev S256x256 : Shape := ⟨2, ![256, 256]⟩
abbrev S1x256 : Shape := ⟨2, ![1, 256]⟩
abbrev S8x4x8x256 : Shape := ⟨4, ![8, 4, 8, 256]⟩
abbrev S8x1x8x256 : Shape := ⟨4, ![8, 1, 8, 256]⟩
abbrev S8x3x8x256 : Shape := ⟨4, ![8, 3, 8, 256]⟩
abbrev S8x2x8x256 : Shape := ⟨4, ![8, 2, 8, 256]⟩
abbrev S8x32x256 : Shape := ⟨3, ![8, 32, 256]⟩
abbrev S8x1x256 : Shape := ⟨3, ![8, 1, 256]⟩
abbrev S8x256 : Shape := ⟨2, ![8, 256]⟩
abbrev S1x8x256 : Shape := ⟨3, ![1, 8, 256]⟩
abbrev S1x256x256 : Shape := ⟨3, ![1, 256, 256]⟩
abbrev S128x512 : Shape := ⟨2, ![128, 512]⟩
abbrev S512x128 : Shape := ⟨2, ![512, 128]⟩
abbrev S1x1x512x128 : Shape := ⟨4, ![1, 1, 512, 128]⟩
abbrev S128x128 : Shape := ⟨2, ![128, 128]⟩
abbrev S1x1x128x128 : Shape := ⟨4, ![1, 1, 128, 128]⟩

abbrev nBuf : Space → Nat
  | .hbm => 43
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x5376, .f32⟩
  | .hbm, ⟨4, _⟩ => ⟨S2x2x512, .f32⟩
  | .hbm, ⟨5, _⟩ => ⟨S64, .f32⟩
  | .hbm, ⟨6, _⟩ => ⟨S64, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S768, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S2048, .f32⟩
  | .hbm, ⟨19, _⟩ => ⟨S1792, .f32⟩
  | .hbm, ⟨20, _⟩ => ⟨S2816, .f32⟩
  | .hbm, ⟨21, _⟩ => ⟨S3328, .f32⟩
  | .hbm, ⟨22, _⟩ => ⟨S5376, .f32⟩
  | .hbm, ⟨23, _⟩ => ⟨S_, .f32⟩
  | .hbm, ⟨24, _⟩ => ⟨S8x6144, .f32⟩
  | .hbm, ⟨25, _⟩ => ⟨S16x6144, .f32⟩
  | .hbm, ⟨26, _⟩ => ⟨S16x1x6144, .f32⟩
  | .hbm, ⟨27, _⟩ => ⟨S1x1024, .f32⟩
  | .hbm, ⟨28, _⟩ => ⟨S1x5376, .f32⟩
  | .hbm, ⟨29, _⟩ => ⟨S1024x5376, .f32⟩
  | .hbm, ⟨30, _⟩ => ⟨S1024x5376, .f32⟩
  | .hbm, ⟨31, _⟩ => ⟨S1024x5376, .bf16⟩
  | .hbm, ⟨32, _⟩ => ⟨S1x64, .f32⟩
  | .hbm, ⟨33, _⟩ => ⟨S1x64, .f32⟩
  | .hbm, ⟨34, _⟩ => ⟨S8x2048x3072, .bf16⟩
  | .hbm, ⟨35, _⟩ => ⟨S8x64x1024, .f32⟩
  | .hbm, ⟨36, _⟩ => ⟨S8x16x512x128, .bf16⟩
  | .hbm, ⟨37, _⟩ => ⟨S8x2048x512, .bf16⟩
  | .hbm, ⟨38, _⟩ => ⟨S8x2048x512, .bf16⟩
  | .hbm, ⟨39, _⟩ => ⟨S8x2048x1024, .bf16⟩
  | .hbm, ⟨40, _⟩ => ⟨S8x16x128x128, .bf16⟩
  | .hbm, ⟨41, _⟩ => ⟨S8x2048x128, .bf16⟩
  | .hbm, ⟨42, _⟩ => ⟨S8x2048x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5376, .bf16⟩
  | .local _ .vmem, ⟨6, _⟩ => ⟨S2x2x512, .f32⟩
  | .local _ .vmem, ⟨7, _⟩ => ⟨S1x64, .f32⟩
  | .local _ .vmem, ⟨8, _⟩ => ⟨S1x64, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x256x3072, .bf16⟩
  | .local _ .vmem, ⟨14, _⟩ => ⟨S1x256x3072, .bf16⟩
  | .local _ .vmem, ⟨15, _⟩ => ⟨S1x8x1024, .f32⟩
  | .local _ .vmem, ⟨16, _⟩ => ⟨S1x8x1024, .f32⟩
  | .local _ .vmem, ⟨17, _⟩ => ⟨S1x2x512x128, .bf16⟩
  | .local _ .vmem, ⟨18, _⟩ => ⟨S1x2x512x128, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x2x128x128, .bf16⟩
  | .local _ .vmem, ⟨26, _⟩ => ⟨S1x2x128x128, .bf16⟩
  | .local _ .vmem, ⟨27, _⟩ => ⟨S1x256x128, .bf16⟩
  | .local _ .vmem, ⟨28, _⟩ => ⟨S1x256x128, .bf16⟩
  | .local _ .vmem, ⟨29, _⟩ => ⟨S1x256x2048, .bf16⟩
  | .local _ .vmem, ⟨30, _⟩ => ⟨S1x256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev main_v19_5 : Ref sig .tc := ⟨.hbm, 39, rfl⟩
abbrev main_v19_6 : Ref sig .tc := ⟨.hbm, 40, rfl⟩
abbrev main_v19_7 : Ref sig .tc := ⟨.hbm, 41, rfl⟩
abbrev main_v19_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S8x2048x1024 : Shape := ⟨3, ![8, 2048, 1024]⟩
abbrev S8x6144 : Shape := ⟨2, ![8, 6144]⟩
abbrev S1024 : Shape := ⟨1, ![1024]⟩
abbrev S1024x5376 : Shape := ⟨2, ![1024, 5376]⟩
abbrev S2x2x512 : Shape := ⟨3, ![2, 2, 512]⟩
abbrev S64 : Shape := ⟨1, ![64]⟩
abbrev S2048x128 : Shape := ⟨2, ![2048, 128]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5376 : Shape := ⟨3, ![8, 2048, 5376]⟩
abbrev S8x2048x512 : Shape := ⟨3, ![8, 2048, 512]⟩
abbrev S8x2048x128 : Shape := ⟨3, ![8, 2048, 128]⟩
abbrev S8x2048x2048 : Shape := ⟨3, ![8, 2048, 2048]⟩
abbrev S8x16x128x512 : Shape := ⟨4, ![8, 16, 128, 512]⟩
abbrev S8x16x512x128 : Shape := ⟨4, ![8, 16, 512, 128]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x5376, .f32⟩
  | .hbm, ⟨4, _⟩ => ⟨S2x2x512, .f32⟩
  | .hbm, ⟨5, _⟩ => ⟨S64, .f32⟩
  | .hbm, ⟨6, _⟩ => ⟨S64, .f32⟩
  | .hbm, ⟨7, _⟩ => ⟨S2048x128, .f32⟩
  | .hbm, ⟨8, _⟩ => ⟨S2048x128, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x5376, .f32⟩
  | .hbm, ⟨45, _⟩ => ⟨S8x2048x512, .f32⟩
  | .hbm, ⟨46, _⟩ => ⟨S8x2048x128, .f32⟩
  | .hbm, ⟨47, _⟩ => ⟨S8x2048x512, .f32⟩
  | .hbm, ⟨48, _⟩ => ⟨S8x2048x2048, .f32⟩
  | .hbm, ⟨49, _⟩ => ⟨S8x16x128x512, .f32⟩
  | .hbm, ⟨50, _⟩ => ⟨S8x16x512x128, .f32⟩
  | .hbm, ⟨51, _⟩ => ⟨S8x2048x512, .f32⟩
  | .hbm, ⟨52, _⟩ => ⟨S8x2048x512, .f32⟩
  | .hbm, ⟨53, _⟩ => ⟨S_, .f32⟩
  | .hbm, ⟨54, _⟩ => ⟨S8x2048x512, .f32⟩
  | .hbm, ⟨55, _⟩ => ⟨S8x2048x512, .f32⟩
  | .hbm, ⟨56, _⟩ => ⟨S_, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048x2048, .f32⟩
  | .hbm, ⟨70, _⟩ => ⟨S8x2048x2048, .f32⟩
  | .hbm, ⟨71, _⟩ => ⟨S8x16x512x128, .bf16⟩
  | .hbm, ⟨72, _⟩ => ⟨S8x2048x512, .bf16⟩
  | .hbm, ⟨73, _⟩ => ⟨S8x2048x512, .bf16⟩
  | .hbm, ⟨74, _⟩ => ⟨S8x2048x128, .bf16⟩
  | .hbm, ⟨75, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.AttnTile.lean ====
/- The attention kernel's stores: every piece of the block that a grid point writes is one function of the loads. -/
module

public import proofs.«01_k».proof.Proof.Gen.AttnIdeal.Value
public import Idealize.ShloMosaic.Lib.Pipeline.ValueKit
public import Idealize.ShloMosaic.Lib.Pointwise
public import Idealize.ShloMosaic.Lib.Claim

@[expose] public section

set_option maxRecDepth 16384

noncomputable section

namespace Cert.AttnIdeal.Tile

open Cert.AttnIdeal Cert.AttnIdeal.Gen Idealize.ShloMosaic Idealize.ShloMosaic.TcCoe Idealize.SL.Sem

/-- The previous block's keys that the band admits. -/
def before (w : BitVec 32) : IVec S128x128 1 :=
  andi (cmpi .sge (iota .tc S128x128 32 [1] iota_S128x128_d1_w32) (iota .tc S128x128 32 [0] iota_S128x128_d0_w32))
    (broadcast S128x128 (Scalar.cmpi .sgt w 0#32))

/-- The next block's keys that the band admits. -/
def after (w : BitVec 32) : IVec S128x128 1 :=
  andi (cmpi .sle (iota .tc S128x128 32 [1] iota_S128x128_d1_w32) (iota .tc S128x128 32 [0] iota_S128x128_d0_w32))
    (broadcast S128x128 (Scalar.cmpi .slt w 15#32))

/-- One page of 128 tokens' keys. -/
abbrev KeyPage := Vec Ideal S1x1x128x128 .bf16

/-- One page of 128 tokens' values, or one head's queries of a block. -/
abbrev Page := Vec Ideal S1x128x128 .bf16

/-- The band's keys, one column each: three blocks of tokens and the context. -/
def keys (k1 k2 k3 k4 k5 : KeyPage) : FVec Ideal S128x640 .bf16 :=
  concatenate S128x640 1
    [⟨S128x128, shapeCast S128x128 k1 shapeCasts_S1x1x128x128_S128x128⟩,
      ⟨S128x128, shapeCast S128x128 k2 shapeCasts_S1x1x128x128_S128x128⟩,
      ⟨S128x128, shapeCast S128x128 k3 shapeCasts_S1x1x128x128_S128x128⟩,
      ⟨S128x128, shapeCast S128x128 k4 shapeCasts_S1x1x128x128_S128x128⟩,
      ⟨S128x128, shapeCast S128x128 k5 shapeCasts_S1x1x128x128_S128x128⟩]
    concatenates_S128x128_S128x128_S128x128_S128x128_S128x128_S128x640_d1

/-- The band's values, one row each. -/
def vals (v1 v2 v3 : Page) (v4 : Vec Ideal S1x256x128 .bf16) : FVec Ideal S640x128 .bf16 :=
  concatenate S640x128 0
    [⟨S128x128, shapeCast S128x128 v1 shapeCasts_S1x128x128_S128x128⟩,
      ⟨S128x128, shapeCast S128x128 v2 shapeCasts_S1x128x128_S128x128⟩,
      ⟨S128x128, shapeCast S128x128 v3 shapeCasts_S1x128x128_S128x128⟩,
      ⟨S256x128, shapeCast S256x128 v4 shapeCasts_S1x256x128_S256x128⟩]
    concatenates_S128x128_S128x128_S128x128_S256x128_S640x128_d0

/-- The values beside a block of ones. -/
def valsOnes (v : FVec Ideal S640x128 .bf16) : FVec Ideal S640x256 .bf16 :=
  concatenate S640x256 1 [⟨S640x128, v⟩, ⟨S640x128, broadcast S640x128 (Scalar.ofBits .bf16 0x3F80#16)⟩]
    concatenates_S640x128_S640x128_S640x256_d1

/-- The scores of two heads, one under the other. -/
def scores (k : FVec Ideal S128x640 .bf16) (qe qo : Page) : FVec Ideal S256x640 .f32 :=
  matmul (φ₁ := .bf16) dot_S256x128_S128x640_S256x640_1_0_0_1_n_n none
    (concatenate (α := Ideal .bf16) S256x128 0 [⟨S128x128, shapeCast S128x128 qe shapeCasts_S1x128x128_S128x128⟩,
      ⟨S128x128, shapeCast S128x128 qo shapeCasts_S1x128x128_S128x128⟩] concatenates_S128x128_S128x128_S256x128_d0) k
    (constant S256x640 .f32 0x00000000#32)

/-- The scores with the keys outside the band masked. -/
def masked (w : BitVec 32) (s : FVec Ideal S128x640 .f32) : FVec Ideal S128x640 .f32 :=
  concatenate S128x640 1
    [⟨S128x128, select (before w) (extractStridedSlice S128x128 ![0, 0] s slices_S128x640_o0_0_S128x128)
        (broadcast S128x128 (Named.named κ "mask" 0xF149F2CA#32))⟩,
      ⟨S128x128, extractStridedSlice S128x128 ![0, 128] s slices_S128x640_o0_128_S128x128⟩,
      ⟨S128x128, select (after w) (extractStridedSlice S128x128 ![0, 256] s slices_S128x640_o0_256_S128x128)
        (broadcast S128x128 (Named.named κ "mask" 0xF149F2CA#32))⟩,
      ⟨S128x256, extractStridedSlice S128x256 ![0, 384] s slices_S128x640_o0_384_S128x256⟩]
    concatenates_S128x128_S128x128_S128x128_S128x256_S128x640_d1

/-- A head's sink, in base 2. -/
def sink (a : Vec Ideal S1 .f32) : Ideal .f32 :=
  Scalar.mulf (a (Shape.Idx.first (s := S1) (by decide))) (Named.named κ "log2e" 0x3FB8AA3B#32)

/-- The greatest score of each row, the sink among them. -/
def top (s : FVec Ideal S128x640 .f32) (a : Ideal .f32) : FVec Ideal S128x1 .f32 :=
  maximumf (shapeCast S128x1 (multiReduction .maximumf [1] S128 s 0xFF800000#32 reduces_S128x640_S128 (.inl rfl) rfl) shapeCasts_S128_S128x1)
    (broadcast S128x1 a)

/-- The weights of the keys, not yet divided. -/
def weights (s : FVec Ideal S128x640 .f32) (a : Ideal .f32) : FVec Ideal S128x640 .bf16 :=
  truncf .bf16 (exp2 (subf s (broadcastTo S128x640 (top s a) broadcasts_S128x1_S128x640))) bitsLt_bf16_f32

/-- The weight of the sink, not yet divided. -/
def sinkWeight (s : FVec Ideal S128x640 .f32) (a : Ideal .f32) : FVec Ideal S128x1 .f32 :=
  exp2 (subf (broadcast S128x1 a) (top s a))

/-- The weighted values of two heads, one under the other, with the weights' sums beside them. -/
def mixed (v : FVec Ideal S640x128 .bf16) (pe po : FVec Ideal S128x640 .bf16) : FVec Ideal S256x256 .f32 :=
  matmul dot_S256x640_S640x256_S256x256_1_0_0_1_n_n none
    (concatenate S256x640 0 [⟨S128x640, pe⟩, ⟨S128x640, po⟩] concatenates_S128x640_S128x640_S256x640_d0) (valsOnes v)
    (constant S256x256 .f32 0x00000000#32)

/-- The even head's rows of `mixed`, divided. -/
def even (z : FVec Ideal S256x256 .f32) (b : FVec Ideal S128x1 .f32) : FVec Ideal S128x128 .f32 :=
  divf (extractStridedSlice S128x128 ![0, 0] z slices_S256x256_o0_0_S128x128)
    (addf (extractStridedSlice S128x128 ![0, 128] z slices_S256x256_o0_128_S128x128) (broadcastTo S128x128 b broadcasts_S128x1_S128x128))

/-- The odd head's rows of `mixed`, divided. -/
def odd (z : FVec Ideal S256x256 .f32) (b : FVec Ideal S128x1 .f32) : FVec Ideal S128x128 .f32 :=
  divf (extractStridedSlice S128x128 ![128, 0] z slices_S256x256_o128_0_S128x128)
    (addf (extractStridedSlice S128x128 ![128, 128] z slices_S256x256_o128_128_S128x128) (broadcastTo S128x128 b broadcasts_S128x1_S128x128))

/-- The lanes of the left head. -/
def left : IVec S128x128 1 := cmpi .slt (iota .tc S128x128 32 [1] iota_S128x128_d1_w32) (broadcast S128x128 64#32)

/-- Two heads of the first key head side by side. -/
def joinLo (e o : FVec Ideal S128x128 .f32) : FVec Ideal S1x128x128 .bf16 :=
  shapeCast S1x128x128 (truncf .bf16 (select left e (dynamicRotate 1 64#32 none o rotates_S128x128_d1)) bitsLt_bf16_f32)
    shapeCasts_S128x128_S1x128x128

/-- Two heads of the second key head side by side. -/
def joinHi (e o : FVec Ideal S128x128 .f32) : FVec Ideal S1x128x128 .bf16 :=
  shapeCast S1x128x128 (truncf .bf16 (select left (dynamicRotate 1 64#32 none e rotates_S128x128_d1) o) bitsLt_bf16_f32)
    shapeCasts_S128x128_S1x128x128

/-- The masked scores of the even head of a pair. -/
def scoresE (w : BitVec 32) (z : FVec Ideal S256x640 .f32) : FVec Ideal S128x640 .f32 :=
  masked w (extractStridedSlice S128x640 ![0, 0] z slices_S256x640_o0_0_S128x640)

/-- The masked scores of the odd head of a pair. -/
def scoresO (w : BitVec 32) (z : FVec Ideal S256x640 .f32) : FVec Ideal S128x640 .f32 :=
  masked w (extractStridedSlice S128x640 ![128, 0] z slices_S256x640_o128_0_S128x640)

/-- One stored tile of the first key head, from its block's number, the loads of keys and values, its two heads' queries and sinks. -/
def tileLo (w : BitVec 32) (k1 k2 k3 k4 k5 : KeyPage) (v1 v2 v3 : Page) (v4 : Vec Ideal S1x256x128 .bf16) (qe qo : Page)
    (ae ao : Vec Ideal S1 .f32) : FVec Ideal S1x128x128 .bf16 :=
  let z := scores (keys k1 k2 k3 k4 k5) qe qo
  let se := scoresE w z
  let so := scoresO w z
  let y := mixed (vals v1 v2 v3 v4) (weights se (sink ae)) (weights so (sink ao))
  joinLo (even y (sinkWeight se (sink ae))) (odd y (sinkWeight so (sink ao)))

/-- One stored tile of the second key head, from its block's number, the loads of keys and values, its two heads' queries and sinks. -/
def tileHi (w : BitVec 32) (k1 k2 k3 k4 k5 : KeyPage) (v1 v2 v3 : Page) (v4 : Vec Ideal S1x256x128 .bf16) (qe qo : Page)
    (ae ao : Vec Ideal S1 .f32) : FVec Ideal S1x128x128 .bf16 :=
  let z := scores (keys k1 k2 k3 k4 k5) qe qo
  let se := scoresE w z
  let so := scoresO w z
  let y := mixed (vals v1 v2 v3 v4) (weights se (sink ae)) (weights so (sink ao))
  joinHi (even y (sinkWeight se (sink ae))) (odd y (sinkWeight so (sink ao)))

/-- The query block's number in its sequence, as a word. -/
def word (i : grid0.Coords) (u : Fin 8) : BitVec 32 :=
  Scalar.addi (Scalar.muli (BitVec.ofNat 32 (i 1).val) 8#32) (BitVec.ofNat 32 u.val)

/-- The even head's queries of a pair lie in the block. -/
theorem inb_even (u : Fin 8) (g : Fin 4) : ∀ a, (![0, 128 * u.val, 256 * g.val] : Fin 3 → ℕ) a + (![1, 128, 128] : Fin 3 → ℕ) a ≤ S1x1024x1024.size a := by
  decide +revert

/-- The odd head's queries of a pair lie in the block. -/
theorem inb_odd (u : Fin 8) (g : Fin 4) : ∀ a, (![0, 128 * u.val, 256 * g.val + 128] : Fin 3 → ℕ) a + (![1, 128, 128] : Fin 3 → ℕ) a ≤ S1x1024x1024.size a := by
  decide +revert

/-- The even head's sink of a pair is one of the eight. -/
theorem inb_sink (g : Fin 4) : ∀ a, (![2 * g.val] : Fin 1 → ℕ) a + (![1] : Fin 1 → ℕ) a ≤ S8.size a := by decide +revert

/-- The odd head's sink of a pair is one of the eight. -/
theorem inb_sink' (g : Fin 4) : ∀ a, (![2 * g.val + 1] : Fin 1 → ℕ) a + (![1] : Fin 1 → ℕ) a ≤ S8.size a := by decide +revert

/-- The tile of the first key head that block `u` and the pair `g` of heads store, from the blocks the windows show. -/
def blockLo (i : grid0.Coords) (x0 : Vec Ideal S8 .f32) (x1 : Vec Ideal S1x1024x1024 .bf16) (x2 : Vec Ideal S1x16x128x128 .bf16)
    (x3 : Vec Ideal S1x2x128x128 .bf16) (x4 : Vec Ideal S1x2048x128 .bf16) (x5 : Vec Ideal S1x256x128 .bf16) (u : Fin 8) (g : Fin 4) :
    FVec Ideal S1x128x128 .bf16 :=
  tileLo (word i u)
    (View.ld x2 (Rect.unit (s := S1x16x128x128) (k0_off1 i (BitVec.ofNat 32 u.val)) ![1, 1, 128, 128] (k0_off1_inb i u)))
    (View.ld x2 (Rect.unit (s := S1x16x128x128) (k0_off2 i (BitVec.ofNat 32 u.val)) ![1, 1, 128, 128] (k0_off2_inb i u)))
    (View.ld x2 (Rect.unit (s := S1x16x128x128) (k0_off3 i (BitVec.ofNat 32 u.val)) ![1, 1, 128, 128] (k0_off3_inb i u)))
    (View.ld x3 (Rect.unit (s := S1x2x128x128) ![0, 0, 0, 0] ![1, 1, 128, 128] inb_S1x2x128x128_S1x1x128x128_0_0_0_0))
    (View.ld x3 (Rect.unit (s := S1x2x128x128) ![0, 1, 0, 0] ![1, 1, 128, 128] inb_S1x2x128x128_S1x1x128x128_0_1_0_0))
    (View.ld x4 (Rect.unit (s := S1x2048x128) (k0_off4 i (BitVec.ofNat 32 u.val)) ![1, 128, 128] (k0_off4_inb i u)))
    (View.ld x4 (Rect.unit (s := S1x2048x128) (k0_off5 i (BitVec.ofNat 32 u.val)) ![1, 128, 128] (k0_off5_inb i u)))
    (View.ld x4 (Rect.unit (s := S1x2048x128) (k0_off6 i (BitVec.ofNat 32 u.val)) ![1, 128, 128] (k0_off6_inb i u))) x5
    (View.ld x1 (Rect.unit (s := S1x1024x1024) ![0, 128 * u.val, 256 * g.val] ![1, 128, 128] (inb_even u g)))
    (View.ld x1 (Rect.unit (s := S1x1024x1024) ![0, 128 * u.val, 256 * g.val + 128] ![1, 128, 128] (inb_odd u g)))
    (View.ld x0 (Rect.unit (s := S8) ![2 * g.val] ![1] (inb_sink g)))
    (View.ld x0 (Rect.unit (s := S8) ![2 * g.val + 1] ![1] (inb_sink' g)))

/-- The tile of the second key head that block `u` and the pair `g` of heads store, from the blocks the windows show. -/
def blockHi (i : grid0.Coords) (x0 : Vec Ideal S8 .f32) (x1 : Vec Ideal S1x1024x1024 .bf16) (x2 : Vec Ideal S1x16x128x128 .bf16)
    (x3 : Vec Ideal S1x2x128x128 .bf16) (x4 : Vec Ideal S1x2048x128 .bf16) (x5 : Vec Ideal S1x256x128 .bf16) (u : Fin 8) (g : Fin 4) :
    FVec Ideal S1x128x128 .bf16 :=
  tileHi (word i u)
    (View.ld x2 (Rect.unit (s := S1x16x128x128) (k0_off1 i (BitVec.ofNat 32 u.val)) ![1, 1, 128, 128] (k0_off1_inb i u)))
    (View.ld x2 (Rect.unit (s := S1x16x128x128) (k0_off2 i (BitVec.ofNat 32 u.val)) ![1, 1, 128, 128] (k0_off2_inb i u)))
    (View.ld x2 (Rect.unit (s := S1x16x128x128) (k0_off3 i (BitVec.ofNat 32 u.val)) ![1, 1, 128, 128] (k0_off3_inb i u)))
    (View.ld x3 (Rect.unit (s := S1x2x128x128) ![0, 0, 0, 0] ![1, 1, 128, 128] inb_S1x2x128x128_S1x1x128x128_0_0_0_0))
    (View.ld x3 (Rect.unit (s := S1x2x128x128) ![0, 1, 0, 0] ![1, 1, 128, 128] inb_S1x2x128x128_S1x1x128x128_0_1_0_0))
    (View.ld x4 (Rect.unit (s := S1x2048x128) (k0_off4 i (BitVec.ofNat 32 u.val)) ![1, 128, 128] (k0_off4_inb i u)))
    (View.ld x4 (Rect.unit (s := S1x2048x128) (k0_off5 i (BitVec.ofNat 32 u.val)) ![1, 128, 128] (k0_off5_inb i u)))
    (View.ld x4 (Rect.unit (s := S1x2048x128) (k0_off6 i (BitVec.ofNat 32 u.val)) ![1, 128, 128] (k0_off6_inb i u))) x5
    (View.ld x1 (Rect.unit (s := S1x1024x1024) ![0, 128 * u.val, 256 * g.val] ![1, 128, 128] (inb_even u g)))
    (View.ld x1 (Rect.unit (s := S1x1024x1024) ![0, 128 * u.val, 256 * g.val + 128] ![1, 128, 128] (inb_odd u g)))
    (View.ld x0 (Rect.unit (s := S8) ![2 * g.val] ![1] (inb_sink g)))
    (View.ld x0 (Rect.unit (s := S8) ![2 * g.val + 1] ![1] (inb_sink' g)))

/-- The block's value at an index, by the tile that the index lies in. -/
def cell (i : grid0.Coords) (x0 : Vec Ideal S8 .f32) (x1 : Vec Ideal S1x1024x1024 .bf16) (x2 : Vec Ideal S1x16x128x128 .bf16)
    (x3 : Vec Ideal S1x2x128x128 .bf16) (x4 : Vec Ideal S1x2048x128 .bf16) (x5 : Vec Ideal S1x256x128 .bf16) (u : Fin 8) (g : Fin 4)
    (x : S1x128x128.Idx) : EReal :=
  if g.val < 2 then blockLo i x0 x1 x2 x3 x4 x5 u g x else blockHi i x0 x1 x2 x3 x4 x5 u g x

/-- The row tile of an index of the block. -/
def rowTile (y : S1x1024x512.Idx) : Fin 8 := ⟨(y 1).val / 128, Nat.div_lt_of_lt_mul (y 1).isLt⟩

/-- The column tile of an index of the block. -/
def colTile (y : S1x1024x512.Idx) : Fin 4 := ⟨(y 2).val / 128, Nat.div_lt_of_lt_mul (y 2).isLt⟩

/-- The place of an index of the block within its tile. -/
def within (y : S1x1024x512.Idx) : S1x128x128.Idx :=
  ix3 0 ⟨(y 1).val % 128, Nat.mod_lt _ (by decide)⟩ ⟨(y 2).val % 128, Nat.mod_lt _ (by decide)⟩

/-- An index at a place of a tile has that tile and that place. -/
theorem place (y : S1x1024x512.Idx) (u : Fin 8) (g : Fin 4) (x : S1x128x128.Idx) (h1 : (y 1).val = 128 * u.val + (x 1).val)
    (h2 : (y 2).val = 128 * g.val + (x 2).val) : rowTile y = u ∧ colTile y = g ∧ within y = x := by
  obtain ⟨a, p, q, rfl⟩ : ∃ (a : Fin 1) (p q : Fin 128), x = ix3 a p q := ⟨x 0, x 1, x 2, eq_ix3 x⟩
  obtain rfl : a = 0 := Subsingleton.elim _ _
  have h1' : (y 1).val = 128 * u.val + p.val := h1
  have h2' : (y 2).val = 128 * g.val + q.val := h2
  refine ⟨Fin.ext ?_, Fin.ext ?_, ?_⟩
  · show (y 1).val / 128 = u.val; omega
  · show (y 2).val / 128 = g.val; omega
  · have e1 : (⟨(y 1).val % 128, Nat.mod_lt _ (by decide)⟩ : Fin 128) = p := Fin.ext (by show (y 1).val % 128 = p.val; omega)
    have e2 : (⟨(y 2).val % 128, Nat.mod_lt _ (by decide)⟩ : Fin 128) = q := Fin.ext (by show (y 2).val % 128 = q.val; omega)
    unfold within
    rw [e1, e2]

/-- The block at a place of a tile of the first key head. -/
theorem cell_lo {i x0 x1 x2 x3 x4 x5} {y : S1x1024x512.Idx} {u : Fin 8} {g : Fin 4} {x : S1x128x128.Idx} {r : EReal}
    (h1 : (y 1).val = 128 * u.val + (x 1).val) (h2 : (y 2).val = 128 * g.val + (x 2).val) (hg : g.val < 2)
    (h : r = blockLo i x0 x1 x2 x3 x4 x5 u g x) : r = cell i x0 x1 x2 x3 x4 x5 (rowTile y) (colTile y) (within y) := by
  obtain ⟨e1, e2, e3⟩ := place y u g x h1 h2
  rw [e1, e2, e3]; unfold cell; rw [if_pos hg]; exact h

/-- The block at a place of a tile of the second key head. -/
theorem cell_hi {i x0 x1 x2 x3 x4 x5} {y : S1x1024x512.Idx} {u : Fin 8} {g : Fin 4} {x : S1x128x128.Idx} {r : EReal}
    (h1 : (y 1).val = 128 * u.val + (x 1).val) (h2 : (y 2).val = 128 * g.val + (x 2).val) (hg : ¬ g.val < 2)
    (h : r = blockHi i x0 x1 x2 x3 x4 x5 u g x) : r = cell i x0 x1 x2 x3 x4 x5 (rowTile y) (colTile y) (within y) := by
  obtain ⟨e1, e2, e3⟩ := place y u g x h1 h2
  rw [e1, e2, e3]; unfold cell; rw [if_neg hg]; exact h

end Cert.AttnIdeal.Tile

end
-- ==== Proof.AttnSpec.lean ====
/- One row of windowed attention over the extended reals: the softmax over the seen keys and a sink, by exact weights. -/
module

public import Idealize.ShloMosaic.Lib.Pointwise

@[expose] public section

noncomputable section

namespace Cert.AttnSpec

open Idealize.ShloMosaic

/-- Whether row `p` of block `n` sees band position `j`: a token of the sequence within 128 of the row, or a context token. The
    band is the previous block, the block, the next block, and the context. -/
def seen (n : ℕ) (p : Fin 128) (j : Fin 640) : Prop :=
  384 ≤ j.val ∨ (p.val ≤ j.val ∧ j.val ≤ p.val + 256 ∧ 128 ≤ 128 * n + j.val ∧ 128 * n + j.val < 2176)

instance (n : ℕ) (p : Fin 128) : DecidablePred (seen n p) := fun j => by unfold seen; infer_instance

variable {ι : Type} [Fintype ι]

/-- A key's exponential, none where the key is not seen. -/
def mass (seen : ι → Prop) [DecidablePred seen] (l : ι → ℝ) (j : ι) : ℝ := if seen j then Real.exp (l j) else 0

/-- A key's weight: its exponential among those of the seen keys and the sink's. -/
def weight (seen : ι → Prop) [DecidablePred seen] (l : ι → ℝ) (s : ℝ) (j : ι) : ℝ :=
  mass seen l j / (∑ k, mass seen l k + Real.exp s)

/-- A row of attention: the values by their weights. -/
def row (seen : ι → Prop) [DecidablePred seen] (l : ι → ℝ) (s : ℝ) (v : ι → EReal) : EReal :=
  ∑ j, ((weight seen l s j : ℝ) : EReal) * v j

/-- An exponential is not negative. -/
theorem mass_nonneg (seen : ι → Prop) [DecidablePred seen] (l : ι → ℝ) (j : ι) : 0 ≤ mass seen l j := by
  unfold mass; split
  · exact (Real.exp_pos _).le
  · exact le_rfl

/-- The exponentials' sum with the sink's is positive. -/
theorem total_pos (seen : ι → Prop) [DecidablePred seen] (l : ι → ℝ) (s : ℝ) : 0 < ∑ k, mass seen l k + Real.exp s :=
  add_pos_of_nonneg_of_pos (Finset.sum_nonneg fun j _ => mass_nonneg seen l j) (Real.exp_pos s)

/-- A row does not depend on the values of keys that are not seen. -/
theorem row_congr (seen : ι → Prop) [DecidablePred seen] (l l' : ι → ℝ) (s : ℝ) (v v' : ι → EReal)
    (hl : ∀ j, seen j → l j = l' j) (hv : ∀ j, seen j → v j = v' j) : row seen l s v = row seen l' s v' := by
  have hm : mass seen l = mass seen l' := by
    funext j; unfold mass; split
    · rw [hl j ‹_›]
    · rfl
  unfold row weight
  rw [hm]
  refine Finset.sum_congr rfl fun j _ => ?_
  by_cases h : seen j
  · rw [hv j h]
  · simp [mass, h]

/-- A sum of real numbers is their sum. -/
theorem coe_sum (f : ι → ℝ) : ∑ j, ((f j : ℝ) : EReal) = ((∑ j, f j : ℝ) : EReal) := by
  classical
  induction (Finset.univ : Finset ι) using Finset.induction_on with
  | empty => simp
  | insert a t ha ih => rw [Finset.sum_insert ha, Finset.sum_insert ha, ih, EReal.coe_add]

/-- A nonnegative real factor goes into a sum. -/
theorem sum_mul_coe (f : ι → EReal) (r : ℝ) (hr : 0 ≤ r) : (∑ j, f j) * (r : EReal) = ∑ j, f j * (r : EReal) := by
  classical
  induction (Finset.univ : Finset ι) using Finset.induction_on with
  | empty => simp
  | insert a t ha ih =>
    rw [Finset.sum_insert ha, Finset.sum_insert ha, ← ih,
      EReal.right_distrib_of_nonneg_of_ne_top (EReal.coe_nonneg.mpr hr) (EReal.coe_ne_top r)]

/-- The greatest of finitely many scores, none of them infinite above, and of a real number is a real number. -/
theorem top_real (t : ι → EReal) (ht : ∀ j, t j ≠ ⊤) (a : ℝ) : ∃ M : ℝ, max (Finset.fold max ⊥ t Finset.univ) (a : EReal) = M := by
  classical
  have h1 : Finset.fold max ⊥ t Finset.univ ≠ ⊤ := by
    induction (Finset.univ : Finset ι) using Finset.induction_on with
    | empty => simp
    | insert b u hb ih =>
      rw [Finset.fold_insert hb]
      rcases max_choice (t b) (Finset.fold max ⊥ t u) with h | h <;> rw [h]
      · exact ht b
      · exact ih
  have h2 : max (Finset.fold max ⊥ t Finset.univ) (a : EReal) ≠ ⊤ := by
    rcases max_choice (Finset.fold max ⊥ t Finset.univ) (a : EReal) with h | h <;> rw [h]
    · exact h1
    · exact EReal.coe_ne_top a
  have h3 : max (Finset.fold max ⊥ t Finset.univ) (a : EReal) ≠ ⊥ :=
    ne_of_gt (lt_of_lt_of_le (EReal.bot_lt_coe a) (le_max_right _ _))
  exact ⟨_, (EReal.coe_toReal h2 h3).symm⟩

/-- The quotient of two sums of exponentials by one common shift is the row. -/
theorem quotient (seen : ι → Prop) [DecidablePred seen] (l : ι → ℝ) (s : ℝ) (v : ι → EReal) (e : ι → EReal) (b : EReal) (κ : ℝ)
    (hκ : 0 < κ) (he : ∀ j, e j = ((mass seen l j * κ : ℝ) : EReal)) (hb : b = ((Real.exp s * κ : ℝ) : EReal)) :
    Ideal.div (∑ j, e j * v j) (∑ j, e j * 1 + b) = row seen l s v := by
  have hd : ∑ j, e j * 1 + b = (((∑ k, mass seen l k + Real.exp s) * κ : ℝ) : EReal) := by
    simp only [mul_one, he, hb]
    rw [coe_sum, ← EReal.coe_add, ← Finset.sum_mul, add_mul]
  have hp := total_pos seen l s
  rw [hd, Ideal.div_coe (by positivity), sum_mul_coe _ _ (by positivity)]
  unfold row
  refine Finset.sum_congr rfl fun j _ => ?_
  rw [he, mul_right_comm, ← EReal.coe_mul]
  congr 2
  unfold weight
  field_simp

/-- A score in base 2 less a real number, raised: the exponential by one factor. -/
theorem exp2_shift (l M : ℝ) : Ideal.exp2 (((l * (Real.log 2)⁻¹ : ℝ) : EReal) - (M : EReal))
    = ((Real.exp l * Real.exp (-(M * Real.log 2)) : ℝ) : EReal) := by
  rw [← EReal.coe_sub, Ideal.exp2_coe]
  congr 1
  have h : Real.log 2 ≠ 0 := (Real.log_pos (by norm_num)).ne'
  show (2 : ℝ) ^ (l * (Real.log 2)⁻¹ - M) = _
  rw [Real.rpow_def_of_pos (by norm_num), ← Real.exp_add]
  congr 1
  field_simp
  ring

/-- The kernel's row, from scores and a sink in base 2 and any values at the keys that are not seen. -/
theorem kernel_row (seen : ι → Prop) [DecidablePred seen] (l : ι → ℝ) (s : ℝ) (v : ι → EReal) (t : ι → EReal) (a : EReal)
    (ht : ∀ j, t j = if seen j then ((l j * (Real.log 2)⁻¹ : ℝ) : EReal) else ⊥) (ha : a = ((s * (Real.log 2)⁻¹ : ℝ) : EReal)) :
    Ideal.div (∑ j, Ideal.exp2 (t j - max (Finset.fold max ⊥ t Finset.univ) a) * v j)
      (∑ j, Ideal.exp2 (t j - max (Finset.fold max ⊥ t Finset.univ) a) * 1
        + Ideal.exp2 (a - max (Finset.fold max ⊥ t Finset.univ) a)) = row seen l s v := by
  obtain ⟨M, hM⟩ := top_real t (fun j => by rw [ht]; split; exacts [EReal.coe_ne_top _, bot_ne_top]) (s * (Real.log 2)⁻¹)
  rw [← ha] at hM
  rw [hM]
  refine quotient seen l s v _ _ (Real.exp (-(M * Real.log 2))) (Real.exp_pos _) (fun j => ?_) ?_
  · rw [ht]; unfold mass; split
    · exact exp2_shift _ _
    · simp
  · rw [ha]; exact exp2_shift _ _

/-- An exponential's shift over the extended reals. -/
theorem exp_shift (l M : ℝ) : Ideal.exp ((l : EReal) - (M : EReal)) = ((Real.exp l * Real.exp (-M) : ℝ) : EReal) := by
  rw [← EReal.coe_sub, Ideal.exp_coe, sub_eq_add_neg, Real.exp_add]

/-- The softmax's weight of a key, with the sink among the exponents. -/
theorem softmax_weight (seen : ι → Prop) [DecidablePred seen] (l : ι → ℝ) (s : ℝ) (u : ι → EReal) (M : ℝ)
    (hu : ∀ j, u j = if seen j then ((l j : ℝ) : EReal) else ⊥) (j : ι) :
    Ideal.div (Ideal.exp (u j - (M : EReal))) (∑ k, Ideal.exp (u k - (M : EReal)) + Ideal.exp ((s : EReal) - (M : EReal)))
      = ((weight seen l s j : ℝ) : EReal) := by
  have he : ∀ k, Ideal.exp (u k - (M : EReal)) = ((mass seen l k * Real.exp (-M) : ℝ) : EReal) := by
    intro k; rw [hu]; unfold mass; split
    · exact exp_shift _ _
    · simp
  have hd : ∑ k, Ideal.exp (u k - (M : EReal)) + Ideal.exp ((s : EReal) - (M : EReal))
      = (((∑ k, mass seen l k + Real.exp s) * Real.exp (-M) : ℝ) : EReal) := by
    simp only [he, exp_shift]
    rw [coe_sum, ← EReal.coe_add, ← Finset.sum_mul, add_mul]
  have hp := total_pos seen l s
  have hm := Real.exp_pos (-M)
  rw [hd, Ideal.div_coe (by positivity), he, ← EReal.coe_mul]
  congr 1
  unfold weight
  field_simp

/-- What a place of the band of block `n` holds: the sequence for the first 384 places, zero outside it, then the context. -/
def band (x : Fin 2048 → EReal) (y : Fin 256 → EReal) (n : ℕ) (j : Fin 640) : EReal :=
  if h : j.val < 384 then
    if h' : 128 ≤ 128 * n + j.val ∧ 128 * n + j.val < 2176 then x ⟨128 * n + j.val - 128, by omega⟩ else 0
  else y ⟨j.val - 384, by omega⟩

/-- The score of a place of the band: the product of queries and keys over the channels, the queries scaled by one eighth. -/
def score (q : Fin 64 → EReal) (k : Fin 64 → Fin 2048 → EReal) (kc : Fin 64 → Fin 256 → EReal) (n : ℕ) (j : Fin 640) : ℝ :=
  ∑ d, (q d).toReal * (1 / 8) * (band (k d) (kc d) n j).toReal

/-- One channel of one head's attention at row `p` of block `n`. -/
def head (n : ℕ) (p : Fin 128) (q : Fin 64 → EReal) (k : Fin 64 → Fin 2048 → EReal) (kc : Fin 64 → Fin 256 → EReal)
    (v : Fin 2048 → EReal) (vc : Fin 256 → EReal) (s : EReal) : EReal :=
  row (seen n p) (score q k kc n) s.toReal (band v vc n)

/-- Finite sequences make a finite band. -/
theorem band_real (x : Fin 2048 → EReal) (y : Fin 256 → EReal) (hx : ∀ t, x t = ((x t).toReal : EReal)) (hy : ∀ t, y t = ((y t).toReal : EReal))
    (n : ℕ) (j : Fin 640) : band x y n j = ((band x y n j).toReal : EReal) := by
  unfold band
  split
  · split
    · exact hx _
    · simp
  · exact hy _

end Cert.AttnSpec

end
-- ==== Proof.AttnRead.lean ====
/- A tile of the attention kernel, read at an index: one row of scores, the greatest of them, and the weighted values. -/
module

public import proofs.«01_k».proof.Proof.AttnTile
public import proofs.«01_k».proof.Proof.AttnSpec
public import Idealize.ShloMosaic.Lib.WordCmp

@[expose] public section

set_option maxRecDepth 16384

noncomputable section

namespace Cert.AttnIdeal.Tile

open Cert.AttnIdeal Cert.AttnIdeal.Gen Cert.AttnSpec Idealize.ShloMosaic Idealize.ShloMosaic.TcCoe Idealize.SL.Sem

/-- One lane of the kernel's result: from the keys by channel, a column of values, a row of queries and a sink in base 2. -/
def lane (seen : Fin 640 → Prop) [DecidablePred seen] (K : Fin 128 → Fin 640 → EReal) (V : Fin 640 → EReal) (q : Fin 128 → EReal)
    (a : EReal) : EReal :=
  let t : Fin 640 → EReal := fun j => if seen j then ∑ d, q d * K d j else ⊥
  Ideal.div (∑ j, Ideal.exp2 (t j - max (Finset.fold max ⊥ t Finset.univ) a) * V j)
    (∑ j, Ideal.exp2 (t j - max (Finset.fold max ⊥ t Finset.univ) a) * 1
      + Ideal.exp2 (a - max (Finset.fold max ⊥ t Finset.univ) a))

/-- The kernel's mask stands for no score at all. -/
theorem mask_eq : (Named.named κ "mask" 0xF149F2CA#32 : Ideal .f32) = ⊥ :=
  IdealRules.named_const.ideal_named_scalar _ _ _ _ rfl

/-- The kernel's factor is the inverse of the natural logarithm of two. -/
theorem log2e_eq : (Named.named κ "log2e" 0x3FB8AA3B#32 : Ideal .f32) = (((Real.log 2)⁻¹ : ℝ) : EReal) :=
  IdealRules.named_const.ideal_named_scalar _ _ _ _ rfl

/-- The word for minus infinity. -/
theorem neg_inf : Ideal.ofBits .f32 0xFF800000#32 = ⊥ := by simp [Ideal.ofBits, Ideal.ieee]

/-- The masked scores of a row. -/
theorem masked_apply (n : ℕ) (hn : n < 16) (w : BitVec 32) (hw : w = BitVec.ofNat 32 n) (s : FVec Ideal S128x640 .f32) (p : Fin 128)
    (j : Fin 640) : masked w s (ix2 p j) = if seen n p j then s (ix2 p j) else ⊥ := by
  have hj := j.isLt
  have hp := p.isLt
  pointwise [masked, before, after]
  simp only [mask_eq, hw, Scalar.cmpi]
  have mid : ∀ i : Fin 640, i.val = j.val → s (ix2 p i) = s (ix2 p j) := fun i hi => by rw [Fin.ext hi]
  by_cases h1 : j.val < 128
  · rw [dif_pos h1, WordCmp.cmpi_sge_ofNat (by omega) (by omega), WordCmp.cmpi_sgt_ofNat (by omega) (by omega), WordCmp.andi_ofBool,
      WordCmp.select_ofBool]
    refine if_congr ?_ rfl rfl
    simp only [Bool.and_eq_true, decide_eq_true_eq, seen]
    omega
  · rw [dif_neg h1]
    by_cases h2 : j.val - 128 < 128
    · rw [dif_pos h2, if_pos (show seen n p j by unfold seen; omega)]
      exact mid _ (by show 128 + (j.val - 128) = j.val; omega)
    · rw [dif_neg h2]
      by_cases h3 : j.val - 128 - 128 < 128
      · rw [dif_pos h3, WordCmp.cmpi_sle_ofNat (by omega) (by omega), WordCmp.cmpi_slt_ofNat (by omega) (by omega), WordCmp.andi_ofBool,
          WordCmp.select_ofBool, mid _ (show 256 + (j.val - 128 - 128) = j.val by omega)]
        refine if_congr ?_ rfl rfl
        simp only [Bool.and_eq_true, decide_eq_true_eq, seen]
        omega
      · rw [dif_neg h3, if_pos (show seen n p j by unfold seen; omega)]
        exact mid _ (by show 384 + (j.val - 128 - 128 - 128) = j.val; omega)

/-- The scores of the even head. -/
theorem scoresE_apply (n : ℕ) (hn : n < 16) (k : FVec Ideal S128x640 .bf16) (qe qo : Page) (p : Fin 128) (j : Fin 640) :
    scoresE (BitVec.ofNat 32 n) (scores k qe qo) (ix2 p j) = if seen n p j then ∑ d, qe (ix3 0 p d) * k (ix2 d j) else ⊥ := by
  unfold scoresE
  rw [masked_apply n hn _ rfl]
  refine if_congr Iff.rfl ?_ rfl
  pointwise [scores]

/-- The scores of the odd head. -/
theorem scoresO_apply (n : ℕ) (hn : n < 16) (k : FVec Ideal S128x640 .bf16) (qe qo : Page) (p : Fin 128) (j : Fin 640) :
    scoresO (BitVec.ofNat 32 n) (scores k qe qo) (ix2 p j) = if seen n p j then ∑ d, qo (ix3 0 p d) * k (ix2 d j) else ⊥ := by
  unfold scoresO
  rw [masked_apply n hn _ rfl]
  refine if_congr Iff.rfl ?_ rfl
  pointwise [scores]

/-- The greatest score of a row. -/
theorem top_apply (s : FVec Ideal S128x640 .f32) (a : Ideal .f32) (p : Fin 128) :
    top s a (ix2 p 0) = max (Finset.fold max ⊥ (fun j => s (ix2 p j)) Finset.univ) a := by
  pointwise [top]
  rw [neg_inf]

/-- A key's weight before the division. -/
theorem weights_apply (s : FVec Ideal S128x640 .f32) (a : Ideal .f32) (p : Fin 128) (j : Fin 640) :
    weights s a (ix2 p j) = Ideal.exp2 (s (ix2 p j) - max (Finset.fold max ⊥ (fun j => s (ix2 p j)) Finset.univ) a) := by
  rw [← top_apply]
  pointwise [weights]
  rfl

/-- The sink's weight before the division. -/
theorem sinkWeight_apply (s : FVec Ideal S128x640 .f32) (a : Ideal .f32) (p : Fin 128) :
    sinkWeight s a (ix2 p 0) = Ideal.exp2 (a - max (Finset.fold max ⊥ (fun j => s (ix2 p j)) Finset.univ) a) := by
  rw [← top_apply]
  pointwise [sinkWeight]
  rfl

/-- The even head's quotient. -/
theorem even_apply (v : FVec Ideal S640x128 .bf16) (pe po : FVec Ideal S128x640 .bf16) (b : FVec Ideal S128x1 .f32) (p q : Fin 128) :
    even (mixed v pe po) b (ix2 p q)
      = Ideal.div (∑ j, pe (ix2 p j) * v (ix2 j q)) (∑ j, pe (ix2 p j) * 1 + b (ix2 p 0)) := by
  have hp := p.isLt
  have hq := q.isLt
  pointwise [even, mixed, valsOnes]

/-- The odd head's quotient. -/
theorem odd_apply (v : FVec Ideal S640x128 .bf16) (pe po : FVec Ideal S128x640 .bf16) (b : FVec Ideal S128x1 .f32) (p q : Fin 128) :
    odd (mixed v pe po) b (ix2 p q)
      = Ideal.div (∑ j, po (ix2 p j) * v (ix2 j q)) (∑ j, po (ix2 p j) * 1 + b (ix2 p 0)) := by
  have hp := p.isLt
  have hq := q.isLt
  pointwise [odd, mixed, valsOnes]

/-- Two heads of the first key head side by side, at a lane. -/
theorem joinLo_apply (e o : FVec Ideal S128x128 .f32) (p q : Fin 128) : joinLo e o (ix3 0 p q)
    = if h : q.val < 64 then e (ix2 p q) else o (ix2 p ⟨q.val - 64, by omega⟩) := by
  have hq := q.isLt
  pointwise [joinLo, left]
  rw [WordCmp.cmpi_slt_ofNat (by omega) (by omega), WordCmp.select_ofBool]
  by_cases h : q.val < 64
  · rw [if_pos (by simpa using h), dif_pos h]
  · rw [if_neg (by simpa using h), dif_neg h]
    refine congrArg (fun i => o (ix2 p i)) (Fin.ext ?_)
    show (q.val + 128 - 64) % 128 = q.val - 64
    omega

/-- Two heads of the second key head side by side, at a lane. -/
theorem joinHi_apply (e o : FVec Ideal S128x128 .f32) (p q : Fin 128) : joinHi e o (ix3 0 p q)
    = if h : q.val < 64 then e (ix2 p ⟨q.val + 64, by omega⟩) else o (ix2 p q) := by
  have hq := q.isLt
  pointwise [joinHi, left]
  rw [WordCmp.cmpi_slt_ofNat (by omega) (by omega), WordCmp.select_ofBool]
  by_cases h : q.val < 64
  · rw [if_pos (by simpa using h), dif_pos h]
    refine congrArg (fun i => e (ix2 p i)) (Fin.ext ?_)
    show (q.val + 128 - 64) % 128 = q.val + 64
    omega
  · rw [if_neg (by simpa using h), dif_neg h]

/-- A tile of the first key head at a lane. -/
theorem tileLo_apply (n : ℕ) (hn : n < 16) (k1 k2 k3 k4 k5 : KeyPage) (v1 v2 v3 : Page) (v4 : Vec Ideal S1x256x128 .bf16) (qe qo : Page)
    (ae ao : Vec Ideal S1 .f32) (p q : Fin 128) :
    tileLo (BitVec.ofNat 32 n) k1 k2 k3 k4 k5 v1 v2 v3 v4 qe qo ae ao (ix3 0 p q)
      = if h : q.val < 64 then
          lane (seen n p) (fun d j => keys k1 k2 k3 k4 k5 (ix2 d j)) (fun j => vals v1 v2 v3 v4 (ix2 j q))
            (fun d => qe (ix3 0 p d)) (sink ae)
        else
          lane (seen n p) (fun d j => keys k1 k2 k3 k4 k5 (ix2 d j)) (fun j => vals v1 v2 v3 v4 (ix2 j ⟨q.val - 64, by omega⟩))
            (fun d => qo (ix3 0 p d)) (sink ao) := by
  unfold tileLo
  rw [joinLo_apply]
  simp only [even_apply, odd_apply, weights_apply, sinkWeight_apply, scoresE_apply n hn, scoresO_apply n hn]
  rfl

/-- A tile of the second key head at a lane. -/
theorem tileHi_apply (n : ℕ) (hn : n < 16) (k1 k2 k3 k4 k5 : KeyPage) (v1 v2 v3 : Page) (v4 : Vec Ideal S1x256x128 .bf16) (qe qo : Page)
    (ae ao : Vec Ideal S1 .f32) (p q : Fin 128) :
    tileHi (BitVec.ofNat 32 n) k1 k2 k3 k4 k5 v1 v2 v3 v4 qe qo ae ao (ix3 0 p q)
      = if h : q.val < 64 then
          lane (seen n p) (fun d j => keys k1 k2 k3 k4 k5 (ix2 d j)) (fun j => vals v1 v2 v3 v4 (ix2 j ⟨q.val + 64, by omega⟩))
            (fun d => qe (ix3 0 p d)) (sink ae)
        else
          lane (seen n p) (fun d j => keys k1 k2 k3 k4 k5 (ix2 d j)) (fun j => vals v1 v2 v3 v4 (ix2 j q))
            (fun d => qo (ix3 0 p d)) (sink ao) := by
  unfold tileHi
  rw [joinHi_apply]
  simp only [even_apply, odd_apply, weights_apply, sinkWeight_apply, scoresE_apply n hn, scoresO_apply n hn]
  rfl

/-- The band's keys at a channel and a place. -/
theorem keys_apply (k1 k2 k3 k4 k5 : KeyPage) (d : Fin 128) (j : Fin 640) : keys k1 k2 k3 k4 k5 (ix2 d j)
    = if h : j.val < 128 then k1 (ix4 0 0 d ⟨j.val, h⟩)
      else if h : j.val - 128 < 128 then k2 (ix4 0 0 d ⟨j.val - 128, h⟩)
      else if h : j.val - 128 - 128 < 128 then k3 (ix4 0 0 d ⟨j.val - 128 - 128, h⟩)
      else if h : j.val - 128 - 128 - 128 < 128 then k4 (ix4 0 0 d ⟨j.val - 128 - 128 - 128, h⟩)
      else k5 (ix4 0 0 d ⟨j.val - 128 - 128 - 128 - 128, by omega⟩) := by
  pointwise [keys]

/-- The band's values at a place and a channel. -/
theorem vals_apply (v1 v2 v3 : Page) (v4 : Vec Ideal S1x256x128 .bf16) (j : Fin 640) (d : Fin 128) : vals v1 v2 v3 v4 (ix2 j d)
    = if h : j.val < 128 then v1 (ix3 0 ⟨j.val, h⟩ d)
      else if h : j.val - 128 < 128 then v2 (ix3 0 ⟨j.val - 128, h⟩ d)
      else if h : j.val - 128 - 128 < 128 then v3 (ix3 0 ⟨j.val - 128 - 128, h⟩ d)
      else v4 (ix3 0 ⟨j.val - 128 - 128 - 128, by omega⟩ d) := by
  pointwise [vals]

/-- A sink in base 2. -/
theorem sink_apply (a : Vec Ideal S1 .f32) : sink a = a (ix1 0) * (((Real.log 2)⁻¹ : ℝ) : EReal) := by
  unfold sink
  rw [log2e_eq]
  refine congrArg (fun x => x * (((Real.log 2)⁻¹ : ℝ) : EReal)) (congrArg a (funext fun i => ?_))
  match i with
  | ⟨0, _⟩ => exact Subsingleton.elim (α := Fin 1) _ _

/-- A query as the kernel finds it: scaled by one eighth and by the inverse of log 2. -/
def scaled (x : EReal) : EReal := Ideal.div (x * Ideal.ofBits .f32 0x3E000000#32) (Ideal.log (Ideal.ofBits .f32 0x40000000#32))

/-- The same of a real number. -/
theorem scaled_coe (r : ℝ) : scaled r = ((r * (1 / 8) * (Real.log 2)⁻¹ : ℝ) : EReal) := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  unfold scaled
  rw [h8, h2, hl, Ideal.div_coe (Real.log_pos (by norm_num)).ne', ← EReal.coe_mul, ← EReal.coe_mul, one_div (Real.log 2)]

/-- A sum over 128 channels of which one half is zero is the sum over the other half. -/
theorem sum_half (kv : Fin 2) (f : Fin 128 → EReal) (h : ∀ e : Fin 128, e.val / 64 ≠ kv.val → f e = 0) :
    ∑ e, f e = ∑ d : Fin 64, f ⟨64 * kv.val + d.val, by omega⟩ := by
  refine (Fin.sum_univ_add (a := 64) (b := 64) f).trans ?_
  match kv with
  | ⟨0, _⟩ =>
    rw [Finset.sum_eq_zero (f := fun i : Fin 64 => f (Fin.natAdd 64 i))
      fun i _ => h _ (by show (64 + i.val) / 64 ≠ 0; omega), add_zero]
    exact Finset.sum_congr rfl fun i _ => congrArg f (Fin.ext (by show i.val = 64 * 0 + i.val; omega))
  | ⟨1, _⟩ =>
    rw [Finset.sum_eq_zero (f := fun i : Fin 64 => f (Fin.castAdd 64 i))
      fun i _ => h _ (by show i.val / 64 ≠ 1; omega), zero_add]
    exact Finset.sum_congr rfl fun i _ => congrArg f (Fin.ext (by show 64 + i.val = 64 * 1 + i.val; omega))

/-- A lane of the kernel is one channel of its head's attention, where the arrays are finite. -/
theorem lane_head (n : ℕ) (p : Fin 128) (K : Fin 128 → Fin 640 → EReal) (V : Fin 640 → EReal) (Q : Fin 128 → EReal) (a : EReal)
    (kv : Fin 2) (q : Fin 64 → EReal) (k : Fin 64 → Fin 2048 → EReal) (kc : Fin 64 → Fin 256 → EReal)
    (v : Fin 2048 → EReal) (vc : Fin 256 → EReal) (s : EReal)
    (fq : ∀ d, q d = ((q d).toReal : EReal)) (fk : ∀ d t, k d t = ((k d t).toReal : EReal)) (fc : ∀ d t, kc d t = ((kc d t).toReal : EReal))
    (fs : s = (s.toReal : EReal))
    (hQ : ∀ e : Fin 128, Q e = if e.val / 64 = kv.val then scaled (q ⟨e.val % 64, Nat.mod_lt _ (by decide)⟩) else 0)
    (hK : ∀ (d : Fin 64) (j : Fin 640), seen n p j → K ⟨64 * kv.val + d.val, by omega⟩ j = band (k d) (kc d) n j)
    (hV : ∀ j, seen n p j → V j = band v vc n j) (ha : a = s * (((Real.log 2)⁻¹ : ℝ) : EReal)) :
    lane (seen n p) K V Q a = head n p q k kc v vc s := by
  unfold lane head
  refine (kernel_row (seen n p) (score q k kc n) s.toReal V _ a (fun j => ?_) (by rw [ha, EReal.coe_mul, ← fs])).trans
    (row_congr _ _ _ _ _ _ (fun _ _ => rfl) hV)
  by_cases h : seen n p j
  · rw [if_pos h, if_pos h, sum_half kv _ fun e he => by rw [hQ, if_neg he, zero_mul]]
    unfold score
    rw [Finset.sum_mul, ← coe_sum]
    refine Finset.sum_congr rfl fun d _ => ?_
    have hd : (⟨(64 * kv.val + d.val) % 64, Nat.mod_lt _ (by decide)⟩ : Fin 64) = d := Fin.ext (by show (64 * kv.val + d.val) % 64 = d.val; omega)
    rw [hQ, if_pos (by show (64 * kv.val + d.val) / 64 = kv.val; omega), hK d j h, hd, fq d, scaled_coe, band_real _ _ (fk d) (fc d),
      ← EReal.coe_mul]
    congr 1
    simp only [EReal.toReal_coe]
    ring
  · rw [if_neg h, if_neg h]

end Cert.AttnIdeal.Tile

end
-- ==== Proof.AttnHost.lean ====
/- The arrays that the attention kernel reads, by the program's arguments. -/
module

public import proofs.«01_k».proof.Proof.Gen.AttnIdeal.Value
public import proofs.«01_k».proof.Proof.AttnRead
public import Idealize.ShloMosaic.Lib.Claim
public import Idealize.ShloMosaic.Lib.Pointwise

@[expose] public section

set_option maxRecDepth 16384

noncomputable section

namespace Cert.AttnIdeal.Tile

open Cert.AttnIdeal Cert.AttnIdeal.Gen Idealize.ShloMosaic Idealize.ShloMosaic.TcCoe Idealize.SL.Sem

variable (m : (ℓ : Loc nD τ sig) → Buf (Elt Ideal) ℓ)

/-- The keys as the kernel finds them: by page, channel and place in the page. -/
theorem V15 (c : Dev nD) (b : Fin 8) (g : Fin 16) (d j : Fin 128) : (V m c main_v15 : S8x16x128x128.Idx → EReal) (ix4 b g d j)
    = m ((c : Thread nD τ).loc main_arg1) (ix4 b ⟨g.val * 128 + j.val, by omega⟩ ⟨d.val / 64, by omega⟩ ⟨d.val % 64, by omega⟩) := by
  entry_read
  pointwise

/-- The context's keys as the kernel finds them. -/
theorem V20 (c : Dev nD) (b : Fin 8) (g : Fin 2) (d j : Fin 128) : (V m c main_v20 : S8x2x128x128.Idx → EReal) (ix4 b g d j)
    = m ((c : Thread nD τ).loc main_arg3) (ix4 b ⟨g.val * 128 + j.val, by omega⟩ ⟨d.val / 64, by omega⟩ ⟨d.val % 64, by omega⟩) := by
  entry_read
  pointwise

/-- The values as the kernel finds them. -/
theorem V17 (c : Dev nD) (b : Fin 8) (t : Fin 2048) (d : Fin 128) : (V m c main_v17 : S8x2048x128.Idx → EReal) (ix3 b t d)
    = m ((c : Thread nD τ).loc main_arg2) (ix4 b t ⟨d.val / 64, by omega⟩ ⟨d.val % 64, by omega⟩) := by
  entry_read
  pointwise

/-- The context's values as the kernel finds them. -/
theorem V22 (c : Dev nD) (b : Fin 8) (t : Fin 256) (d : Fin 128) : (V m c main_v22 : S8x256x128.Idx → EReal) (ix3 b t d)
    = m ((c : Thread nD τ).loc main_arg4) (ix4 b t ⟨d.val / 64, by omega⟩ ⟨d.val % 64, by omega⟩) := by
  entry_read
  pointwise

/-- The queries as the kernel finds them: each head's in the half of its channels that its key head has, zero in the other. -/
theorem V12 (c : Dev nD) (b : Fin 8) (t : Fin 2048) (h : Fin 8) (d : Fin 128) :
    (V m c main_v12 : S8x2048x1024.Idx → EReal) (ix3 b t ⟨128 * h.val + d.val, by omega⟩)
    = if d.val / 64 = h.val / 4 then scaled (m ((c : Thread nD τ).loc main_arg0) (ix4 b t h ⟨d.val % 64, by omega⟩)) else 0 := by
  have e1 : (128 * h.val + d.val) / 128 = h.val := by omega
  have e2 : (128 * h.val + d.val) % 128 = d.val := by omega
  have key : ∀ (h' : Fin 8) (d' : Fin 64), h' = h → d' = ⟨d.val % 64, by omega⟩ →
      scaled (m ((c : Thread nD τ).loc main_arg0) (ix4 b t h' d')) = scaled (m ((c : Thread nD τ).loc main_arg0) (ix4 b t h ⟨d.val % 64, by omega⟩)) := by
    rintro _ _ rfl rfl; rfl
  by_cases hc : d.val / 64 = h.val / 4
  · rw [if_pos hc]
    generalize hr : scaled (m ((c : Thread nD τ).loc main_arg0) (ix4 b t h ⟨d.val % 64, by omega⟩)) = r
    rw [hr] at key
    entry_read
    pointwise
    simp only [e1, e2]
    by_cases h4 : h.val < 4
    · rw [dif_pos h4, dif_pos (show d.val < 64 by omega)]
      exact key _ ⟨d.val, by omega⟩ rfl (Fin.ext (show d.val = d.val % 64 by omega))
    · rw [dif_neg h4, dif_neg (show ¬ d.val < 64 by omega)]
      exact key ⟨4 + (h.val - 4), by omega⟩ ⟨d.val - 64, by omega⟩ (Fin.ext (show 4 + (h.val - 4) = h.val by omega))
        (Fin.ext (show d.val - 64 = d.val % 64 by omega))
  · rw [if_neg hc]
    clear key
    entry_read
    pointwise
    simp only [e1, e2]
    by_cases h4 : h.val < 4
    · rw [dif_pos h4, dif_neg (show ¬ d.val < 64 by omega)]
    · rw [dif_neg h4, dif_pos (show d.val < 64 by omega)]

/-- Which block each window shows at a point: the batch for queries, keys and values, the half of the tokens too for the queries and
    the result. -/
theorem idx (t : Fin cfg0.N) : win0_0.index t = ![0]
    ∧ win0_1.index t = ![(grid0.coords t 0).val, (grid0.coords t 1).val, 0]
    ∧ win0_2.index t = ![(grid0.coords t 0).val, 0, 0, 0]
    ∧ win0_3.index t = ![(grid0.coords t 0).val, 0, 0, 0]
    ∧ win0_4.index t = ![(grid0.coords t 0).val, 0, 0]
    ∧ win0_5.index t = ![(grid0.coords t 0).val, 0, 0]
    ∧ win0_12.index t = ![(grid0.coords t 0).val, (grid0.coords t 1).val, 0] :=
  (by decide +kernel : ∀ t : Fin grid0.N, win0_0.index t = ![0]
    ∧ win0_1.index t = ![(grid0.coords t 0).val, (grid0.coords t 1).val, 0]
    ∧ win0_2.index t = ![(grid0.coords t 0).val, 0, 0, 0]
    ∧ win0_3.index t = ![(grid0.coords t 0).val, 0, 0, 0]
    ∧ win0_4.index t = ![(grid0.coords t 0).val, 0, 0]
    ∧ win0_5.index t = ![(grid0.coords t 0).val, 0, 0]
    ∧ win0_12.index t = ![(grid0.coords t 0).val, (grid0.coords t 1).val, 0]) t

/-- The batch of a grid point. -/
def bat (t : Fin cfg0.N) : Fin 8 :=
  ⟨(grid0.coords t 0).val, (by decide +kernel : ∀ t : Fin grid0.N, (grid0.coords t 0).val < 8) t⟩

/-- The half of the tokens of a grid point. -/
def half (t : Fin cfg0.N) : Fin 2 :=
  ⟨(grid0.coords t 1).val, (by decide +kernel : ∀ t : Fin grid0.N, (grid0.coords t 1).val < 2) t⟩

/-- The token that a row of a grid point's block is. -/
def tok (t : Fin cfg0.N) (p : Fin 1024) : Fin 2048 := ⟨(grid0.coords t 1).val * 1024 + p.val, by have h : (grid0.coords t 1).val < 2 := (half t).isLt; omega⟩

/-- The sinks' block at a point. -/
theorem blk0 (c : Dev nD) (t : Fin cfg0.N) (h : Fin 8) : iblk m c 0 t (ix1 h) = m ((c : Thread nD τ).loc main_arg5) (ix1 h) := by
  blk_ext [iblk, V_main_arg5 m c, idx t]

/-- Where the queries' block lies in their array. -/
theorem emb1 (t : Fin cfg0.N) (p k : Fin 1024) : (win0_1.blk t).view.emb (ix3 0 p k) = ix3 (bat t) (tok t p) k := by
  blk_ext [idx t, bat, tok]

/-- The queries' block at a point. -/
theorem blk1 (c : Dev nD) (t : Fin cfg0.N) (p : Fin 1024) (k : Fin 1024) : iblk m c 1 t (ix3 0 p k)
    = (V m c main_v12 : S8x2048x1024.Idx → EReal) (ix3 (bat t) (tok t p) k) := by
  have key : ∀ A : S8x2048x1024.Idx → EReal, View.read (Elt Ideal) (win0_1.blk t).view A (ix3 0 p k) = A (ix3 (bat t) (tok t p) k) :=
    fun A => congrArg A (emb1 t p k)
  unfold iblk
  exact key (V m c main_v12)

/-- The keys' block at a point. -/
theorem blk2 (c : Dev nD) (t : Fin cfg0.N) (g : Fin 16) (d j : Fin 128) : iblk m c 2 t (ix4 0 g d j)
    = (V m c main_v15 : S8x16x128x128.Idx → EReal) (ix4 (bat t) g d j) := by
  blk_ext [iblk, idx t, bat]

/-- The context keys' block at a point. -/
theorem blk3 (c : Dev nD) (t : Fin cfg0.N) (g : Fin 2) (d j : Fin 128) : iblk m c 3 t (ix4 0 g d j)
    = (V m c main_v20 : S8x2x128x128.Idx → EReal) (ix4 (bat t) g d j) := by
  blk_ext [iblk, idx t, bat]

/-- The values' block at a point. -/
theorem blk4 (c : Dev nD) (t : Fin cfg0.N) (j : Fin 2048) (d : Fin 128) : iblk m c 4 t (ix3 0 j d)
    = (V m c main_v17 : S8x2048x128.Idx → EReal) (ix3 (bat t) j d) := by
  blk_ext [iblk, idx t, bat]

/-- The context values' block at a point. -/
theorem blk5 (c : Dev nD) (t : Fin cfg0.N) (j : Fin 256) (d : Fin 128) : iblk m c 5 t (ix3 0 j d)
    = (V m c main_v22 : S8x256x128.Idx → EReal) (ix3 (bat t) j d) := by
  blk_ext [iblk, idx t, bat]

/-- Where the block's loads of keys and values begin: at the pages before it, of it and after it, held inside the sequence. -/
theorem offs (t : Fin cfg0.N) (u : Fin 8) :
    k0_off1 (grid0.coords t) (BitVec.ofNat 32 u.val) = ![0, 8 * (grid0.coords t 1).val + u.val - 1, 0, 0]
    ∧ k0_off2 (grid0.coords t) (BitVec.ofNat 32 u.val) = ![0, 8 * (grid0.coords t 1).val + u.val, 0, 0]
    ∧ k0_off3 (grid0.coords t) (BitVec.ofNat 32 u.val) = ![0, min (8 * (grid0.coords t 1).val + u.val + 1) 15, 0, 0]
    ∧ k0_off4 (grid0.coords t) (BitVec.ofNat 32 u.val) = ![0, 128 * (8 * (grid0.coords t 1).val + u.val - 1), 0]
    ∧ k0_off5 (grid0.coords t) (BitVec.ofNat 32 u.val) = ![0, 128 * (8 * (grid0.coords t 1).val + u.val), 0]
    ∧ k0_off6 (grid0.coords t) (BitVec.ofNat 32 u.val) = ![0, 128 * min (8 * (grid0.coords t 1).val + u.val + 1) 15, 0]
    ∧ word (grid0.coords t) u = BitVec.ofNat 32 (8 * (grid0.coords t 1).val + u.val) :=
  (by decide +kernel : ∀ (t : Fin grid0.N) (u : Fin 8),
    k0_off1 (grid0.coords t) (BitVec.ofNat 32 u.val) = ![0, 8 * (grid0.coords t 1).val + u.val - 1, 0, 0]
    ∧ k0_off2 (grid0.coords t) (BitVec.ofNat 32 u.val) = ![0, 8 * (grid0.coords t 1).val + u.val, 0, 0]
    ∧ k0_off3 (grid0.coords t) (BitVec.ofNat 32 u.val) = ![0, min (8 * (grid0.coords t 1).val + u.val + 1) 15, 0, 0]
    ∧ k0_off4 (grid0.coords t) (BitVec.ofNat 32 u.val) = ![0, 128 * (8 * (grid0.coords t 1).val + u.val - 1), 0]
    ∧ k0_off5 (grid0.coords t) (BitVec.ofNat 32 u.val) = ![0, 128 * (8 * (grid0.coords t 1).val + u.val), 0]
    ∧ k0_off6 (grid0.coords t) (BitVec.ofNat 32 u.val) = ![0, 128 * min (8 * (grid0.coords t 1).val + u.val + 1) 15, 0]
    ∧ word (grid0.coords t) u = BitVec.ofNat 32 (8 * (grid0.coords t 1).val + u.val)) t u

/-- A page of keys, loaded, at a channel and a place. -/
theorem ld_page (x : Vec Ideal S1x16x128x128 .bf16) (off : Fin 4 → ℕ) (h) (g : Fin 16) (ho : off = ![0, g.val, 0, 0]) (d j : Fin 128) :
    View.ld x (Rect.unit (s := S1x16x128x128) off ![1, 1, 128, 128] h) (ix4 0 0 d j) = x (ix4 0 g d j) := by
  subst ho
  pointwise

/-- A page of values, loaded, at a place and a channel. -/
theorem ld_rows (x : Vec Ideal S1x2048x128 .bf16) (off : Fin 3 → ℕ) (h) (g : Fin 16) (ho : off = ![0, 128 * g.val, 0]) (j d : Fin 128) :
    View.ld x (Rect.unit (s := S1x2048x128) off ![1, 128, 128] h) (ix3 0 j d) = x (ix3 0 ⟨128 * g.val + j.val, by omega⟩ d) := by
  subst ho
  pointwise

/-- A page of context keys, loaded, at a channel and a place. -/
theorem ld_ctx (x : Vec Ideal S1x2x128x128 .bf16) (g : Fin 2) (h) (d j : Fin 128) :
    View.ld x (Rect.unit (s := S1x2x128x128) ![0, g.val, 0, 0] ![1, 1, 128, 128] h) (ix4 0 0 d j) = x (ix4 0 g d j) := by
  pointwise

/-- A head's queries, loaded, at a row and a channel. -/
theorem ld_query (x : Vec Ideal S1x1024x1024 .bf16) (r k : ℕ) (hr : r + 128 ≤ 1024) (hk : k + 128 ≤ 1024) (h) (p e : Fin 128) :
    View.ld x (Rect.unit (s := S1x1024x1024) ![0, r, k] ![1, 128, 128] h) (ix3 0 p e) = x (ix3 0 ⟨r + p.val, by omega⟩ ⟨k + e.val, by omega⟩) := by
  pointwise

/-- A head's sink, loaded. -/
theorem ld_sink (x : Vec Ideal S8 .f32) (r : ℕ) (hr : r < 8) (h) :
    View.ld x (Rect.unit (s := S8) ![r] ![1] h) (ix1 0) = x (ix1 ⟨r, hr⟩) := by
  pointwise

end Cert.AttnIdeal.Tile

end
-- ==== Proof.AttnStored.lean ====
/- The attention kernel's stored block: at every index it is the cell of the blocks that the windows show. -/
module

public import proofs.«01_k».proof.Proof.AttnTile
public import Idealize.ShloMosaic.Lib.Pointwise

@[expose] public section

set_option maxRecDepth 16384

noncomputable section

namespace Cert.AttnIdeal.Tile

open Cert.AttnIdeal Cert.AttnIdeal.Gen Idealize.ShloMosaic Idealize.ShloMosaic.TcCoe Idealize.SL.Sem

variable (m : (ℓ : Loc nD τ sig) → Buf (Elt Ideal) ℓ)

/-- All of the context's values, loaded. -/
theorem ld_all (x : Vec Ideal S1x256x128 .bf16) :
    View.ld x (Rect.unit (s := S1x256x128) ![0, 0, 0] ![1, 256, 128] inb_S1x256x128_S1x256x128_0_0_0) = x := by
  funext i
  obtain ⟨a, p, q, rfl⟩ : ∃ (a : Fin 1) (p : Fin 256) (q : Fin 128), i = ix3 a p q := ⟨i 0, i 1, i 2, eq_ix3 i⟩
  obtain rfl : a = 0 := Subsingleton.elim _ _
  pointwise

set_option maxHeartbeats 8000000 in
/-- What a grid point leaves in the result's block, by tiles: each of the 32 stored pieces is a tile of the loads. -/
theorem stored (c : Dev nD) (t : Fin cfg0.N) (y : S1x1024x512.Idx) : (outsAt0 m c t).1 y
    = cell (grid0.coords t) (iblk m c 0 t) (iblk m c 1 t) (iblk m c 2 t) (iblk m c 3 t) (iblk m c 4 t) (iblk m c 5 t)
      (rowTile y) (colTile y) (within y) := by
  have r0 := (hs0_0 t).read_unread (iblk m c 0 t)
  have r1 := (hs0_1 t).read_unread (iblk m c 1 t)
  have r2 := (hs0_2 t).read_unread (iblk m c 2 t)
  have r3 := (hs0_3 t).read_unread (iblk m c 3 t)
  have r4 := (hs0_4 t).read_unread (iblk m c 4 t)
  have r5 := (hs0_5 t).read_unread (iblk m c 5 t)
  unfold outsAt0
  frame_out
  canon_tiles x h
  case piece31 =>
    refine cell_lo (u := 0) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 0#32) ![1, 1, 128, 128] (k0_off1_inb i 0)) = k1
    generalize j2 : View.ld x2 (Rect.unit (s := S1x16x128x128) (k0_off2 i 0#32) ![1, 1, 128, 128] (k0_off2_inb i 0)) = k2
    generalize j3 : View.ld x2 (Rect.unit (s := S1x16x128x128) (k0_off3 i 0#32) ![1, 1, 128, 128] (k0_off3_inb i 0)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 0#32) ![1, 128, 128] (k0_off4_inb i 0)) = v1
    generalize j7 : View.ld x4 (Rect.unit (s := S1x2048x128) (k0_off5 i 0#32) ![1, 128, 128] (k0_off5_inb i 0)) = v2
    generalize j8 : View.ld x4 (Rect.unit (s := S1x2048x128) (k0_off6 i 0#32) ![1, 128, 128] (k0_off6_inb i 0)) = v3
    generalize j9 : View.ld x1 (Rect.unit (s := S1x1024x1024) ![0, 0, 0] ![1, 128, 128] inb_S1x1024x1024_S1x128x128_0_0_0) = qe
    generalize j10 : View.ld x1 (Rect.unit (s := S1x1024x1024) ![0, 0, 128] ![1, 128, 128] inb_S1x1024x1024_S1x128x128_0_0_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 0#32 = w
    refine Eq.trans (b := tileLo w k1 k2 k3 k4 k5 v1 v2 v3 x5 qe qo ae ao x) rfl ?_
    subst j1 j2 j3 j4 j5 j6 j7 j8 j9 j10 j11 j12 j13
    rfl
  case piece30 =>
    refine cell_lo (u := 0) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 0#32) ![1, 1, 128, 128] (k0_off1_inb i 0)) = k1
    generalize j2 : View.ld x2 (Rect.unit (s := S1x16x128x128) (k0_off2 i 0#32) ![1, 1, 128, 128] (k0_off2_inb i 0)) = k2
    generalize j3 : View.ld x2 (Rect.unit (s := S1x16x128x128) (k0_off3 i 0#32) ![1, 1, 128, 128] (k0_off3_inb i 0)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 0#32) ![1, 128, 128] (k0_off4_inb i 0)) = v1
    generalize j7 : View.ld x4 (Rect.unit (s := S1x2048x128) (k0_off5 i 0#32) ![1, 128, 128] (k0_off5_inb i 0)) = v2
    generalize j8 : View.ld x4 (Rect.unit (s := S1x2048x128) (k0_off6 i 0#32) ![1, 128, 128] (k0_off6_inb i 0)) = v3
    generalize j9 : View.ld x1 (Rect.unit (s := S1x1024x1024) ![0, 0, 256] ![1, 128, 128] inb_S1x1024x1024_S1x128x128_0_0_256) = qe
    generalize j10 : View.ld x1 (Rect.unit (s := S1x1024x1024) ![0, 0, 384] ![1, 128, 128] inb_S1x1024x1024_S1x128x128_0_0_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 0#32 = w
    refine Eq.trans (b := tileLo w k1 k2 k3 k4 k5 v1 v2 v3 x5 qe qo ae ao x) rfl ?_
    subst j1 j2 j3 j4 j5 j6 j7 j8 j9 j10 j11 j12 j13
    rfl
  case piece29 =>
    refine cell_hi (u := 0) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 0#32) ![1, 1, 128, 128] (k0_off1_inb i 0)) = k1
    generalize j2 : View.ld x2 (Rect.unit (s := S1x16x128x128) (k0_off2 i 0#32) ![1, 1, 128, 128] (k0_off2_inb i 0)) = k2
    generalize j3 : View.ld x2 (Rect.unit (s := S1x16x128x128) (k0_off3 i 0#32) ![1, 1, 128, 128] (k0_off3_inb i 0)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 0#32) ![1, 128, 128] (k0_off4_inb i 0)) = v1
    generalize j7 : View.ld x4 (Rect.unit (s := S1x2048x128) (k0_off5 i 0#32) ![1, 128, 128] (k0_off5_inb i 0)) = v2
    generalize j8 : View.ld x4 (Rect.unit (s := S1x2048x128) (k0_off6 i 0#32) ![1, 128, 128] (k0_off6_inb i 0)) = v3
    generalize j9 : View.ld x1 (Rect.unit (s := S1x1024x1024) ![0, 0, 512] ![1, 128, 128] inb_S1x1024x1024_S1x128x128_0_0_512) = qe
    generalize j10 : View.ld x1 (Rect.unit (s := S1x1024x1024) ![0, 0, 640] ![1, 128, 128] inb_S1x1024x1024_S1x128x128_0_0_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 0#32 = w
    refine Eq.trans (b := tileHi w k1 k2 k3 k4 k5 v1 v2 v3 x5 qe qo ae ao x) rfl ?_
    subst j1 j2 j3 j4 j5 j6 j7 j8 j9 j10 j11 j12 j13
    rfl
  case piece28 =>
    refine cell_hi (u := 0) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 0#32) ![1, 1, 128, 128] (k0_off1_inb i 0)) = k1
    generalize j2 : View.ld x2 (Rect.unit (s := S1x16x128x128) (k0_off2 i 0#32) ![1, 1, 128, 128] (k0_off2_inb i 0)) = k2
    generalize j3 : View.ld x2 (Rect.unit (s := S1x16x128x128) (k0_off3 i 0#32) ![1, 1, 128, 128] (k0_off3_inb i 0)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 0#32) ![1, 128, 128] (k0_off4_inb i 0)) = v1
    generalize j7 : View.ld x4 (Rect.unit (s := S1x2048x128) (k0_off5 i 0#32) ![1, 128, 128] (k0_off5_inb i 0)) = v2
    generalize j8 : View.ld x4 (Rect.unit (s := S1x2048x128) (k0_off6 i 0#32) ![1, 128, 128] (k0_off6_inb i 0)) = v3
    generalize j9 : View.ld x1 (Rect.unit (s := S1x1024x1024) ![0, 0, 768] ![1, 128, 128] inb_S1x1024x1024_S1x128x128_0_0_768) = qe
    generalize j10 : View.ld x1 (Rect.unit (s := S1x1024x1024) ![0, 0, 896] ![1, 128, 128] inb_S1x1024x1024_S1x128x128_0_0_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 0#32 = w
    refine Eq.trans (b := tileHi w k1 k2 k3 k4 k5 v1 v2 v3 x5 qe qo ae ao x) rfl ?_
    subst j1 j2 j3 j4 j5 j6 j7 j8 j9 j10 j11 j12 j13
    rfl
  case piece27 =>
    refine cell_lo (u := 1) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 1#32) ![1, 1, 128, 128] (k0_off1_inb i 1)) = k1
    generalize j2 : View.ld x2 (Rect.unit (s := S1x16x128x128) (k0_off2 i 1#32) ![1, 1, 128, 128] (k0_off2_inb i 1)) = k2
    generalize j3 : View.ld x2 (Rect.unit (s := S1x16x128x128) (k0_off3 i 1#32) ![1, 1, 128, 128] (k0_off3_inb i 1)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 1#32) ![1, 128, 128] (k0_off4_inb i 1)) = v1
    generalize j7 : View.ld x4 (Rect.unit (s := S1x2048x128) (k0_off5 i 1#32) ![1, 128, 128] (k0_off5_inb i 1)) = v2
    generalize j8 : View.ld x4 (Rect.unit (s := S1x2048x128) (k0_off6 i 1#32) ![1, 128, 128] (k0_off6_inb i 1)) = v3
    generalize j9 : View.ld x1 (Rect.unit (s := S1x1024x1024) ![0, 128, 0] ![1, 128, 128] inb_S1x1024x1024_S1x128x128_0_128_0) = qe
    generalize j10 : View.ld x1 (Rect.unit (s := S1x1024x1024) ![0, 128, 128] ![1, 128, 128] inb_S1x1024x1024_S1x128x128_0_128_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 1#32 = w
    refine Eq.trans (b := tileLo w k1 k2 k3 k4 k5 v1 v2 v3 x5 qe qo ae ao x) rfl ?_
    subst j1 j2 j3 j4 j5 j6 j7 j8 j9 j10 j11 j12 j13
    rfl
  case piece26 =>
    refine cell_lo (u := 1) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 1#32) ![1, 1, 128, 128] (k0_off1_inb i 1)) = k1
    generalize j2 : View.ld x2 (Rect.unit (s := S1x16x128x128) (k0_off2 i 1#32) ![1, 1, 128, 128] (k0_off2_inb i 1)) = k2
    generalize j3 : View.ld x2 (Rect.unit (s := S1x16x128x128) (k0_off3 i 1#32) ![1, 1, 128, 128] (k0_off3_inb i 1)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 1#32) ![1, 128, 128] (k0_off4_inb i 1)) = v1
    generalize j7 : View.ld x4 (Rect.unit (s := S1x2048x128) (k0_off5 i 1#32) ![1, 128, 128] (k0_off5_inb i 1)) = v2
    generalize j8 : View.ld x4 (Rect.unit (s := S1x2048x128) (k0_off6 i 1#32) ![1, 128, 128] (k0_off6_inb i 1)) = v3
    generalize j9 : View.ld x1 (Rect.unit (s := S1x1024x1024) ![0, 128, 256] ![1, 128, 128] inb_S1x1024x1024_S1x128x128_0_128_256) = qe
    generalize j10 : View.ld x1 (Rect.unit (s := S1x1024x1024) ![0, 128, 384] ![1, 128, 128] inb_S1x1024x1024_S1x128x128_0_128_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 1#32 = w
    refine Eq.trans (b := tileLo w k1 k2 k3 k4 k5 v1 v2 v3 x5 qe qo ae ao x) rfl ?_
    subst j1 j2 j3 j4 j5 j6 j7 j8 j9 j10 j11 j12 j13
    rfl
  case piece25 =>
    refine cell_hi (u := 1) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 1#32) ![1, 1, 128, 128] (k0_off1_inb i 1)) = k1
    generalize j2 : View.ld x2 (Rect.unit (s := S1x16x128x128) (k0_off2 i 1#32) ![1, 1, 128, 128] (k0_off2_inb i 1)) = k2
    generalize j3 : View.ld x2 (Rect.unit (s := S1x16x128x128) (k0_off3 i 1#32) ![1, 1, 128, 128] (k0_off3_inb i 1)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 1#32) ![1, 128, 128] (k0_off4_inb i 1)) = v1
    generalize j7 : View.ld x4 (Rect.unit (s := S1x2048x128) (k0_off5 i 1#32) ![1, 128, 128] (k0_off5_inb i 1)) = v2
    generalize j8 : View.ld x4 (Rect.unit (s := S1x2048x128) (k0_off6 i 1#32) ![1, 128, 128] (k0_off6_inb i 1)) = v3
    generalize j9 : View.ld x1 (Rect.unit (s := S1x1024x1024) ![0, 128, 512] ![1, 128, 128] inb_S1x1024x1024_S1x128x128_0_128_512) = qe
    generalize j10 : View.ld x1 (Rect.unit (s := S1x1024x1024) ![0, 128, 640] ![1, 128, 128] inb_S1x1024x1024_S1x128x128_0_128_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 1#32 = w
    refine Eq.trans (b := tileHi w k1 k2 k3 k4 k5 v1 v2 v3 x5 qe qo ae ao x) rfl ?_
    subst j1 j2 j3 j4 j5 j6 j7 j8 j9 j10 j11 j12 j13
    rfl
  case piece24 =>
    refine cell_hi (u := 1) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 1#32) ![1, 1, 128, 128] (k0_off1_inb i 1)) = k1
    generalize j2 : View.ld x2 (Rect.unit (s := S1x16x128x128) (k0_off2 i 1#32) ![1, 1, 128, 128] (k0_off2_inb i 1)) = k2
    generalize j3 : View.ld x2 (Rect.unit (s := S1x16x128x128) (k0_off3 i 1#32) ![1, 1, 128, 128] (k0_off3_inb i 1)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 1#32) ![1, 128, 128] (k0_off4_inb i 1)) = v1
    generalize j7 : View.ld x4 (Rect.unit (s := S1x2048x128) (k0_off5 i 1#32) ![1, 128, 128] (k0_off5_inb i 1)) = v2
    generalize j8 : View.ld x4 (Rect.unit (s := S1x2048x128) (k0_off6 i 1#32) ![1, 128, 128] (k0_off6_inb i 1)) = v3
    generalize j9 : View.ld x1 (Rect.unit (s := S1x1024x1024) ![0, 128, 768] ![1, 128, 128] inb_S1x1024x1024_S1x128x128_0_128_768) = qe
    generalize j10 : View.ld x1 (Rect.unit (s := S1x1024x1024) ![0, 128, 896] ![1, 128, 128] inb_S1x1024x1024_S1x128x128_0_128_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 1#32 = w
    refine Eq.trans (b := tileHi w k1 k2 k3 k4 k5 v1 v2 v3 x5 qe qo ae ao x) rfl ?_
    subst j1 j2 j3 j4 j5 j6 j7 j8 j9 j10 j11 j12 j13
    rfl
  case piece23 =>
    refine cell_lo (u := 2) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 2#32) ![1, 1, 128, 128] (k0_off1_inb i 2)) = k1
    generalize j2 : View.ld x2 (Rect.unit (s := S1x16x128x128) (k0_off2 i 2#32) ![1, 1, 128, 128] (k0_off2_inb i 2)) = k2
    generalize j3 : View.ld x2 (Rect.unit (s := S1x16x128x128) (k0_off3 i 2#32) ![1, 1, 128, 128] (k0_off3_inb i 2)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 2#32) ![1, 128, 128] (k0_off4_inb i 2)) = v1
    generalize j7 : View.ld x4 (Rect.unit (s := S1x2048x128) (k0_off5 i 2#32) ![1, 128, 128] (k0_off5_inb i 2)) = v2
    generalize j8 : View.ld x4 (Rect.unit (s := S1x2048x128) (k0_off6 i 2#32) ![1, 128, 128] (k0_off6_inb i 2)) = v3
    generalize j9 : View.ld x1 (Rect.unit (s := S1x1024x1024) ![0, 256, 0] ![1, 128, 128] inb_S1x1024x1024_S1x128x128_0_256_0) = qe
    generalize j10 : View.ld x1 (Rect.unit (s := S1x1024x1024) ![0, 256, 128] ![1, 128, 128] inb_S1x1024x1024_S1x128x128_0_256_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 2#32 = w
    refine Eq.trans (b := tileLo w k1 k2 k3 k4 k5 v1 v2 v3 x5 qe qo ae ao x) rfl ?_
    subst j1 j2 j3 j4 j5 j6 j7 j8 j9 j10 j11 j12 j13
    rfl
  case piece22 =>
    refine cell_lo (u := 2) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 2#32) ![1, 1, 128, 128] (k0_off1_inb i 2)) = k1
    generalize j2 : View.ld x2 (Rect.unit (s := S1x16x128x128) (k0_off2 i 2#32) ![1, 1, 128, 128] (k0_off2_inb i 2)) = k2
    generalize j3 : View.ld x2 (Rect.unit (s := S1x16x128x128) (k0_off3 i 2#32) ![1, 1, 128, 128] (k0_off3_inb i 2)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 2#32) ![1, 128, 128] (k0_off4_inb i 2)) = v1
    generalize j7 : View.ld x4 (Rect.unit (s := S1x2048x128) (k0_off5 i 2#32) ![1, 128, 128] (k0_off5_inb i 2)) = v2
    generalize j8 : View.ld x4 (Rect.unit (s := S1x2048x128) (k0_off6 i 2#32) ![1, 128, 128] (k0_off6_inb i 2)) = v3
    generalize j9 : View.ld x1 (Rect.unit (s := S1x1024x1024) ![0, 256, 256] ![1, 128, 128] inb_S1x1024x1024_S1x128x128_0_256_256) = qe
    generalize j10 : View.ld x1 (Rect.unit (s := S1x1024x1024) ![0, 256, 384] ![1, 128, 128] inb_S1x1024x1024_S1x128x128_0_256_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 2#32 = w
    refine Eq.trans (b := tileLo w k1 k2 k3 k4 k5 v1 v2 v3 x5 qe qo ae ao x) rfl ?_
    subst j1 j2 j3 j4 j5 j6 j7 j8 j9 j10 j11 j12 j13
    rfl
  case piece21 =>
    refine cell_hi (u := 2) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 2#32) ![1, 1, 128, 128] (k0_off1_inb i 2)) = k1
    generalize j2 : View.ld x2 (Rect.unit (s := S1x16x128x128) (k0_off2 i 2#32) ![1, 1, 128, 128] (k0_off2_inb i 2)) = k2
    generalize j3 : View.ld x2 (Rect.unit (s := S1x16x128x128) (k0_off3 i 2#32) ![1, 1, 128, 128] (k0_off3_inb i 2)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 2#32) ![1, 128, 128] (k0_off4_inb i 2)) = v1
    generalize j7 : View.ld x4 (Rect.unit (s := S1x2048x128) (k0_off5 i 2#32) ![1, 128, 128] (k0_off5_inb i 2)) = v2
    generalize j8 : View.ld x4 (Rect.unit (s := S1x2048x128) (k0_off6 i 2#32) ![1, 128, 128] (k0_off6_inb i 2)) = v3
    generalize j9 : View.ld x1 (Rect.unit (s := S1x1024x1024) ![0, 256, 512] ![1, 128, 128] inb_S1x1024x1024_S1x128x128_0_256_512) = qe
    generalize j10 : View.ld x1 (Rect.unit (s := S1x1024x1024) ![0, 256, 640] ![1, 128, 128] inb_S1x1024x1024_S1x128x128_0_256_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 2#32 = w
    refine Eq.trans (b := tileHi w k1 k2 k3 k4 k5 v1 v2 v3 x5 qe qo ae ao x) rfl ?_
    subst j1 j2 j3 j4 j5 j6 j7 j8 j9 j10 j11 j12 j13
    rfl
  case piece20 =>
    refine cell_hi (u := 2) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 2#32) ![1, 1, 128, 128] (k0_off1_inb i 2)) = k1
    generalize j2 : View.ld x2 (Rect.unit (s := S1x16x128x128) (k0_off2 i 2#32) ![1, 1, 128, 128] (k0_off2_inb i 2)) = k2
    generalize j3 : View.ld x2 (Rect.unit (s := S1x16x128x128) (k0_off3 i 2#32) ![1, 1, 128, 128] (k0_off3_inb i 2)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 2#32) ![1, 128, 128] (k0_off4_inb i 2)) = v1
    generalize j7 : View.ld x4 (Rect.unit (s := S1x2048x128) (k0_off5 i 2#32) ![1, 128, 128] (k0_off5_inb i 2)) = v2
    generalize j8 : View.ld x4 (Rect.unit (s := S1x2048x128) (k0_off6 i 2#32) ![1, 128, 128] (k0_off6_inb i 2)) = v3
    generalize j9 : View.ld x1 (Rect.unit (s := S1x1024x1024) ![0, 256, 768] ![1, 128, 128] inb_S1x1024x1024_S1x128x128_0_256_768) = qe
    generalize j10 : View.ld x1 (Rect.unit (s := S1x1024x1024) ![0, 256, 896] ![1, 128, 128] inb_S1x1024x1024_S1x128x128_0_256_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 2#32 = w
    refine Eq.trans (b := tileHi w k1 k2 k3 k4 k5 v1 v2 v3 x5 qe qo ae ao x) rfl ?_
    subst j1 j2 j3 j4 j5 j6 j7 j8 j9 j10 j11 j12 j13
    rfl
  case piece19 =>
    refine cell_lo (u := 3) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 3#32) ![1, 1, 128, 128] (k0_off1_inb i 3)) = k1
    generalize j2 : View.ld x2 (Rect.unit (s := S1x16x128x128) (k0_off2 i 3#32) ![1, 1, 128, 128] (k0_off2_inb i 3)) = k2
    generalize j3 : View.ld x2 (Rect.unit (s := S1x16x128x128) (k0_off3 i 3#32) ![1, 1, 128, 128] (k0_off3_inb i 3)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 3#32) ![1, 128, 128] (k0_off4_inb i 3)) = v1
    generalize j7 : View.ld x4 (Rect.unit (s := S1x2048x128) (k0_off5 i 3#32) ![1, 128, 128] (k0_off5_inb i 3)) = v2
    generalize j8 : View.ld x4 (Rect.unit (s := S1x2048x128) (k0_off6 i 3#32) ![1, 128, 128] (k0_off6_inb i 3)) = v3
    generalize j9 : View.ld x1 (Rect.unit (s := S1x1024x1024) ![0, 384, 0] ![1, 128, 128] inb_S1x1024x1024_S1x128x128_0_384_0) = qe
    generalize j10 : View.ld x1 (Rect.unit (s := S1x1024x1024) ![0, 384, 128] ![1, 128, 128] inb_S1x1024x1024_S1x128x128_0_384_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 3#32 = w
    refine Eq.trans (b := tileLo w k1 k2 k3 k4 k5 v1 v2 v3 x5 qe qo ae ao x) rfl ?_
    subst j1 j2 j3 j4 j5 j6 j7 j8 j9 j10 j11 j12 j13
    rfl
  case piece18 =>
    refine cell_lo (u := 3) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 3#32) ![1, 1, 128, 128] (k0_off1_inb i 3)) = k1
    generalize j2 : View.ld x2 (Rect.unit (s := S1x16x128x128) (k0_off2 i 3#32) ![1, 1, 128, 128] (k0_off2_inb i 3)) = k2
    generalize j3 : View.ld x2 (Rect.unit (s := S1x16x128x128) (k0_off3 i 3#32) ![1, 1, 128, 128] (k0_off3_inb i 3)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 3#32) ![1, 128, 128] (k0_off4_inb i 3)) = v1
    generalize j7 : View.ld x4 (Rect.unit (s := S1x2048x128) (k0_off5 i 3#32) ![1, 128, 128] (k0_off5_inb i 3)) = v2
    generalize j8 : View.ld x4 (Rect.unit (s := S1x2048x128) (k0_off6 i 3#32) ![1, 128, 128] (k0_off6_inb i 3)) = v3
    generalize j9 : View.ld x1 (Rect.unit (s := S1x1024x1024) ![0, 384, 256] ![1, 128, 128] inb_S1x1024x1024_S1x128x128_0_384_256) = qe
    generalize j10 : View.ld x1 (Rect.unit (s := S1x1024x1024) ![0, 384, 384] ![1, 128, 128] inb_S1x1024x1024_S1x128x128_0_384_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 3#32 = w
    refine Eq.trans (b := tileLo w k1 k2 k3 k4 k5 v1 v2 v3 x5 qe qo ae ao x) rfl ?_
    subst j1 j2 j3 j4 j5 j6 j7 j8 j9 j10 j11 j12 j13
    rfl
  case piece17 =>
    refine cell_hi (u := 3) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 3#32) ![1, 1, 128, 128] (k0_off1_inb i 3)) = k1
    generalize j2 : View.ld x2 (Rect.unit (s := S1x16x128x128) (k0_off2 i 3#32) ![1, 1, 128, 128] (k0_off2_inb i 3)) = k2
    generalize j3 : View.ld x2 (Rect.unit (s := S1x16x128x128) (k0_off3 i 3#32) ![1, 1, 128, 128] (k0_off3_inb i 3)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 3#32) ![1, 128, 128] (k0_off4_inb i 3)) = v1
    generalize j7 : View.ld x4 (Rect.unit (s := S1x2048x128) (k0_off5 i 3#32) ![1, 128, 128] (k0_off5_inb i 3)) = v2
    generalize j8 : View.ld x4 (Rect.unit (s := S1x2048x128) (k0_off6 i 3#32) ![1, 128, 128] (k0_off6_inb i 3)) = v3
    generalize j9 : View.ld x1 (Rect.unit (s := S1x1024x1024) ![0, 384, 512] ![1, 128, 128] inb_S1x1024x1024_S1x128x128_0_384_512) = qe
    generalize j10 : View.ld x1 (Rect.unit (s := S1x1024x1024) ![0, 384, 640] ![1, 128, 128] inb_S1x1024x1024_S1x128x128_0_384_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 3#32 = w
    refine Eq.trans (b := tileHi w k1 k2 k3 k4 k5 v1 v2 v3 x5 qe qo ae ao x) rfl ?_
    subst j1 j2 j3 j4 j5 j6 j7 j8 j9 j10 j11 j12 j13
    rfl
  case piece16 =>
    refine cell_hi (u := 3) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 3#32) ![1, 1, 128, 128] (k0_off1_inb i 3)) = k1
    generalize j2 : View.ld x2 (Rect.unit (s := S1x16x128x128) (k0_off2 i 3#32) ![1, 1, 128, 128] (k0_off2_inb i 3)) = k2
    generalize j3 : View.ld x2 (Rect.unit (s := S1x16x128x128) (k0_off3 i 3#32) ![1, 1, 128, 128] (k0_off3_inb i 3)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 3#32) ![1, 128, 128] (k0_off4_inb i 3)) = v1
    generalize j7 : View.ld x4 (Rect.unit (s := S1x2048x128) (k0_off5 i 3#32) ![1, 128, 128] (k0_off5_inb i 3)) = v2
    generalize j8 : View.ld x4 (Rect.unit (s := S1x2048x128) (k0_off6 i 3#32) ![1, 128, 128] (k0_off6_inb i 3)) = v3
    generalize j9 : View.ld x1 (Rect.unit (s := S1x1024x1024) ![0, 384, 768] ![1, 128, 128] inb_S1x1024x1024_S1x128x128_0_384_768) = qe
    generalize j10 : View.ld x1 (Rect.unit (s := S1x1024x1024) ![0, 384, 896] ![1, 128, 128] inb_S1x1024x1024_S1x128x128_0_384_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 3#32 = w
    refine Eq.trans (b := tileHi w k1 k2 k3 k4 k5 v1 v2 v3 x5 qe qo ae ao x) rfl ?_
    subst j1 j2 j3 j4 j5 j6 j7 j8 j9 j10 j11 j12 j13
    rfl
  case piece15 =>
    refine cell_lo (u := 4) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 4#32) ![1, 1, 128, 128] (k0_off1_inb i 4)) = k1
    generalize j2 : View.ld x2 (Rect.unit (s := S1x16x128x128) (k0_off2 i 4#32) ![1, 1, 128, 128] (k0_off2_inb i 4)) = k2
    generalize j3 : View.ld x2 (Rect.unit (s := S1x16x128x128) (k0_off3 i 4#32) ![1, 1, 128, 128] (k0_off3_inb i 4)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 4#32) ![1, 128, 128] (k0_off4_inb i 4)) = v1
    generalize j7 : View.ld x4 (Rect.unit (s := S1x2048x128) (k0_off5 i 4#32) ![1, 128, 128] (k0_off5_inb i 4)) = v2
    generalize j8 : View.ld x4 (Rect.unit (s := S1x2048x128) (k0_off6 i 4#32) ![1, 128, 128] (k0_off6_inb i 4)) = v3
    generalize j9 : View.ld x1 (Rect.unit (s := S1x1024x1024) ![0, 512, 0] ![1, 128, 128] inb_S1x1024x1024_S1x128x128_0_512_0) = qe
    generalize j10 : View.ld x1 (Rect.unit (s := S1x1024x1024) ![0, 512, 128] ![1, 128, 128] inb_S1x1024x1024_S1x128x128_0_512_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 4#32 = w
    refine Eq.trans (b := tileLo w k1 k2 k3 k4 k5 v1 v2 v3 x5 qe qo ae ao x) rfl ?_
    subst j1 j2 j3 j4 j5 j6 j7 j8 j9 j10 j11 j12 j13
    rfl
  case piece14 =>
    refine cell_lo (u := 4) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 4#32) ![1, 1, 128, 128] (k0_off1_inb i 4)) = k1
    generalize j2 : View.ld x2 (Rect.unit (s := S1x16x128x128) (k0_off2 i 4#32) ![1, 1, 128, 128] (k0_off2_inb i 4)) = k2
    generalize j3 : View.ld x2 (Rect.unit (s := S1x16x128x128) (k0_off3 i 4#32) ![1, 1, 128, 128] (k0_off3_inb i 4)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 4#32) ![1, 128, 128] (k0_off4_inb i 4)) = v1
    generalize j7 : View.ld x4 (Rect.unit (s := S1x2048x128) (k0_off5 i 4#32) ![1, 128, 128] (k0_off5_inb i 4)) = v2
    generalize j8 : View.ld x4 (Rect.unit (s := S1x2048x128) (k0_off6 i 4#32) ![1, 128, 128] (k0_off6_inb i 4)) = v3
    generalize j9 : View.ld x1 (Rect.unit (s := S1x1024x1024) ![0, 512, 256] ![1, 128, 128] inb_S1x1024x1024_S1x128x128_0_512_256) = qe
    generalize j10 : View.ld x1 (Rect.unit (s := S1x1024x1024) ![0, 512, 384] ![1, 128, 128] inb_S1x1024x1024_S1x128x128_0_512_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 4#32 = w
    refine Eq.trans (b := tileLo w k1 k2 k3 k4 k5 v1 v2 v3 x5 qe qo ae ao x) rfl ?_
    subst j1 j2 j3 j4 j5 j6 j7 j8 j9 j10 j11 j12 j13
    rfl
  case piece13 =>
    refine cell_hi (u := 4) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 4#32) ![1, 1, 128, 128] (k0_off1_inb i 4)) = k1
    generalize j2 : View.ld x2 (Rect.unit (s := S1x16x128x128) (k0_off2 i 4#32) ![1, 1, 128, 128] (k0_off2_inb i 4)) = k2
    generalize j3 : View.ld x2 (Rect.unit (s := S1x16x128x128) (k0_off3 i 4#32) ![1, 1, 128, 128] (k0_off3_inb i 4)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 4#32) ![1, 128, 128] (k0_off4_inb i 4)) = v1
    generalize j7 : View.ld x4 (Rect.unit (s := S1x2048x128) (k0_off5 i 4#32) ![1, 128, 128] (k0_off5_inb i 4)) = v2
    generalize j8 : View.ld x4 (Rect.unit (s := S1x2048x128) (k0_off6 i 4#32) ![1, 128, 128] (k0_off6_inb i 4)) = v3
    generalize j9 : View.ld x1 (Rect.unit (s := S1x1024x1024) ![0, 512, 512] ![1, 128, 128] inb_S1x1024x1024_S1x128x128_0_512_512) = qe
    generalize j10 : View.ld x1 (Rect.unit (s := S1x1024x1024) ![0, 512, 640] ![1, 128, 128] inb_S1x1024x1024_S1x128x128_0_512_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 4#32 = w
    refine Eq.trans (b := tileHi w k1 k2 k3 k4 k5 v1 v2 v3 x5 qe qo ae ao x) rfl ?_
    subst j1 j2 j3 j4 j5 j6 j7 j8 j9 j10 j11 j12 j13
    rfl
  case piece12 =>
    refine cell_hi (u := 4) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 4#32) ![1, 1, 128, 128] (k0_off1_inb i 4)) = k1
    generalize j2 : View.ld x2 (Rect.unit (s := S1x16x128x128) (k0_off2 i 4#32) ![1, 1, 128, 128] (k0_off2_inb i 4)) = k2
    generalize j3 : View.ld x2 (Rect.unit (s := S1x16x128x128) (k0_off3 i 4#32) ![1, 1, 128, 128] (k0_off3_inb i 4)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 4#32) ![1, 128, 128] (k0_off4_inb i 4)) = v1
    generalize j7 : View.ld x4 (Rect.unit (s := S1x2048x128) (k0_off5 i 4#32) ![1, 128, 128] (k0_off5_inb i 4)) = v2
    generalize j8 : View.ld x4 (Rect.unit (s := S1x2048x128) (k0_off6 i 4#32) ![1, 128, 128] (k0_off6_inb i 4)) = v3
    generalize j9 : View.ld x1 (Rect.unit (s := S1x1024x1024) ![0, 512, 768] ![1, 128, 128] inb_S1x1024x1024_S1x128x128_0_512_768) = qe
    generalize j10 : View.ld x1 (Rect.unit (s := S1x1024x1024) ![0, 512, 896] ![1, 128, 128] inb_S1x1024x1024_S1x128x128_0_512_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 4#32 = w
    refine Eq.trans (b := tileHi w k1 k2 k3 k4 k5 v1 v2 v3 x5 qe qo ae ao x) rfl ?_
    subst j1 j2 j3 j4 j5 j6 j7 j8 j9 j10 j11 j12 j13
    rfl
  case piece11 =>
    refine cell_lo (u := 5) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 5#32) ![1, 1, 128, 128] (k0_off1_inb i 5)) = k1
    generalize j2 : View.ld x2 (Rect.unit (s := S1x16x128x128) (k0_off2 i 5#32) ![1, 1, 128, 128] (k0_off2_inb i 5)) = k2
    generalize j3 : View.ld x2 (Rect.unit (s := S1x16x128x128) (k0_off3 i 5#32) ![1, 1, 128, 128] (k0_off3_inb i 5)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 5#32) ![1, 128, 128] (k0_off4_inb i 5)) = v1
    generalize j7 : View.ld x4 (Rect.unit (s := S1x2048x128) (k0_off5 i 5#32) ![1, 128, 128] (k0_off5_inb i 5)) = v2
    generalize j8 : View.ld x4 (Rect.unit (s := S1x2048x128) (k0_off6 i 5#32) ![1, 128, 128] (k0_off6_inb i 5)) = v3
    generalize j9 : View.ld x1 (Rect.unit (s := S1x1024x1024) ![0, 640, 0] ![1, 128, 128] inb_S1x1024x1024_S1x128x128_0_640_0) = qe
    generalize j10 : View.ld x1 (Rect.unit (s := S1x1024x1024) ![0, 640, 128] ![1, 128, 128] inb_S1x1024x1024_S1x128x128_0_640_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 5#32 = w
    refine Eq.trans (b := tileLo w k1 k2 k3 k4 k5 v1 v2 v3 x5 qe qo ae ao x) rfl ?_
    subst j1 j2 j3 j4 j5 j6 j7 j8 j9 j10 j11 j12 j13
    rfl
  case piece10 =>
    refine cell_lo (u := 5) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 5#32) ![1, 1, 128, 128] (k0_off1_inb i 5)) = k1
    generalize j2 : View.ld x2 (Rect.unit (s := S1x16x128x128) (k0_off2 i 5#32) ![1, 1, 128, 128] (k0_off2_inb i 5)) = k2
    generalize j3 : View.ld x2 (Rect.unit (s := S1x16x128x128) (k0_off3 i 5#32) ![1, 1, 128, 128] (k0_off3_inb i 5)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 5#32) ![1, 128, 128] (k0_off4_inb i 5)) = v1
    generalize j7 : View.ld x4 (Rect.unit (s := S1x2048x128) (k0_off5 i 5#32) ![1, 128, 128] (k0_off5_inb i 5)) = v2
    generalize j8 : View.ld x4 (Rect.unit (s := S1x2048x128) (k0_off6 i 5#32) ![1, 128, 128] (k0_off6_inb i 5)) = v3
    generalize j9 : View.ld x1 (Rect.unit (s := S1x1024x1024) ![0, 640, 256] ![1, 128, 128] inb_S1x1024x1024_S1x128x128_0_640_256) = qe
    generalize j10 : View.ld x1 (Rect.unit (s := S1x1024x1024) ![0, 640, 384] ![1, 128, 128] inb_S1x1024x1024_S1x128x128_0_640_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 5#32 = w
    refine Eq.trans (b := tileLo w k1 k2 k3 k4 k5 v1 v2 v3 x5 qe qo ae ao x) rfl ?_
    subst j1 j2 j3 j4 j5 j6 j7 j8 j9 j10 j11 j12 j13
    rfl
  case piece9 =>
    refine cell_hi (u := 5) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 5#32) ![1, 1, 128, 128] (k0_off1_inb i 5)) = k1
    generalize j2 : View.ld x2 (Rect.unit (s := S1x16x128x128) (k0_off2 i 5#32) ![1, 1, 128, 128] (k0_off2_inb i 5)) = k2
    generalize j3 : View.ld x2 (Rect.unit (s := S1x16x128x128) (k0_off3 i 5#32) ![1, 1, 128, 128] (k0_off3_inb i 5)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 5#32) ![1, 128, 128] (k0_off4_inb i 5)) = v1
    generalize j7 : View.ld x4 (Rect.unit (s := S1x2048x128) (k0_off5 i 5#32) ![1, 128, 128] (k0_off5_inb i 5)) = v2
    generalize j8 : View.ld x4 (Rect.unit (s := S1x2048x128) (k0_off6 i 5#32) ![1, 128, 128] (k0_off6_inb i 5)) = v3
    generalize j9 : View.ld x1 (Rect.unit (s := S1x1024x1024) ![0, 640, 512] ![1, 128, 128] inb_S1x1024x1024_S1x128x128_0_640_512) = qe
    generalize j10 : View.ld x1 (Rect.unit (s := S1x1024x1024) ![0, 640, 640] ![1, 128, 128] inb_S1x1024x1024_S1x128x128_0_640_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 5#32 = w
    refine Eq.trans (b := tileHi w k1 k2 k3 k4 k5 v1 v2 v3 x5 qe qo ae ao x) rfl ?_
    subst j1 j2 j3 j4 j5 j6 j7 j8 j9 j10 j11 j12 j13
    rfl
  case piece8 =>
    refine cell_hi (u := 5) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 5#32) ![1, 1, 128, 128] (k0_off1_inb i 5)) = k1
    generalize j2 : View.ld x2 (Rect.unit (s := S1x16x128x128) (k0_off2 i 5#32) ![1, 1, 128, 128] (k0_off2_inb i 5)) = k2
    generalize j3 : View.ld x2 (Rect.unit (s := S1x16x128x128) (k0_off3 i 5#32) ![1, 1, 128, 128] (k0_off3_inb i 5)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 5#32) ![1, 128, 128] (k0_off4_inb i 5)) = v1
    generalize j7 : View.ld x4 (Rect.unit (s := S1x2048x128) (k0_off5 i 5#32) ![1, 128, 128] (k0_off5_inb i 5)) = v2
    generalize j8 : View.ld x4 (Rect.unit (s := S1x2048x128) (k0_off6 i 5#32) ![1, 128, 128] (k0_off6_inb i 5)) = v3
    generalize j9 : View.ld x1 (Rect.unit (s := S1x1024x1024) ![0, 640, 768] ![1, 128, 128] inb_S1x1024x1024_S1x128x128_0_640_768) = qe
    generalize j10 : View.ld x1 (Rect.unit (s := S1x1024x1024) ![0, 640, 896] ![1, 128, 128] inb_S1x1024x1024_S1x128x128_0_640_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 5#32 = w
    refine Eq.trans (b := tileHi w k1 k2 k3 k4 k5 v1 v2 v3 x5 qe qo ae ao x) rfl ?_
    subst j1 j2 j3 j4 j5 j6 j7 j8 j9 j10 j11 j12 j13
    rfl
  case piece7 =>
    refine cell_lo (u := 6) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 6#32) ![1, 1, 128, 128] (k0_off1_inb i 6)) = k1
    generalize j2 : View.ld x2 (Rect.unit (s := S1x16x128x128) (k0_off2 i 6#32) ![1, 1, 128, 128] (k0_off2_inb i 6)) = k2
    generalize j3 : View.ld x2 (Rect.unit (s := S1x16x128x128) (k0_off3 i 6#32) ![1, 1, 128, 128] (k0_off3_inb i 6)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 6#32) ![1, 128, 128] (k0_off4_inb i 6)) = v1
    generalize j7 : View.ld x4 (Rect.unit (s := S1x2048x128) (k0_off5 i 6#32) ![1, 128, 128] (k0_off5_inb i 6)) = v2
    generalize j8 : View.ld x4 (Rect.unit (s := S1x2048x128) (k0_off6 i 6#32) ![1, 128, 128] (k0_off6_inb i 6)) = v3
    generalize j9 : View.ld x1 (Rect.unit (s := S1x1024x1024) ![0, 768, 0] ![1, 128, 128] inb_S1x1024x1024_S1x128x128_0_768_0) = qe
    generalize j10 : View.ld x1 (Rect.unit (s := S1x1024x1024) ![0, 768, 128] ![1, 128, 128] inb_S1x1024x1024_S1x128x128_0_768_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 6#32 = w
    refine Eq.trans (b := tileLo w k1 k2 k3 k4 k5 v1 v2 v3 x5 qe qo ae ao x) rfl ?_
    subst j1 j2 j3 j4 j5 j6 j7 j8 j9 j10 j11 j12 j13
    rfl
  case piece6 =>
    refine cell_lo (u := 6) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 6#32) ![1, 1, 128, 128] (k0_off1_inb i 6)) = k1
    generalize j2 : View.ld x2 (Rect.unit (s := S1x16x128x128) (k0_off2 i 6#32) ![1, 1, 128, 128] (k0_off2_inb i 6)) = k2
    generalize j3 : View.ld x2 (Rect.unit (s := S1x16x128x128) (k0_off3 i 6#32) ![1, 1, 128, 128] (k0_off3_inb i 6)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 6#32) ![1, 128, 128] (k0_off4_inb i 6)) = v1
    generalize j7 : View.ld x4 (Rect.unit (s := S1x2048x128) (k0_off5 i 6#32) ![1, 128, 128] (k0_off5_inb i 6)) = v2
    generalize j8 : View.ld x4 (Rect.unit (s := S1x2048x128) (k0_off6 i 6#32) ![1, 128, 128] (k0_off6_inb i 6)) = v3
    generalize j9 : View.ld x1 (Rect.unit (s := S1x1024x1024) ![0, 768, 256] ![1, 128, 128] inb_S1x1024x1024_S1x128x128_0_768_256) = qe
    generalize j10 : View.ld x1 (Rect.unit (s := S1x1024x1024) ![0, 768, 384] ![1, 128, 128] inb_S1x1024x1024_S1x128x128_0_768_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 6#32 = w
    refine Eq.trans (b := tileLo w k1 k2 k3 k4 k5 v1 v2 v3 x5 qe qo ae ao x) rfl ?_
    subst j1 j2 j3 j4 j5 j6 j7 j8 j9 j10 j11 j12 j13
    rfl
  case piece5 =>
    refine cell_hi (u := 6) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 6#32) ![1, 1, 128, 128] (k0_off1_inb i 6)) = k1
    generalize j2 : View.ld x2 (Rect.unit (s := S1x16x128x128) (k0_off2 i 6#32) ![1, 1, 128, 128] (k0_off2_inb i 6)) = k2
    generalize j3 : View.ld x2 (Rect.unit (s := S1x16x128x128) (k0_off3 i 6#32) ![1, 1, 128, 128] (k0_off3_inb i 6)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 6#32) ![1, 128, 128] (k0_off4_inb i 6)) = v1
    generalize j7 : View.ld x4 (Rect.unit (s := S1x2048x128) (k0_off5 i 6#32) ![1, 128, 128] (k0_off5_inb i 6)) = v2
    generalize j8 : View.ld x4 (Rect.unit (s := S1x2048x128) (k0_off6 i 6#32) ![1, 128, 128] (k0_off6_inb i 6)) = v3
    generalize j9 : View.ld x1 (Rect.unit (s := S1x1024x1024) ![0, 768, 512] ![1, 128, 128] inb_S1x1024x1024_S1x128x128_0_768_512) = qe
    generalize j10 : View.ld x1 (Rect.unit (s := S1x1024x1024) ![0, 768, 640] ![1, 128, 128] inb_S1x1024x1024_S1x128x128_0_768_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 6#32 = w
    refine Eq.trans (b := tileHi w k1 k2 k3 k4 k5 v1 v2 v3 x5 qe qo ae ao x) rfl ?_
    subst j1 j2 j3 j4 j5 j6 j7 j8 j9 j10 j11 j12 j13
    rfl
  case piece4 =>
    refine cell_hi (u := 6) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 6#32) ![1, 1, 128, 128] (k0_off1_inb i 6)) = k1
    generalize j2 : View.ld x2 (Rect.unit (s := S1x16x128x128) (k0_off2 i 6#32) ![1, 1, 128, 128] (k0_off2_inb i 6)) = k2
    generalize j3 : View.ld x2 (Rect.unit (s := S1x16x128x128) (k0_off3 i 6#32) ![1, 1, 128, 128] (k0_off3_inb i 6)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 6#32) ![1, 128, 128] (k0_off4_inb i 6)) = v1
    generalize j7 : View.ld x4 (Rect.unit (s := S1x2048x128) (k0_off5 i 6#32) ![1, 128, 128] (k0_off5_inb i 6)) = v2
    generalize j8 : View.ld x4 (Rect.unit (s := S1x2048x128) (k0_off6 i 6#32) ![1, 128, 128] (k0_off6_inb i 6)) = v3
    generalize j9 : View.ld x1 (Rect.unit (s := S1x1024x1024) ![0, 768, 768] ![1, 128, 128] inb_S1x1024x1024_S1x128x128_0_768_768) = qe
    generalize j10 : View.ld x1 (Rect.unit (s := S1x1024x1024) ![0, 768, 896] ![1, 128, 128] inb_S1x1024x1024_S1x128x128_0_768_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 6#32 = w
    refine Eq.trans (b := tileHi w k1 k2 k3 k4 k5 v1 v2 v3 x5 qe qo ae ao x) rfl ?_
    subst j1 j2 j3 j4 j5 j6 j7 j8 j9 j10 j11 j12 j13
    rfl
  case piece3 =>
    refine cell_lo (u := 7) (g := 0) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 7#32) ![1, 1, 128, 128] (k0_off1_inb i 7)) = k1
    generalize j2 : View.ld x2 (Rect.unit (s := S1x16x128x128) (k0_off2 i 7#32) ![1, 1, 128, 128] (k0_off2_inb i 7)) = k2
    generalize j3 : View.ld x2 (Rect.unit (s := S1x16x128x128) (k0_off3 i 7#32) ![1, 1, 128, 128] (k0_off3_inb i 7)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 7#32) ![1, 128, 128] (k0_off4_inb i 7)) = v1
    generalize j7 : View.ld x4 (Rect.unit (s := S1x2048x128) (k0_off5 i 7#32) ![1, 128, 128] (k0_off5_inb i 7)) = v2
    generalize j8 : View.ld x4 (Rect.unit (s := S1x2048x128) (k0_off6 i 7#32) ![1, 128, 128] (k0_off6_inb i 7)) = v3
    generalize j9 : View.ld x1 (Rect.unit (s := S1x1024x1024) ![0, 896, 0] ![1, 128, 128] inb_S1x1024x1024_S1x128x128_0_896_0) = qe
    generalize j10 : View.ld x1 (Rect.unit (s := S1x1024x1024) ![0, 896, 128] ![1, 128, 128] inb_S1x1024x1024_S1x128x128_0_896_128) = qo
    generalize j11 : View.ld x0 (Rect.unit (s := S8) ![0] ![1] inb_S8_S1_0) = ae
    generalize j12 : View.ld x0 (Rect.unit (s := S8) ![1] ![1] inb_S8_S1_1) = ao
    generalize j13 : Scalar.addi (Scalar.muli (BitVec.ofNat 32 ↑(i 1)) 8#32) 7#32 = w
    refine Eq.trans (b := tileLo w k1 k2 k3 k4 k5 v1 v2 v3 x5 qe qo ae ao x) rfl ?_
    subst j1 j2 j3 j4 j5 j6 j7 j8 j9 j10 j11 j12 j13
    rfl
  case piece2 =>
    refine cell_lo (u := 7) (g := 1) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 7#32) ![1, 1, 128, 128] (k0_off1_inb i 7)) = k1
    generalize j2 : View.ld x2 (Rect.unit (s := S1x16x128x128) (k0_off2 i 7#32) ![1, 1, 128, 128] (k0_off2_inb i 7)) = k2
    generalize j3 : View.ld x2 (Rect.unit (s := S1x16x128x128) (k0_off3 i 7#32) ![1, 1, 128, 128] (k0_off3_inb i 7)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 7#32) ![1, 128, 128] (k0_off4_inb i 7)) = v1
    generalize j7 : View.ld x4 (Rect.unit (s := S1x2048x128) (k0_off5 i 7#32) ![1, 128, 128] (k0_off5_inb i 7)) = v2
    generalize j8 : View.ld x4 (Rect.unit (s := S1x2048x128) (k0_off6 i 7#32) ![1, 128, 128] (k0_off6_inb i 7)) = v3
    generalize j9 : View.ld x1 (Rect.unit (s := S1x1024x1024) ![0, 896, 256] ![1, 128, 128] inb_S1x1024x1024_S1x128x128_0_896_256) = qe
    generalize j10 : View.ld x1 (Rect.unit (s := S1x1024x1024) ![0, 896, 384] ![1, 128, 128] inb_S1x1024x1024_S1x128x128_0_896_384) = qo
    generalize j11 : View.ld x0 (Rect.unit (s := S8) ![2] ![1] inb_S8_S1_2) = ae
    generalize j12 : View.ld x0 (Rect.unit (s := S8) ![3] ![1] inb_S8_S1_3) = ao
    generalize j13 : Scalar.addi (Scalar.muli (BitVec.ofNat 32 ↑(i 1)) 8#32) 7#32 = w
    refine Eq.trans (b := tileLo w k1 k2 k3 k4 k5 v1 v2 v3 x5 qe qo ae ao x) rfl ?_
    subst j1 j2 j3 j4 j5 j6 j7 j8 j9 j10 j11 j12 j13
    rfl
  case piece1 =>
    refine cell_hi (u := 7) (g := 2) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 7#32) ![1, 1, 128, 128] (k0_off1_inb i 7)) = k1
    generalize j2 : View.ld x2 (Rect.unit (s := S1x16x128x128) (k0_off2 i 7#32) ![1, 1, 128, 128] (k0_off2_inb i 7)) = k2
    generalize j3 : View.ld x2 (Rect.unit (s := S1x16x128x128) (k0_off3 i 7#32) ![1, 1, 128, 128] (k0_off3_inb i 7)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 7#32) ![1, 128, 128] (k0_off4_inb i 7)) = v1
    generalize j7 : View.ld x4 (Rect.unit (s := S1x2048x128) (k0_off5 i 7#32) ![1, 128, 128] (k0_off5_inb i 7)) = v2
    generalize j8 : View.ld x4 (Rect.unit (s := S1x2048x128) (k0_off6 i 7#32) ![1, 128, 128] (k0_off6_inb i 7)) = v3
    generalize j9 : View.ld x1 (Rect.unit (s := S1x1024x1024) ![0, 896, 512] ![1, 128, 128] inb_S1x1024x1024_S1x128x128_0_896_512) = qe
    generalize j10 : View.ld x1 (Rect.unit (s := S1x1024x1024) ![0, 896, 640] ![1, 128, 128] inb_S1x1024x1024_S1x128x128_0_896_640) = qo
    generalize j11 : View.ld x0 (Rect.unit (s := S8) ![4] ![1] inb_S8_S1_4) = ae
    generalize j12 : View.ld x0 (Rect.unit (s := S8) ![5] ![1] inb_S8_S1_5) = ao
    generalize j13 : Scalar.addi (Scalar.muli (BitVec.ofNat 32 ↑(i 1)) 8#32) 7#32 = w
    refine Eq.trans (b := tileHi w k1 k2 k3 k4 k5 v1 v2 v3 x5 qe qo ae ao x) rfl ?_
    subst j1 j2 j3 j4 j5 j6 j7 j8 j9 j10 j11 j12 j13
    rfl
  case piece0 =>
    refine cell_hi (u := 7) (g := 3) (x := x) (by simpa using h1) (by simpa using h2) (by decide) ?_
    generalize e0 : View.read (Elt Ideal) (ms0_0 t).view ((hs0_0 t).unread (iblk m c 0 t)) = x0
    generalize e1 : View.read (Elt Ideal) (ms0_1 t).view ((hs0_1 t).unread (iblk m c 1 t)) = x1
    generalize e2 : View.read (Elt Ideal) (ms0_2 t).view ((hs0_2 t).unread (iblk m c 2 t)) = x2
    generalize e3 : View.read (Elt Ideal) (ms0_3 t).view ((hs0_3 t).unread (iblk m c 3 t)) = x3
    generalize e4 : View.read (Elt Ideal) (ms0_4 t).view ((hs0_4 t).unread (iblk m c 4 t)) = x4
    generalize e5 : View.read (Elt Ideal) (ms0_5 t).view ((hs0_5 t).unread (iblk m c 5 t)) = x5
    rw [← e0.symm.trans r0, ← e1.symm.trans r1, ← e2.symm.trans r2, ← e3.symm.trans r3, ← e4.symm.trans r4, ← e5.symm.trans r5]
    clear e0 e1 e2 e3 e4 e5
    try rw [ld_all x5]
    generalize grid0.coords t = i
    generalize j1 : View.ld x2 (Rect.unit (s := S1x16x128x128) (k0_off1 i 7#32) ![1, 1, 128, 128] (k0_off1_inb i 7)) = k1
    generalize j2 : View.ld x2 (Rect.unit (s := S1x16x128x128) (k0_off2 i 7#32) ![1, 1, 128, 128] (k0_off2_inb i 7)) = k2
    generalize j3 : View.ld x2 (Rect.unit (s := S1x16x128x128) (k0_off3 i 7#32) ![1, 1, 128, 128] (k0_off3_inb i 7)) = k3
    generalize j4 : View.ld x3 (Rect.unit (s := S1x2x128x128) ![0, 0, 0, 0] ![1, 1, 128, 128] inb_S1x2x128x128_S1x1x128x128_0_0_0_0) = k4
    generalize j5 : View.ld x3 (Rect.unit (s := S1x2x128x128) ![0, 1, 0, 0] ![1, 1, 128, 128] inb_S1x2x128x128_S1x1x128x128_0_1_0_0) = k5
    generalize j6 : View.ld x4 (Rect.unit (s := S1x2048x128) (k0_off4 i 7#32) ![1, 128, 128] (k0_off4_inb i 7)) = v1
    generalize j7 : View.ld x4 (Rect.unit (s := S1x2048x128) (k0_off5 i 7#32) ![1, 128, 128] (k0_off5_inb i 7)) = v2
    generalize j8 : View.ld x4 (Rect.unit (s := S1x2048x128) (k0_off6 i 7#32) ![1, 128, 128] (k0_off6_inb i 7)) = v3
    generalize j9 : View.ld x1 (Rect.unit (s := S1x1024x1024) ![0, 896, 768] ![1, 128, 128] inb_S1x1024x1024_S1x128x128_0_896_768) = qe
    generalize j10 : View.ld x1 (Rect.unit (s := S1x1024x1024) ![0, 896, 896] ![1, 128, 128] inb_S1x1024x1024_S1x128x128_0_896_896) = qo
    generalize j11 : View.ld x0 (Rect.unit (s := S8) ![6] ![1] inb_S8_S1_6) = ae
    generalize j12 : View.ld x0 (Rect.unit (s := S8) ![7] ![1] inb_S8_S1_7) = ao
    generalize j13 : Scalar.addi (Scalar.muli (BitVec.ofNat 32 ↑(i 1)) 8#32) 7#32 = w
    refine Eq.trans (b := tileHi w k1 k2 k3 k4 k5 v1 v2 v3 x5 qe qo ae ao x) rfl ?_
    subst j1 j2 j3 j4 j5 j6 j7 j8 j9 j10 j11 j12 j13
    rfl

end Cert.AttnIdeal.Tile

end
-- ==== Proof.AttnFinal.lean ====
/- The attention kernel's result array as one function of its arguments. -/
module

public import proofs.«01_k».proof.Proof.AttnHost
public import proofs.«01_k».proof.Proof.AttnStored

@[expose] public section

set_option maxRecDepth 16384

noncomputable section

namespace Cert.AttnIdeal.Tile

open Cert.AttnIdeal Cert.AttnIdeal.Gen Cert.AttnSpec Idealize.ShloMosaic Idealize.ShloMosaic.TcCoe Idealize.SL.Sem

variable (m : (ℓ : Loc nD τ sig) → Buf (Elt Ideal) ℓ)

/-- No entry of an array is infinite. -/
def Finite {ι : Type} (A : ι → EReal) : Prop := ∀ i, A i = ((A i).toReal : EReal)

/-- One channel of one head's attention at a row of a block, from the six arrays. -/
def attn (A0 : S8x2048x8x64.Idx → EReal) (A1 A2 : S8x2048x2x64.Idx → EReal) (A3 A4 : S8x256x2x64.Idx → EReal) (A5 : S8.Idx → EReal)
    (b : Fin 8) (n : Fin 16) (p : Fin 128) (h : Fin 8) (e : Fin 64) : EReal :=
  head n.val p (fun d => A0 (ix4 b ⟨128 * n.val + p.val, by omega⟩ h d)) (fun d r => A1 (ix4 b r ⟨h.val / 4, by omega⟩ d))
    (fun d r => A3 (ix4 b r ⟨h.val / 4, by omega⟩ d)) (fun r => A2 (ix4 b r ⟨h.val / 4, by omega⟩ e))
    (fun r => A4 (ix4 b r ⟨h.val / 4, by omega⟩ e)) (A5 (ix1 h))

/-- The attention's result: at a token and a column, the column's head and channel at the token's row of its block. -/
def result (A0 : S8x2048x8x64.Idx → EReal) (A1 A2 : S8x2048x2x64.Idx → EReal) (A3 A4 : S8x256x2x64.Idx → EReal) (A5 : S8.Idx → EReal)
    (b : Fin 8) (t : Fin 2048) (k : Fin 512) : EReal :=
  attn A0 A1 A2 A3 A4 A5 b ⟨t.val / 128, by omega⟩ ⟨t.val % 128, by omega⟩ ⟨k.val / 64, by omega⟩ ⟨k.val % 64, by omega⟩

/-- The keys of a seen place are those of the band. -/
theorem keys_band (n : ℕ) (hn : n < 16) (p : Fin 128) (k1 k2 k3 k4 k5 : KeyPage) (A : Fin 2048 → EReal) (C : Fin 256 → EReal) (d : Fin 128)
    (h1 : ∀ j : Fin 128, k1 (ix4 0 0 d j) = A ⟨(n - 1) * 128 + j.val, by omega⟩)
    (h2 : ∀ j : Fin 128, k2 (ix4 0 0 d j) = A ⟨n * 128 + j.val, by omega⟩)
    (h3 : ∀ j : Fin 128, k3 (ix4 0 0 d j) = A ⟨min (n + 1) 15 * 128 + j.val, by omega⟩)
    (h4 : ∀ j : Fin 128, k4 (ix4 0 0 d j) = C ⟨0 * 128 + j.val, by omega⟩)
    (h5 : ∀ j : Fin 128, k5 (ix4 0 0 d j) = C ⟨1 * 128 + j.val, by omega⟩) (j : Fin 640) (hs : seen n p j) :
    keys k1 k2 k3 k4 k5 (ix2 d j) = band A C n j := by
  have hj := j.isLt
  have hp := p.isLt
  rw [keys_apply]
  unfold seen at hs
  unfold band
  by_cases c3 : j.val < 384
  · have hb : 128 ≤ 128 * n + j.val ∧ 128 * n + j.val < 2176 := by omega
    rw [dif_pos c3, dif_pos hb]
    by_cases c1 : j.val < 128
    · rw [dif_pos c1, h1]; exact congrArg A (Fin.ext (show (n - 1) * 128 + j.val = 128 * n + j.val - 128 by omega))
    · rw [dif_neg c1]
      by_cases c2 : j.val - 128 < 128
      · rw [dif_pos c2, h2]; exact congrArg A (Fin.ext (show n * 128 + (j.val - 128) = 128 * n + j.val - 128 by omega))
      · rw [dif_neg c2, dif_pos (show j.val - 128 - 128 < 128 by omega), h3]
        exact congrArg A (Fin.ext (show min (n + 1) 15 * 128 + (j.val - 128 - 128) = 128 * n + j.val - 128 by omega))
  · rw [dif_neg c3, dif_neg (show ¬ j.val < 128 by omega), dif_neg (show ¬ j.val - 128 < 128 by omega),
      dif_neg (show ¬ j.val - 128 - 128 < 128 by omega)]
    by_cases c4 : j.val - 128 - 128 - 128 < 128
    · rw [dif_pos c4, h4]; exact congrArg C (Fin.ext (show 0 * 128 + (j.val - 128 - 128 - 128) = j.val - 384 by omega))
    · rw [dif_neg c4, h5]; exact congrArg C (Fin.ext (show 1 * 128 + (j.val - 128 - 128 - 128 - 128) = j.val - 384 by omega))

/-- The values of a seen place are those of the band. -/
theorem vals_band (n : ℕ) (hn : n < 16) (p : Fin 128) (v1 v2 v3 : Page) (v4 : Vec Ideal S1x256x128 .bf16) (A : Fin 2048 → EReal)
    (C : Fin 256 → EReal) (d : Fin 128)
    (h1 : ∀ j : Fin 128, v1 (ix3 0 j d) = A ⟨128 * (n - 1) + j.val, by omega⟩)
    (h2 : ∀ j : Fin 128, v2 (ix3 0 j d) = A ⟨128 * n + j.val, by omega⟩)
    (h3 : ∀ j : Fin 128, v3 (ix3 0 j d) = A ⟨128 * min (n + 1) 15 + j.val, by omega⟩)
    (h4 : ∀ j : Fin 256, v4 (ix3 0 j d) = C j) (j : Fin 640) (hs : seen n p j) :
    vals v1 v2 v3 v4 (ix2 j d) = band A C n j := by
  have hj := j.isLt
  have hp := p.isLt
  rw [vals_apply]
  unfold seen at hs
  unfold band
  by_cases c3 : j.val < 384
  · have hb : 128 ≤ 128 * n + j.val ∧ 128 * n + j.val < 2176 := by omega
    rw [dif_pos c3, dif_pos hb]
    by_cases c1 : j.val < 128
    · rw [dif_pos c1, h1]; exact congrArg A (Fin.ext (show 128 * (n - 1) + j.val = 128 * n + j.val - 128 by omega))
    · rw [dif_neg c1]
      by_cases c2 : j.val - 128 < 128
      · rw [dif_pos c2, h2]; exact congrArg A (Fin.ext (show 128 * n + (j.val - 128) = 128 * n + j.val - 128 by omega))
      · rw [dif_neg c2, dif_pos (show j.val - 128 - 128 < 128 by omega), h3]
        exact congrArg A (Fin.ext (show 128 * min (n + 1) 15 + (j.val - 128 - 128) = 128 * n + j.val - 128 by omega))
  · rw [dif_neg c3, dif_neg (show ¬ j.val < 128 by omega), dif_neg (show ¬ j.val - 128 < 128 by omega),
      dif_neg (show ¬ j.val - 128 - 128 < 128 by omega), h4]
    exact congrArg C (Fin.ext (show j.val - 128 - 128 - 128 = j.val - 384 by omega))

/-- The number of block `u` of a grid point among its batch's sixteen. -/
def num (t : Fin cfg0.N) (u : Fin 8) : Fin 16 :=
  ⟨8 * (grid0.coords t 1).val + u.val, by have h : (grid0.coords t 1).val < 2 := (half t).isLt; omega⟩

/-- The page before, held inside the sequence. -/
def pred (n : Fin 16) : Fin 16 := ⟨n.val - 1, by omega⟩

/-- The page after, held inside the sequence. -/
def succ (n : Fin 16) : Fin 16 := ⟨min (n.val + 1) 15, by omega⟩

/-- The attention of the arrays that a device starts with. -/
abbrev attnOf (c : Dev nD) := attn (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The arrays that a device's scores are made of are finite. -/
structure Fine (c : Dev nD) : Prop where
  q : Finite (ι := S8x2048x8x64.Idx) (m ((c : Thread nD τ).loc main_arg0))
  k : Finite (ι := S8x2048x2x64.Idx) (m ((c : Thread nD τ).loc main_arg1))
  kc : Finite (ι := S8x256x2x64.Idx) (m ((c : Thread nD τ).loc main_arg3))
  s : Finite (ι := S8.Idx) (m ((c : Thread nD τ).loc main_arg5))

/-- A lane of a tile, from the loads' readings, is the attention of its head at its channel. -/
theorem lane_at (c : Dev nD) (hf : Fine m c) (t : Fin cfg0.N) (u : Fin 8) (p : Fin 128) (h : Fin 8) (col : Fin 128) (hcol : col.val / 64 = h.val / 4)
    (k1 k2 k3 k4 k5 : KeyPage) (v1 v2 v3 Q : Page) (a : Vec Ideal S1 .f32)
    (h1 : ∀ d j, k1 (ix4 0 0 d j) = iblk m c 2 t (ix4 0 (pred (num t u)) d j))
    (h2 : ∀ d j, k2 (ix4 0 0 d j) = iblk m c 2 t (ix4 0 (num t u) d j))
    (h3 : ∀ d j, k3 (ix4 0 0 d j) = iblk m c 2 t (ix4 0 (succ (num t u)) d j))
    (h4 : ∀ d j, k4 (ix4 0 0 d j) = iblk m c 3 t (ix4 0 0 d j)) (h5 : ∀ d j, k5 (ix4 0 0 d j) = iblk m c 3 t (ix4 0 1 d j))
    (w1 : ∀ j d, v1 (ix3 0 j d) = iblk m c 4 t (ix3 0 ⟨128 * (pred (num t u)).val + j.val, by omega⟩ d))
    (w2 : ∀ j d, v2 (ix3 0 j d) = iblk m c 4 t (ix3 0 ⟨128 * (num t u).val + j.val, by omega⟩ d))
    (w3 : ∀ j d, v3 (ix3 0 j d) = iblk m c 4 t (ix3 0 ⟨128 * (succ (num t u)).val + j.val, by omega⟩ d))
    (hQ : ∀ e : Fin 128, Q (ix3 0 p e) = iblk m c 1 t (ix3 0 ⟨128 * u.val + p.val, by omega⟩ ⟨128 * h.val + e.val, by omega⟩))
    (ha : a (ix1 0) = iblk m c 0 t (ix1 h)) :
    lane (seen (num t u).val p) (fun d j => keys k1 k2 k3 k4 k5 (ix2 d j)) (fun j => vals v1 v2 v3 (iblk m c 5 t) (ix2 j col))
        (fun d => Q (ix3 0 p d)) (sink a)
      = attnOf m c (bat t) (num t u) p h ⟨col.val % 64, by omega⟩ := by
  refine lane_head (num t u).val p _ _ _ _ ⟨h.val / 4, by omega⟩ _ _ _ _ _ _ (fun d => hf.q _) (fun d r => hf.k _) (fun d r => hf.kc _) (hf.s _)
    (fun e => ?_) (fun d j hs => ?_) (fun j hs => ?_) ?_
  · have ht : tok t ⟨128 * u.val + p.val, by omega⟩ = ⟨128 * (num t u).val + p.val, by omega⟩ :=
      Fin.ext (by show (grid0.coords t 1).val * 1024 + (128 * u.val + p.val) = 128 * (8 * (grid0.coords t 1).val + u.val) + p.val; omega)
    rw [hQ, blk1, ht]
    exact V12 m c (bat t) ⟨128 * (num t u).val + p.val, by omega⟩ h e
  · have e1 : (64 * (h.val / 4) + d.val) / 64 = h.val / 4 := by omega
    have e2 : (64 * (h.val / 4) + d.val) % 64 = d.val := by omega
    refine keys_band (num t u).val (num t u).isLt p _ _ _ _ _ (fun r => m ((c : Thread nD τ).loc main_arg1) (ix4 (bat t) r ⟨h.val / 4, by omega⟩ d))
      (fun r => m ((c : Thread nD τ).loc main_arg3) (ix4 (bat t) r ⟨h.val / 4, by omega⟩ d)) _
      (fun j => ?_) (fun j => ?_) (fun j => ?_) (fun j => ?_) (fun j => ?_) j hs
    · rw [h1, blk2, V15]; simp only [e1, e2]; rfl
    · rw [h2, blk2, V15]; simp only [e1, e2]
    · rw [h3, blk2, V15]; simp only [e1, e2]; rfl
    · rw [h4, blk3, V20]; simp only [e1, e2]; rfl
    · rw [h5, blk3, V20]; simp only [e1, e2]; rfl
  · have key : ∀ (r : Fin 2048), m ((c : Thread nD τ).loc main_arg2) (ix4 (bat t) r ⟨col.val / 64, by omega⟩ ⟨col.val % 64, by omega⟩)
        = m ((c : Thread nD τ).loc main_arg2) (ix4 (bat t) r ⟨h.val / 4, by omega⟩ ⟨col.val % 64, by omega⟩) := fun r => by simp only [hcol]
    have key' : ∀ (r : Fin 256), m ((c : Thread nD τ).loc main_arg4) (ix4 (bat t) r ⟨col.val / 64, by omega⟩ ⟨col.val % 64, by omega⟩)
        = m ((c : Thread nD τ).loc main_arg4) (ix4 (bat t) r ⟨h.val / 4, by omega⟩ ⟨col.val % 64, by omega⟩) := fun r => by simp only [hcol]
    refine vals_band (num t u).val (num t u).isLt p _ _ _ _ (fun r => m ((c : Thread nD τ).loc main_arg2) (ix4 (bat t) r ⟨h.val / 4, by omega⟩ ⟨col.val % 64, by omega⟩))
      (fun r => m ((c : Thread nD τ).loc main_arg4) (ix4 (bat t) r ⟨h.val / 4, by omega⟩ ⟨col.val % 64, by omega⟩)) _
      (fun j => ?_) (fun j => ?_) (fun j => ?_) (fun j => ?_) j hs
    · rw [w1, blk4, V17]; exact key _
    · rw [w2, blk4, V17]; exact key _
    · rw [w3, blk4, V17]; exact key _
    · rw [blk5, V22]; exact key' _
  · rw [sink_apply, ha, blk0]

/-- The attention does not depend on how its head and its channel are written. -/
theorem attn_congr (c : Dev nD) (t : Fin cfg0.N) (u : Fin 8) (p : Fin 128) {h h' : ℕ} {e e' : ℕ} {a1 a2 b1 b2} (hh : h = h') (he : e = e') :
    attnOf m c (bat t) (num t u) p ⟨h, a1⟩ ⟨e, b1⟩ = attnOf m c (bat t) (num t u) p ⟨h', a2⟩ ⟨e', b2⟩ := by
  subst hh he; rfl

/-- The stored block at a place of a tile is the attention of the place's head and channel. -/
theorem cell_head (c : Dev nD) (hf : Fine m c) (t : Fin cfg0.N) (u : Fin 8) (g : Fin 4) (p q : Fin 128) :
    cell (grid0.coords t) (iblk m c 0 t) (iblk m c 1 t) (iblk m c 2 t) (iblk m c 3 t) (iblk m c 4 t) (iblk m c 5 t) u g (ix3 0 p q)
      = attnOf m c (bat t) (num t u) p ⟨(128 * g.val + q.val) / 64, by omega⟩ ⟨(128 * g.val + q.val) % 64, by omega⟩ := by
  obtain ⟨o1, o2, o3, o4, o5, o6, -⟩ := offs t u
  have ow : word (grid0.coords t) u = BitVec.ofNat 32 (num t u).val := (offs t u).2.2.2.2.2.2
  have hg := g.isLt
  have hq' := q.isLt
  unfold cell
  by_cases h2 : g.val < 2
  · rw [if_pos h2]
    unfold blockLo
    rw [ow, tileLo_apply _ (num t u).isLt]
    by_cases hq : q.val < 64
    · rw [dif_pos hq]
      refine (lane_at m c hf t u p ⟨2 * g.val, by omega⟩ q (show q.val / 64 = (2 * g.val) / 4 by omega) _ _ _ _ _ _ _ _ _ _
        (fun d j => ld_page _ _ _ (pred (num t u)) o1 d j) (fun d j => ld_page _ _ _ (num t u) o2 d j) (fun d j => ld_page _ _ _ (succ (num t u)) o3 d j)
        (fun d j => ld_ctx _ 0 _ d j) (fun d j => ld_ctx _ 1 _ d j)
        (fun j d => ld_rows _ _ _ (pred (num t u)) o4 j d) (fun j d => ld_rows _ _ _ (num t u) o5 j d) (fun j d => ld_rows _ _ _ (succ (num t u)) o6 j d)
        (fun e => (ld_query _ (128 * u.val) (256 * g.val) (by omega) (by omega) _ p e).trans
          (congrArg (fun x => iblk m c 1 t (ix3 0 ⟨128 * u.val + p.val, by omega⟩ x)) (Fin.ext (show 256 * g.val + e.val = 128 * (2 * g.val) + e.val by omega))))
        (ld_sink _ (2 * g.val) (by omega) _)).trans ?_
      exact attn_congr m c t u p (show 2 * g.val = (128 * g.val + q.val) / 64 by omega) (show q.val % 64 = (128 * g.val + q.val) % 64 by omega)
    · rw [dif_neg hq]
      refine (lane_at m c hf t u p ⟨2 * g.val + 1, by omega⟩ ⟨q.val - 64, by omega⟩ (show (q.val - 64) / 64 = (2 * g.val + 1) / 4 by omega) _ _ _ _ _ _ _ _ _ _
        (fun d j => ld_page _ _ _ (pred (num t u)) o1 d j) (fun d j => ld_page _ _ _ (num t u) o2 d j) (fun d j => ld_page _ _ _ (succ (num t u)) o3 d j)
        (fun d j => ld_ctx _ 0 _ d j) (fun d j => ld_ctx _ 1 _ d j)
        (fun j d => ld_rows _ _ _ (pred (num t u)) o4 j d) (fun j d => ld_rows _ _ _ (num t u) o5 j d) (fun j d => ld_rows _ _ _ (succ (num t u)) o6 j d)
        (fun e => (ld_query _ (128 * u.val) (256 * g.val + 128) (by omega) (by omega) _ p e).trans
          (congrArg (fun x => iblk m c 1 t (ix3 0 ⟨128 * u.val + p.val, by omega⟩ x)) (Fin.ext (show 256 * g.val + 128 + e.val = 128 * (2 * g.val + 1) + e.val by omega))))
        (ld_sink _ (2 * g.val + 1) (by omega) _)).trans ?_
      exact attn_congr m c t u p (show 2 * g.val + 1 = (128 * g.val + q.val) / 64 by omega) (show (q.val - 64) % 64 = (128 * g.val + q.val) % 64 by omega)
  · rw [if_neg h2]
    unfold blockHi
    rw [ow, tileHi_apply _ (num t u).isLt]
    by_cases hq : q.val < 64
    · rw [dif_pos hq]
      refine (lane_at m c hf t u p ⟨2 * g.val, by omega⟩ ⟨q.val + 64, by omega⟩ (show (q.val + 64) / 64 = (2 * g.val) / 4 by omega) _ _ _ _ _ _ _ _ _ _
        (fun d j => ld_page _ _ _ (pred (num t u)) o1 d j) (fun d j => ld_page _ _ _ (num t u) o2 d j) (fun d j => ld_page _ _ _ (succ (num t u)) o3 d j)
        (fun d j => ld_ctx _ 0 _ d j) (fun d j => ld_ctx _ 1 _ d j)
        (fun j d => ld_rows _ _ _ (pred (num t u)) o4 j d) (fun j d => ld_rows _ _ _ (num t u) o5 j d) (fun j d => ld_rows _ _ _ (succ (num t u)) o6 j d)
        (fun e => (ld_query _ (128 * u.val) (256 * g.val) (by omega) (by omega) _ p e).trans
          (congrArg (fun x => iblk m c 1 t (ix3 0 ⟨128 * u.val + p.val, by omega⟩ x)) (Fin.ext (show 256 * g.val + e.val = 128 * (2 * g.val) + e.val by omega))))
        (ld_sink _ (2 * g.val) (by omega) _)).trans ?_
      exact attn_congr m c t u p (show 2 * g.val = (128 * g.val + q.val) / 64 by omega) (show (q.val + 64) % 64 = (128 * g.val + q.val) % 64 by omega)
    · rw [dif_neg hq]
      refine (lane_at m c hf t u p ⟨2 * g.val + 1, by omega⟩ q (show q.val / 64 = (2 * g.val + 1) / 4 by omega) _ _ _ _ _ _ _ _ _ _
        (fun d j => ld_page _ _ _ (pred (num t u)) o1 d j) (fun d j => ld_page _ _ _ (num t u) o2 d j) (fun d j => ld_page _ _ _ (succ (num t u)) o3 d j)
        (fun d j => ld_ctx _ 0 _ d j) (fun d j => ld_ctx _ 1 _ d j)
        (fun j d => ld_rows _ _ _ (pred (num t u)) o4 j d) (fun j d => ld_rows _ _ _ (num t u) o5 j d) (fun j d => ld_rows _ _ _ (succ (num t u)) o6 j d)
        (fun e => (ld_query _ (128 * u.val) (256 * g.val + 128) (by omega) (by omega) _ p e).trans
          (congrArg (fun x => iblk m c 1 t (ix3 0 ⟨128 * u.val + p.val, by omega⟩ x)) (Fin.ext (show 256 * g.val + 128 + e.val = 128 * (2 * g.val + 1) + e.val by omega))))
        (ld_sink _ (2 * g.val + 1) (by omega) _)).trans ?_
      exact attn_congr m c t u p (show 2 * g.val + 1 = (128 * g.val + q.val) / 64 by omega) (show q.val % 64 = (128 * g.val + q.val) % 64 by omega)

/-- The result array after the run, where the arrays that the scores are made of are finite. -/
theorem final (c : Dev nD) (hf : Fine m c) : (dats m 0 c).arrAt 12 cfg0.N
    = (fun i => result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) (i 2)
      : S8x2048x512.Idx → EReal) := by
  refine (dats m 0 c).arrAt_eq_of_covers 12 _ (by decide +kernel) fun t hf' y => ?_
  blk_simp
  rw [after0_12]
  obtain ⟨a, p, q, rfl⟩ : ∃ (a : Fin 1) (p : Fin 1024) (q : Fin 512), y = ix3 a p q := ⟨y 0, y 1, y 2, eq_ix3 y⟩
  obtain rfl : a = 0 := Subsingleton.elim _ _
  have e : (win0_12.blk t).view.emb (ix3 0 p q) = ix3 (bat t) (tok t p) q := by
    blk_ext [idx t, bat, tok]
  refine (stored m c t (ix3 0 p q)).trans (Eq.trans ?_ (congrArg (fun i : S8x2048x512.Idx => result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) (i 2)) e.symm))
  refine (cell_head m c hf t (rowTile (ix3 0 p q)) (colTile (ix3 0 p q)) _ _).trans ?_
  have hn : num t (rowTile (ix3 0 p q)) = ⟨(tok t p).val / 128, by omega⟩ := Fin.ext (by
    show 8 * (grid0.coords t 1).val + p.val / 128 = ((grid0.coords t 1).val * 1024 + p.val) / 128; omega)
  have hp : (⟨p.val % 128, by omega⟩ : Fin 128) = ⟨(tok t p).val % 128, by omega⟩ := Fin.ext (by
    show p.val % 128 = ((grid0.coords t 1).val * 1024 + p.val) % 128; omega)
  show attnOf m c (bat t) (num t (rowTile (ix3 0 p q))) ⟨p.val % 128, by omega⟩ ⟨(128 * (q.val / 128) + q.val % 128) / 64, by omega⟩
      ⟨(128 * (q.val / 128) + q.val % 128) % 64, by omega⟩
    = attnOf m c (bat t) ⟨(tok t p).val / 128, by omega⟩ ⟨(tok t p).val % 128, by omega⟩ ⟨q.val / 64, by omega⟩ ⟨q.val % 64, by omega⟩
  rw [hn, hp]
  have hd : 128 * (q.val / 128) + q.val % 128 = q.val := by omega
  simp only [hd]

end Cert.AttnIdeal.Tile

end
-- ==== Proof.AttnPre.lean ====
/- What the precondition says: the queries, the keys, the context's keys and the sinks are finite. -/
module

public import proofs.«01_k».proof.Defs
public import proofs.«01_k».proof.Proof.AttnFinal
public import Idealize.ShloMosaic.Lib.ReduceAll

@[expose] public section

set_option maxRecDepth 16384

noncomputable section

namespace Cert.AttnPre

open Idealize.ShloMosaic Idealize.SL.Sem

/-- The precondition's operations fit their shapes. -/
theorem facts : Cert.Pre_finite.Facts where
  bcast_S_S8x2048x8x64 := by decide
  reducesTo_S8x2048x8x64_S_d0_1_2_3 := by decide
  h_S_ := by decide
  bcast_S_S8x2048x2x64 := by decide
  reducesTo_S8x2048x2x64_S_d0_1_2_3 := by decide
  bcast_S_S8x256x2x64 := by decide
  reducesTo_S8x256x2x64_S_d0_1_2_3 := by decide
  bcast_S_S8 := by decide
  reducesTo_S8_S_d0 := by decide

instance : Cert.Pre_finite.Facts := facts

/-- A number whose magnitude is below infinity is a real number. -/
theorem real_of_lt (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have h' : max x (-x) < ⊤ := by
    by_contra hn
    simp [Ideal.cmp, hn] at h
  refine (EReal.coe_toReal ?_ ?_).symm
  · rintro rfl; simp at h'
  · rintro rfl; simp at h'

/-- Where all magnitudes of an array are below infinity, the array is finite. -/
theorem array_real {s : Shape} {axes : List (Fin s.rank)} (A : FVec Ideal s .f32) (hb : Cert.Pre_finite.S_.BroadcastsInDim s (![] : Fin 0 → Fin s.rank))
    (hr : s.ReducesTo axes Cert.Pre_finite.S_) (j : Cert.Pre_finite.S_.Idx)
    (e : Host.reduce IntOp.andi (cmpf .olt (Host.absf A) (broadcastInDim s ![] hb (constant Cert.Pre_finite.S_ .f32 0x7F800000#32)))
      (constantI Cert.Pre_finite.S_ 1 1#1) hr Cert.Pre_finite.Facts.h_S_ j = 1#1) (i : s.Idx) : A i = ((A i).toReal : EReal) :=
  real_of_lt (A i) (Host.reduce_andi_all _ _ _ _ j e i)

/-- Two bits whose conjunction is one are both one. -/
theorem both (a b : BitVec 1) (h : IntOp.andi a b = 1#1) : a = 1#1 ∧ b = 1#1 := by
  revert a b; decide

/-- The precondition makes the queries, the keys, the context's keys and the sinks finite. -/
theorem read (a0 : FVec Ideal Cert.Pre_finite.S8x2048x8x64 .f32) (a1 a2 : FVec Ideal Cert.Pre_finite.S8x2048x2x64 .f32)
    (a3 a4 : FVec Ideal Cert.Pre_finite.S8x256x2x64 .f32) (a5 : FVec Ideal Cert.Pre_finite.S8 .f32) (a6 a7 : FVec Ideal Cert.Pre_finite.S512x1024 .f32)
    (a8 : FVec Ideal Cert.Pre_finite.S1024x1024 .f32) (a9 a10 : FVec Ideal Cert.Pre_finite.S1024x2816 .f32) (a11 : FVec Ideal Cert.Pre_finite.S2816x1024 .f32)
    (h : Cert.Pre_finite.fn (F := Ideal) a0 a1 a2 a3 a4 a5 a6 a7 a8 a9 a10 a11 = fun _ => 1#1) :
    (∀ i, a0 i = ((a0 i).toReal : EReal)) ∧ (∀ i, a1 i = ((a1 i).toReal : EReal)) ∧ (∀ i, a3 i = ((a3 i).toReal : EReal))
      ∧ ∀ i, a5 i = ((a5 i).toReal : EReal) := by
  have e := congrFun h (Shape.Idx.first Cert.Pre_finite.Facts.h_S_)
  obtain ⟨e', e5⟩ := both _ _ e
  obtain ⟨e'', e3⟩ := both _ _ e'
  obtain ⟨e0, e1⟩ := both _ _ e''
  exact ⟨array_real a0 facts.bcast_S_S8x2048x8x64 facts.reducesTo_S8x2048x8x64_S_d0_1_2_3 _ e0,
    array_real a1 facts.bcast_S_S8x2048x2x64 facts.reducesTo_S8x2048x2x64_S_d0_1_2_3 _ e1,
    array_real a3 facts.bcast_S_S8x256x2x64 facts.reducesTo_S8x256x2x64_S_d0_1_2_3 _ e3,
    array_real a5 facts.bcast_S_S8 facts.reducesTo_S8_S_d0 _ e5⟩

end Cert.AttnPre

end
-- ==== Proof.AttnCopies.lean ====
/- The six weight arrays that the attention kernel copies. -/
module

public import proofs.«01_k».proof.Proof.Gen.AttnIdeal.Value
public import proofs.«01_k».proof.Proof.AttnRead
public import Idealize.ShloMosaic.Lib.Claim
public import Idealize.ShloMosaic.Lib.Pointwise

@[expose] public section

set_option maxRecDepth 16384

noncomputable section

namespace Cert.AttnIdeal.Tile

open Cert.AttnIdeal Cert.AttnIdeal.Gen Idealize.ShloMosaic Idealize.ShloMosaic.TcCoe Idealize.SL.Sem

variable (m : (ℓ : Loc nD τ sig) → Buf (Elt Ideal) ℓ)

/-- The weights' blocks of a grid point: the rows of the point's number. -/
theorem widx (t : Fin cfg0.N) : win0_6.index t = ![(grid0.coords t 0).val * 2 + (grid0.coords t 1).val, 0]
    ∧ win0_13.index t = ![(grid0.coords t 0).val * 2 + (grid0.coords t 1).val, 0]
    ∧ win0_7.index t = ![(grid0.coords t 0).val * 2 + (grid0.coords t 1).val, 0]
    ∧ win0_14.index t = ![(grid0.coords t 0).val * 2 + (grid0.coords t 1).val, 0]
    ∧ win0_8.index t = ![(grid0.coords t 0).val * 2 + (grid0.coords t 1).val, 0]
    ∧ win0_15.index t = ![(grid0.coords t 0).val * 2 + (grid0.coords t 1).val, 0]
    ∧ win0_9.index t = ![(grid0.coords t 0).val * 2 + (grid0.coords t 1).val, 0]
    ∧ win0_16.index t = ![(grid0.coords t 0).val * 2 + (grid0.coords t 1).val, 0]
    ∧ win0_10.index t = ![(grid0.coords t 0).val * 2 + (grid0.coords t 1).val, 0]
    ∧ win0_17.index t = ![(grid0.coords t 0).val * 2 + (grid0.coords t 1).val, 0]
    ∧ win0_11.index t = ![(grid0.coords t 0).val * 2 + (grid0.coords t 1).val, 0]
    ∧ win0_18.index t = ![(grid0.coords t 0).val * 2 + (grid0.coords t 1).val, 0] :=
  (by decide +kernel : ∀ t : Fin grid0.N, win0_6.index t = ![(grid0.coords t 0).val * 2 + (grid0.coords t 1).val, 0]
    ∧ win0_13.index t = ![(grid0.coords t 0).val * 2 + (grid0.coords t 1).val, 0]
    ∧ win0_7.index t = ![(grid0.coords t 0).val * 2 + (grid0.coords t 1).val, 0]
    ∧ win0_14.index t = ![(grid0.coords t 0).val * 2 + (grid0.coords t 1).val, 0]
    ∧ win0_8.index t = ![(grid0.coords t 0).val * 2 + (grid0.coords t 1).val, 0]
    ∧ win0_15.index t = ![(grid0.coords t 0).val * 2 + (grid0.coords t 1).val, 0]
    ∧ win0_9.index t = ![(grid0.coords t 0).val * 2 + (grid0.coords t 1).val, 0]
    ∧ win0_16.index t = ![(grid0.coords t 0).val * 2 + (grid0.coords t 1).val, 0]
    ∧ win0_10.index t = ![(grid0.coords t 0).val * 2 + (grid0.coords t 1).val, 0]
    ∧ win0_17.index t = ![(grid0.coords t 0).val * 2 + (grid0.coords t 1).val, 0]
    ∧ win0_11.index t = ![(grid0.coords t 0).val * 2 + (grid0.coords t 1).val, 0]
    ∧ win0_18.index t = ![(grid0.coords t 0).val * 2 + (grid0.coords t 1).val, 0]) t

/-- The block of weight copy 1 that a grid point leaves is the block it read. -/
theorem copied13 (c : Dev nD) (t : Fin cfg0.N) : (outsAt0 m c t).2.1 = iblk m c 6 t := by
  have r := (hs0_6 t).read_unread (iblk m c 6 t)
  unfold outsAt0
  frame_out
  rfl

/-- Where the block that is read lies in the array. -/
theorem emb6 (t : Fin cfg0.N) (p : Fin 32) (k : Fin 1024) : (win0_6.blk t).view.emb (ix2 p k) = ix2 ⟨((grid0.coords t 0).val * 2 + (grid0.coords t 1).val) * 32 + p.val, by have h0 := (grid0.coords t 0).isLt; have h1 := (grid0.coords t 1).isLt; change _ < 8 at h0; change _ < 2 at h1; omega⟩ k := by
  blk_ext [widx t]

/-- Where the block that is written lies in the array. -/
theorem emb13 (t : Fin cfg0.N) (p : Fin 32) (k : Fin 1024) : (win0_13.blk t).view.emb (ix2 p k) = ix2 ⟨((grid0.coords t 0).val * 2 + (grid0.coords t 1).val) * 32 + p.val, by have h0 := (grid0.coords t 0).isLt; have h1 := (grid0.coords t 1).isLt; change _ < 8 at h0; change _ < 2 at h1; omega⟩ k := by
  blk_ext [widx t]

/-- Weight copy 1 after the run. -/
theorem final13 (c : Dev nD) : (dats m 0 c).arrAt 13 cfg0.N = (m ((c : Thread nD τ).loc main_arg6) : S512x1024.Idx → EReal) := by
  refine (dats m 0 c).arrAt_eq_of_covers 13 _ (by decide +kernel) fun t hf y => ?_
  blk_simp
  rw [after0_13, copied13]
  obtain ⟨p, q, rfl⟩ : ∃ (p : Fin 32) (q : Fin 1024), y = ix2 p q := ⟨y 0, y 1, eq_ix2 y⟩
  have key : ∀ A : S512x1024.Idx → EReal, View.read (Elt Ideal) (win0_6.blk t).view A (ix2 p q) = A ((win0_13.blk t).view.emb (ix2 p q)) :=
    fun A => congrArg A ((emb6 t p q).trans (emb13 t p q).symm)
  unfold iblk
  exact (congrArg (fun A : S512x1024.Idx → EReal => View.read (Elt Ideal) (win0_6.blk t).view A (ix2 p q)) (V_main_arg6 m c)).trans (key _)

/-- The block of weight copy 2 that a grid point leaves is the block it read. -/
theorem copied14 (c : Dev nD) (t : Fin cfg0.N) : (outsAt0 m c t).2.2.1 = iblk m c 7 t := by
  have r := (hs0_7 t).read_unread (iblk m c 7 t)
  unfold outsAt0
  frame_out
  rfl

/-- Where the block that is read lies in the array. -/
theorem emb7 (t : Fin cfg0.N) (p : Fin 32) (k : Fin 1024) : (win0_7.blk t).view.emb (ix2 p k) = ix2 ⟨((grid0.coords t 0).val * 2 + (grid0.coords t 1).val) * 32 + p.val, by have h0 := (grid0.coords t 0).isLt; have h1 := (grid0.coords t 1).isLt; change _ < 8 at h0; change _ < 2 at h1; omega⟩ k := by
  blk_ext [widx t]

/-- Where the block that is written lies in the array. -/
theorem emb14 (t : Fin cfg0.N) (p : Fin 32) (k : Fin 1024) : (win0_14.blk t).view.emb (ix2 p k) = ix2 ⟨((grid0.coords t 0).val * 2 + (grid0.coords t 1).val) * 32 + p.val, by have h0 := (grid0.coords t 0).isLt; have h1 := (grid0.coords t 1).isLt; change _ < 8 at h0; change _ < 2 at h1; omega⟩ k := by
  blk_ext [widx t]

/-- Weight copy 2 after the run. -/
theorem final14 (c : Dev nD) : (dats m 0 c).arrAt 14 cfg0.N = (m ((c : Thread nD τ).loc main_arg7) : S512x1024.Idx → EReal) := by
  refine (dats m 0 c).arrAt_eq_of_covers 14 _ (by decide +kernel) fun t hf y => ?_
  blk_simp
  rw [after0_14, copied14]
  obtain ⟨p, q, rfl⟩ : ∃ (p : Fin 32) (q : Fin 1024), y = ix2 p q := ⟨y 0, y 1, eq_ix2 y⟩
  have key : ∀ A : S512x1024.Idx → EReal, View.read (Elt Ideal) (win0_7.blk t).view A (ix2 p q) = A ((win0_14.blk t).view.emb (ix2 p q)) :=
    fun A => congrArg A ((emb7 t p q).trans (emb14 t p q).symm)
  unfold iblk
  exact (congrArg (fun A : S512x1024.Idx → EReal => View.read (Elt Ideal) (win0_7.blk t).view A (ix2 p q)) (V_main_arg7 m c)).trans (key _)

/-- The block of weight copy 3 that a grid point leaves is the block it read. -/
theorem copied15 (c : Dev nD) (t : Fin cfg0.N) : (outsAt0 m c t).2.2.2.1 = iblk m c 8 t := by
  have r := (hs0_8 t).read_unread (iblk m c 8 t)
  unfold outsAt0
  frame_out
  rfl

/-- Where the block that is read lies in the array. -/
theorem emb8 (t : Fin cfg0.N) (p : Fin 64) (k : Fin 1024) : (win0_8.blk t).view.emb (ix2 p k) = ix2 ⟨((grid0.coords t 0).val * 2 + (grid0.coords t 1).val) * 64 + p.val, by have h0 := (grid0.coords t 0).isLt; have h1 := (grid0.coords t 1).isLt; change _ < 8 at h0; change _ < 2 at h1; omega⟩ k := by
  blk_ext [widx t]

/-- Where the block that is written lies in the array. -/
theorem emb15 (t : Fin cfg0.N) (p : Fin 64) (k : Fin 1024) : (win0_15.blk t).view.emb (ix2 p k) = ix2 ⟨((grid0.coords t 0).val * 2 + (grid0.coords t 1).val) * 64 + p.val, by have h0 := (grid0.coords t 0).isLt; have h1 := (grid0.coords t 1).isLt; change _ < 8 at h0; change _ < 2 at h1; omega⟩ k := by
  blk_ext [widx t]

/-- Weight copy 3 after the run. -/
theorem final15 (c : Dev nD) : (dats m 0 c).arrAt 15 cfg0.N = (m ((c : Thread nD τ).loc main_arg8) : S1024x1024.Idx → EReal) := by
  refine (dats m 0 c).arrAt_eq_of_covers 15 _ (by decide +kernel) fun t hf y => ?_
  blk_simp
  rw [after0_15, copied15]
  obtain ⟨p, q, rfl⟩ : ∃ (p : Fin 64) (q : Fin 1024), y = ix2 p q := ⟨y 0, y 1, eq_ix2 y⟩
  have key : ∀ A : S1024x1024.Idx → EReal, View.read (Elt Ideal) (win0_8.blk t).view A (ix2 p q) = A ((win0_15.blk t).view.emb (ix2 p q)) :=
    fun A => congrArg A ((emb8 t p q).trans (emb15 t p q).symm)
  unfold iblk
  exact (congrArg (fun A : S1024x1024.Idx → EReal => View.read (Elt Ideal) (win0_8.blk t).view A (ix2 p q)) (V_main_arg8 m c)).trans (key _)

/-- The block of weight copy 4 that a grid point leaves is the block it read. -/
theorem copied16 (c : Dev nD) (t : Fin cfg0.N) : (outsAt0 m c t).2.2.2.2.1 = iblk m c 9 t := by
  have r := (hs0_9 t).read_unread (iblk m c 9 t)
  unfold outsAt0
  frame_out
  rfl

/-- Where the block that is read lies in the array. -/
theorem emb9 (t : Fin cfg0.N) (p : Fin 64) (k : Fin 2816) : (win0_9.blk t).view.emb (ix2 p k) = ix2 ⟨((grid0.coords t 0).val * 2 + (grid0.coords t 1).val) * 64 + p.val, by have h0 := (grid0.coords t 0).isLt; have h1 := (grid0.coords t 1).isLt; change _ < 8 at h0; change _ < 2 at h1; omega⟩ k := by
  blk_ext [widx t]

/-- Where the block that is written lies in the array. -/
theorem emb16 (t : Fin cfg0.N) (p : Fin 64) (k : Fin 2816) : (win0_16.blk t).view.emb (ix2 p k) = ix2 ⟨((grid0.coords t 0).val * 2 + (grid0.coords t 1).val) * 64 + p.val, by have h0 := (grid0.coords t 0).isLt; have h1 := (grid0.coords t 1).isLt; change _ < 8 at h0; change _ < 2 at h1; omega⟩ k := by
  blk_ext [widx t]

/-- Weight copy 4 after the run. -/
theorem final16 (c : Dev nD) : (dats m 0 c).arrAt 16 cfg0.N = (m ((c : Thread nD τ).loc main_arg9) : S1024x2816.Idx → EReal) := by
  refine (dats m 0 c).arrAt_eq_of_covers 16 _ (by decide +kernel) fun t hf y => ?_
  blk_simp
  rw [after0_16, copied16]
  obtain ⟨p, q, rfl⟩ : ∃ (p : Fin 64) (q : Fin 2816), y = ix2 p q := ⟨y 0, y 1, eq_ix2 y⟩
  have key : ∀ A : S1024x2816.Idx → EReal, View.read (Elt Ideal) (win0_9.blk t).view A (ix2 p q) = A ((win0_16.blk t).view.emb (ix2 p q)) :=
    fun A => congrArg A ((emb9 t p q).trans (emb16 t p q).symm)
  unfold iblk
  exact (congrArg (fun A : S1024x2816.Idx → EReal => View.read (Elt Ideal) (win0_9.blk t).view A (ix2 p q)) (V_main_arg9 m c)).trans (key _)

/-- The block of weight copy 5 that a grid point leaves is the block it read. -/
theorem copied17 (c : Dev nD) (t : Fin cfg0.N) : (outsAt0 m c t).2.2.2.2.2.1 = iblk m c 10 t := by
  have r := (hs0_10 t).read_unread (iblk m c 10 t)
  unfold outsAt0
  frame_out
  rfl

/-- Where the block that is read lies in the array. -/
theorem emb10 (t : Fin cfg0.N) (p : Fin 64) (k : Fin 2816) : (win0_10.blk t).view.emb (ix2 p k) = ix2 ⟨((grid0.coords t 0).val * 2 + (grid0.coords t 1).val) * 64 + p.val, by have h0 := (grid0.coords t 0).isLt; have h1 := (grid0.coords t 1).isLt; change _ < 8 at h0; change _ < 2 at h1; omega⟩ k := by
  blk_ext [widx t]

/-- Where the block that is written lies in the array. -/
theorem emb17 (t : Fin cfg0.N) (p : Fin 64) (k : Fin 2816) : (win0_17.blk t).view.emb (ix2 p k) = ix2 ⟨((grid0.coords t 0).val * 2 + (grid0.coords t 1).val) * 64 + p.val, by have h0 := (grid0.coords t 0).isLt; have h1 := (grid0.coords t 1).isLt; change _ < 8 at h0; change _ < 2 at h1; omega⟩ k := by
  blk_ext [widx t]

/-- Weight copy 5 after the run. -/
theorem final17 (c : Dev nD) : (dats m 0 c).arrAt 17 cfg0.N = (m ((c : Thread nD τ).loc main_arg10) : S1024x2816.Idx → EReal) := by
  refine (dats m 0 c).arrAt_eq_of_covers 17 _ (by decide +kernel) fun t hf y => ?_
  blk_simp
  rw [after0_17, copied17]
  obtain ⟨p, q, rfl⟩ : ∃ (p : Fin 64) (q : Fin 2816), y = ix2 p q := ⟨y 0, y 1, eq_ix2 y⟩
  have key : ∀ A : S1024x2816.Idx → EReal, View.read (Elt Ideal) (win0_10.blk t).view A (ix2 p q) = A ((win0_17.blk t).view.emb (ix2 p q)) :=
    fun A => congrArg A ((emb10 t p q).trans (emb17 t p q).symm)
  unfold iblk
  exact (congrArg (fun A : S1024x2816.Idx → EReal => View.read (Elt Ideal) (win0_10.blk t).view A (ix2 p q)) (V_main_arg10 m c)).trans (key _)

/-- The block of weight copy 6 that a grid point leaves is the block it read. -/
theorem copied18 (c : Dev nD) (t : Fin cfg0.N) : (outsAt0 m c t).2.2.2.2.2.2 = iblk m c 11 t := by
  have r := (hs0_11 t).read_unread (iblk m c 11 t)
  unfold outsAt0
  frame_out
  rfl

/-- Where the block that is read lies in the array. -/
theorem emb11 (t : Fin cfg0.N) (p : Fin 176) (k : Fin 1024) : (win0_11.blk t).view.emb (ix2 p k) = ix2 ⟨((grid0.coords t 0).val * 2 + (grid0.coords t 1).val) * 176 + p.val, by have h0 := (grid0.coords t 0).isLt; have h1 := (grid0.coords t 1).isLt; change _ < 8 at h0; change _ < 2 at h1; omega⟩ k := by
  blk_ext [widx t]

/-- Where the block that is written lies in the array. -/
theorem emb18 (t : Fin cfg0.N) (p : Fin 176) (k : Fin 1024) : (win0_18.blk t).view.emb (ix2 p k) = ix2 ⟨((grid0.coords t 0).val * 2 + (grid0.coords t 1).val) * 176 + p.val, by have h0 := (grid0.coords t 0).isLt; have h1 := (grid0.coords t 1).isLt; change _ < 8 at h0; change _ < 2 at h1; omega⟩ k := by
  blk_ext [widx t]

/-- Weight copy 6 after the run. -/
theorem final18 (c : Dev nD) : (dats m 0 c).arrAt 18 cfg0.N = (m ((c : Thread nD τ).loc main_arg11) : S2816x1024.Idx → EReal) := by
  refine (dats m 0 c).arrAt_eq_of_covers 18 _ (by decide +kernel) fun t hf y => ?_
  blk_simp
  rw [after0_18, copied18]
  obtain ⟨p, q, rfl⟩ : ∃ (p : Fin 176) (q : Fin 1024), y = ix2 p q := ⟨y 0, y 1, eq_ix2 y⟩
  have key : ∀ A : S2816x1024.Idx → EReal, View.read (Elt Ideal) (win0_11.blk t).view A (ix2 p q) = A ((win0_18.blk t).view.emb (ix2 p q)) :=
    fun A => congrArg A ((emb11 t p q).trans (emb18 t p q).symm)
  unfold iblk
  exact (congrArg (fun A : S2816x1024.Idx → EReal => View.read (Elt Ideal) (win0_11.blk t).view A (ix2 p q)) (V_main_arg11 m c)).trans (key _)

end Cert.AttnIdeal.Tile

end
-- ==== Proof.AttnReading.lean ====
/- The reference of the attention, read one channel of one head at a time. -/
module

public import proofs.«01_k».proof.Proof.Gen.AttnRefIdeal.Read
public import proofs.«01_k».proof.Proof.AttnSpec
public import Idealize.ShloMosaic.Lib.Pointwise
public import Idealize.ShloMosaic.Lib.WordCmp

@[expose] public section

set_option maxRecDepth 16384

noncomputable section

namespace Cert.AttnRefIdeal.Head

open Cert.AttnRefIdeal Cert.AttnRefIdeal.Gen Cert.AttnRefIdeal.Read Cert.AttnSpec Idealize.ShloMosaic Idealize.ShloMosaic.TcCoe Idealize.SL.Sem

variable (x0 : (⟨S8x2048x8x64, .f32⟩ : BufTy).Contents (Elt Ideal)) (x1 x2 : (⟨S8x2048x2x64, .f32⟩ : BufTy).Contents (Elt Ideal))
  (x3 x4 : (⟨S8x256x2x64, .f32⟩ : BufTy).Contents (Elt Ideal)) (x5 : (⟨S8, .f32⟩ : BufTy).Contents (Elt Ideal))

/-- The scaled queries of a head at a row of a block. -/
theorem query (b : Fin 8) (n : Fin 16) (p : Fin 128) (kv : Fin 2) (g : Fin 4) (d : Fin 64) :
    val_main_v2 (F := Ideal) x0 (ix6 b n p kv g d)
      = x0 (ix4 b ⟨128 * n.val + p.val, by omega⟩ ⟨4 * kv.val + g.val, by omega⟩ d) * Ideal.ofBits .f32 0x3E000000#32 := by
  pointwise [val_main_v2, val_main_v1, val_main_v0, val_main_cst]
  simp only [Nat.mul_comm]

/-- A sequence padded by a block on both sides, at a place of the band. -/
theorem place_out (x : Fin 2048 → EReal) (y : Fin 256 → EReal) (n : ℕ) (j : Fin 384) (a : ℕ) (e : a = 128 * n + j.val) :
    (if h : 128 ≤ a ∧ a - 128 < 2048 then x ⟨a - 128, h.2⟩ else (0 : EReal)) = band x y n ⟨j.val, by omega⟩ := by
  subst e
  have hj := j.isLt
  unfold band
  rw [dif_pos (show (⟨j.val, by omega⟩ : Fin 640).val < 384 from hj)]
  by_cases h : 128 ≤ 128 * n + j.val ∧ 128 * n + j.val - 128 < 2048
  · rw [dif_pos h, dif_pos ⟨h.1, by show 128 * n + j.val < 2176; omega⟩]
  · rw [dif_neg h, dif_neg (by show ¬(128 ≤ 128 * n + j.val ∧ 128 * n + j.val < 2176); omega)]

set_option maxHeartbeats 1600000 in
/-- The banded keys, or values, of a block. -/
theorem banded (y : Fin 256 → EReal) (b : Fin 8) (n : Fin 16) (j : Fin 384) (kv : Fin 2) (d : Fin 64) :
    val_main_v8 (F := Ideal) x1 (ix5 b n j kv d) = band (fun r => x1 (ix4 b r kv d)) y n.val ⟨j.val, by omega⟩ := by
  generalize hr : band (fun r => x1 (ix4 b r kv d)) y n.val ⟨j.val, by omega⟩ = r
  pointwise [val_main_v8, val_main_v7, val_main_v6, val_main_v5, val_main_v4, val_main_v3, val_main_call0_v0, val_main_c]
  have h0 : (FloatOps.sitofp .f32 0#32 : Ideal .f32) = (0 : EReal) := by
    show (((0#32).toInt : ℝ) : EReal) = 0
    simp
  have hj := j.isLt
  have hn := n.isLt
  rw [h0, ← hr]
  split
  · exact place_out (fun r => x1 (ix4 b r kv d)) y n.val j (n.val * 128 + j.val) (by omega)
  · split
    · exact place_out (fun r => x1 (ix4 b r kv d)) y n.val j ((1 + n.val) * 128 + (j.val - 128)) (by omega)
    · exact place_out (fun r => x1 (ix4 b r kv d)) y n.val j ((2 + n.val) * 128 + (j.val - 128 - 128)) (by omega)

/-- The values are banded as the keys are. -/
theorem banded_values : val_main_v14 (F := Ideal) x2 = val_main_v8 (F := Ideal) x2 := by
  unfold val_main_v14 val_main_v13 val_main_v12 val_main_v11 val_main_v10 val_main_v9 val_main_v8 val_main_v7 val_main_v6 val_main_v5 val_main_v4 val_main_v3
  rfl

/-- The words that compare a band place with a row: the place lies within 128 of the row. -/
theorem near (p : Fin 128) (j : Fin 384) :
    IntOp.cmpi .sle (IntOp.absi (IntOp.subi (IntOp.subi (BitVec.ofNat 32 j.val) 128#32) (BitVec.ofNat 32 p.val))) 128#32
      = BitVec.ofBool (decide (p.val ≤ j.val ∧ j.val ≤ p.val + 256)) := by
  revert p j
  decide +kernel

/-- The words that compare a band place with the sequence's ends. -/
theorem inside (n : Fin 16) (j : Fin 384) :
    (IntOp.cmpi .sge (IntOp.addi (IntOp.muli (IntOp.subi (BitVec.ofNat 32 n.val) 1#32) 128#32) (BitVec.ofNat 32 j.val)) 0#32
        = BitVec.ofBool (decide (128 ≤ 128 * n.val + j.val)))
      ∧ IntOp.cmpi .slt (IntOp.addi (IntOp.muli (IntOp.subi (BitVec.ofNat 32 n.val) 1#32) 128#32) (BitVec.ofNat 32 j.val)) 2048#32
        = BitVec.ofBool (decide (128 * n.val + j.val < 2176)) := by
  revert n j
  decide +kernel

/-- The mask of the band. -/
theorem mask (b : Fin 8) (n : Fin 16) (kv : Fin 2) (g : Fin 4) (p : Fin 128) (j : Fin 384) :
    val_main_call2_v1 (F := Ideal) (ix6 b n kv g p j) = BitVec.ofBool (decide (seen n.val p ⟨j.val, by omega⟩)) := by
  generalize hr : BitVec.ofBool (decide (seen n.val p ⟨j.val, by omega⟩)) = r
  pointwise [val_main_call2_v1, val_main_v49, val_main_v48, val_main_v47, val_main_v46, val_main_v45, val_main_v44, val_main_v43, val_main_v42,
    val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22,
    val_main_v21, val_main_v20, val_main_v19, val_main_v18, val_main_v17, val_main_c_1, val_main_c_2, val_main_c_3, val_main_c_4, val_main_c_5, val_main_c_6]
  rw [← hr, near, (inside n j).1, (inside n j).2, WordCmp.andi_ofBool, WordCmp.andi_ofBool]
  refine congrArg BitVec.ofBool ?_
  rw [← Bool.decide_and, ← Bool.decide_and]
  refine decide_eq_decide.2 ?_
  unfold seen
  have hj := j.isLt
  show _ ↔ 384 ≤ j.val ∨ (p.val ≤ j.val ∧ j.val ≤ p.val + 256 ∧ 128 ≤ 128 * n.val + j.val ∧ 128 * n.val + j.val < 2176)
  omega

/-- The scores of the band, before the mask. -/
theorem bandScore (b : Fin 8) (n : Fin 16) (kv : Fin 2) (g : Fin 4) (p : Fin 128) (j : Fin 384) :
    val_main_v16 (F := Ideal) x0 x1 (ix6 b n kv g p j)
      = ∑ d : Fin 64, val_main_v8 (F := Ideal) x1 (ix5 b n j kv d) * val_main_v2 (F := Ideal) x0 (ix6 b n p kv g d) := by
  unfold val_main_v16 val_main_v15
  generalize val_main_v8 (F := Ideal) x1 = y
  generalize val_main_v2 (F := Ideal) x0 = z
  pointwise

/-- The scores of the context. -/
theorem ctxScore (b : Fin 8) (n : Fin 16) (kv : Fin 2) (g : Fin 4) (p : Fin 128) (j : Fin 256) :
    val_main_v52 (F := Ideal) x0 x3 (ix6 b n kv g p j)
      = ∑ d : Fin 64, x3 (ix4 b j kv d) * val_main_v2 (F := Ideal) x0 (ix6 b n p kv g d) := by
  unfold val_main_v52 val_main_v51
  generalize val_main_v2 (F := Ideal) x0 = z
  pointwise

/-- The masked scores of the band. -/
theorem maskedScore (b : Fin 8) (n : Fin 16) (kv : Fin 2) (g : Fin 4) (p : Fin 128) (j : Fin 384) :
    val_main_v50 (F := Ideal) x0 x1 (ix6 b n kv g p j)
      = if seen n.val p ⟨j.val, by omega⟩ then val_main_v16 (F := Ideal) x0 x1 (ix6 b n kv g p j) else ⊥ := by
  rw [val_main_v50_apply, mask, WordCmp.select_ofBool]
  generalize val_main_v16 (F := Ideal) x0 x1 = y
  have h0 : val_main_call2_v2 (F := Ideal) (ix6 b n kv g p j) = ⊥ := by
    rw [val_main_call2_v2_apply]
    show Ideal.ofBits .f32 0xFF800000#32 = _
    simp [Ideal.ofBits, Ideal.ieee]
  rw [h0]
  simp only [decide_eq_true_eq]

/-- All scores of a row and its sink. -/
theorem scores (b : Fin 8) (n : Fin 16) (kv : Fin 2) (g : Fin 4) (p : Fin 128) (j : Fin 641) :
    val_main_v55 (F := Ideal) x0 x1 x3 x5 (ix6 b n kv g p j)
      = if h : j.val < 384 then val_main_v50 (F := Ideal) x0 x1 (ix6 b n kv g p ⟨j.val, h⟩)
        else if h : j.val - 384 < 256 then val_main_v52 (F := Ideal) x0 x3 (ix6 b n kv g p ⟨j.val - 384, h⟩)
        else x5 (ix1 ⟨4 * kv.val + g.val, by omega⟩) := by
  unfold val_main_v55
  generalize val_main_v50 (F := Ideal) x0 x1 = y
  generalize val_main_v52 (F := Ideal) x0 x3 = z
  pointwise [val_main_v54, val_main_v53]
  simp only [Nat.mul_comm]

/-- An exponential, from its score and the row's maximum. -/
theorem expo (b : Fin 8) (n : Fin 16) (kv : Fin 2) (g : Fin 4) (p : Fin 128) (j : Fin 641) :
    val_main_v62 (F := Ideal) x0 x1 x3 x5 (ix6 b n kv g p j)
      = Ideal.exp (val_main_v55 (F := Ideal) x0 x1 x3 x5 (ix6 b n kv g p j) - val_main_v58 (F := Ideal) x0 x1 x3 x5 (ix5 b n kv g p)) := by
  rw [val_main_v62_apply, val_main_v61_apply, val_main_v60_apply, val_main_v59_apply]
  have e : idx_main_v59 (idx_main_v60 (ix6 b n kv g p j)) = ix5 b n kv g p :=
    funext fun a => match a with | ⟨0, _⟩ => rfl | ⟨1, _⟩ => rfl | ⟨2, _⟩ => rfl | ⟨3, _⟩ => rfl | ⟨4, _⟩ => rfl
  rw [e]
  rfl

/-- A weight, from the exponentials. -/
theorem share (b : Fin 8) (n : Fin 16) (kv : Fin 2) (g : Fin 4) (p : Fin 128) (j : Fin 641) :
    val_main_v66 (F := Ideal) x0 x1 x3 x5 (ix6 b n kv g p j)
      = Ideal.div (val_main_v62 (F := Ideal) x0 x1 x3 x5 (ix6 b n kv g p j))
          (∑ i : Fin 641, val_main_v62 (F := Ideal) x0 x1 x3 x5 (ix6 b n kv g p i)) := by
  rw [val_main_v66_apply, val_main_v65_apply, val_main_v64_apply, val_main_v63_apply]
  have e : ∀ k, idx_main_v63 (idx_main_v64 (idx_main_v65 (ix6 b n kv g p j))) k = ix6 b n kv g p k := fun k =>
    funext fun a => match a with | ⟨0, _⟩ => rfl | ⟨1, _⟩ => rfl | ⟨2, _⟩ => rfl | ⟨3, _⟩ => rfl | ⟨4, _⟩ => rfl | ⟨5, _⟩ => rfl
  have h0 : val_main_cst_10 (F := Ideal) (Shape.Idx.first h_S_) = (0 : EReal) := by
    rw [val_main_cst_10_apply]; simp [Ideal.ofBits, Ideal.ieee]
  simp only [e]
  rw [h0, zero_add]
  rfl

/-- A maximum of numbers below infinity, one of them finite, is finite. -/
theorem fold_real {α : Type} [DecidableEq α] (S : Finset α) (x : α → EReal) (hx : ∀ i, x i ≠ ⊤) (i₀ : α) (hi : i₀ ∈ S) (a : ℝ) (ha : x i₀ = (a : EReal)) :
    ∃ M : ℝ, max ⊥ (S.fold max ⊥ x) = (M : EReal) := by
  have hlo : ((a : ℝ) : EReal) ≤ S.fold max ⊥ x := (Finset.le_fold_max _).2 (Or.inr ⟨i₀, hi, ha.ge⟩)
  have hhi : S.fold max ⊥ x < ⊤ := (Finset.fold_max_lt _).2 ⟨bot_lt_top, fun i _ => lt_top_iff_ne_top.2 (hx i)⟩
  refine ⟨(S.fold max ⊥ x).toReal, ?_⟩
  rw [max_eq_right bot_le, EReal.coe_toReal hhi.ne (ne_bot_of_le_ne_bot (EReal.coe_ne_bot a) hlo)]

/-- The row's maximum is finite where no score is plus infinity and the sink is finite. -/
theorem top_finite (hx : ∀ i, val_main_v55 (F := Ideal) x0 x1 x3 x5 i ≠ ⊤) (b : Fin 8) (n : Fin 16) (kv : Fin 2) (g : Fin 4) (p : Fin 128) (a : ℝ)
    (ha : val_main_v55 (F := Ideal) x0 x1 x3 x5 (ix6 b n kv g p ⟨640, by omega⟩) = (a : EReal)) :
    ∃ M : ℝ, val_main_v58 (F := Ideal) x0 x1 x3 x5 (ix5 b n kv g p) = (M : EReal) := by
  rw [val_main_v58_apply, val_main_v57_apply, val_main_cst_9_apply]
  unfold val_main_v56
  generalize val_main_v55 (F := Ideal) x0 x1 x3 x5 = y at hx ha
  have hb : (FloatOps.ofBits .f32 0xFF800000#32 : Ideal .f32) = (⊥ : EReal) := by
    show Ideal.ofBits .f32 0xFF800000#32 = _
    simp [Ideal.ofBits, Ideal.ieee]
  have hf := Host.reduce_eq_fold (max : EReal → EReal → EReal) y (val_main_cst_8 (F := Ideal)) reducesTo_S8x16x2x4x128x641_S8x16x2x4x128_d5 h_S_ (ix5 b n kv g p)
  rw [val_main_cst_8_apply, hb] at hf
  rw [hb]
  obtain ⟨M, hM⟩ := fold_real (Finset.univ.filter fun i => reducesTo_S8x16x2x4x128x641_S8x16x2x4x128_d5.drop i = ix5 b n kv g p) y hx
    (ix6 b n kv g p ⟨640, by omega⟩) (Finset.mem_filter.2 ⟨Finset.mem_univ _, funext fun a => match a with
      | ⟨0, _⟩ => rfl | ⟨1, _⟩ => rfl | ⟨2, _⟩ => rfl | ⟨3, _⟩ => rfl | ⟨4, _⟩ => rfl⟩) a ha
  exact ⟨M, (congrArg (max (⊥ : EReal)) hf).trans hM⟩

/-- The values of the sequence by their weights. -/
theorem mixedBand (b : Fin 8) (n : Fin 16) (p : Fin 128) (kv : Fin 2) (g : Fin 4) (d : Fin 64) :
    val_main_v69 (F := Ideal) x0 x1 x2 x3 x5 (ix6 b n p kv g d)
      = ∑ j : Fin 384, val_main_v14 (F := Ideal) x2 (ix5 b n j kv d)
          * val_main_v66 (F := Ideal) x0 x1 x3 x5 (ix6 b n kv g p ⟨j.val, by omega⟩) := by
  rw [val_main_v69_apply, val_main_v68_apply]
  refine Finset.sum_congr rfl fun k _ => ?_
  rw [val_main_v67_apply]
  have e1 : lidx_main_v68 (idx_main_v69 (ix6 b n p kv g d)) k = ix5 b n k kv d :=
    funext fun a => match a with | ⟨0, _⟩ => rfl | ⟨1, _⟩ => rfl | ⟨2, _⟩ => rfl | ⟨3, _⟩ => rfl | ⟨4, _⟩ => rfl
  have e2 : idx_main_v67 (ridx_main_v68 (idx_main_v69 (ix6 b n p kv g d)) k) = ix6 b n kv g p ⟨k.val, by omega⟩ :=
    funext fun a => match a with | ⟨0, _⟩ => rfl | ⟨1, _⟩ => rfl | ⟨2, _⟩ => rfl | ⟨3, _⟩ => rfl | ⟨4, _⟩ => rfl | ⟨5, _⟩ => rfl
  rw [e1, e2]

/-- The values of the context by their weights. -/
theorem mixedCtx (b : Fin 8) (n : Fin 16) (p : Fin 128) (kv : Fin 2) (g : Fin 4) (d : Fin 64) :
    val_main_v72 (F := Ideal) x0 x1 x3 x4 x5 (ix6 b n p kv g d)
      = ∑ j : Fin 256, x4 (ix4 b j kv d)
          * val_main_v66 (F := Ideal) x0 x1 x3 x5 (ix6 b n kv g p ⟨384 + j.val, by omega⟩) := by
  rw [val_main_v72_apply, val_main_v71_apply]
  refine Finset.sum_congr rfl fun k _ => ?_
  rw [val_main_v70_apply]
  have e1 : lidx_main_v71 (idx_main_v72 (ix6 b n p kv g d)) k = ix4 b k kv d :=
    funext fun a => match a with | ⟨0, _⟩ => rfl | ⟨1, _⟩ => rfl | ⟨2, _⟩ => rfl | ⟨3, _⟩ => rfl
  have e2 : idx_main_v70 (ridx_main_v71 (idx_main_v72 (ix6 b n p kv g d)) k) = ix6 b n kv g p ⟨384 + k.val, by omega⟩ :=
    funext fun a => match a with | ⟨0, _⟩ => rfl | ⟨1, _⟩ => rfl | ⟨2, _⟩ => rfl | ⟨3, _⟩ => rfl | ⟨4, _⟩ => rfl | ⟨5, _⟩ => rfl
  rw [e1, e2]

/-- The result, from the two mixed values. -/
theorem joined (b : Fin 8) (t : Fin 2048) (c : Fin 512) :
    val_main_v75 (F := Ideal) x0 x1 x2 x3 x4 x5 (ix3 b t c)
      = val_main_v69 (F := Ideal) x0 x1 x2 x3 x5 (ix6 b ⟨t.val / 128, by omega⟩ ⟨t.val % 128, by omega⟩ ⟨c.val / 256, by omega⟩ ⟨c.val / 64 % 4, by omega⟩ ⟨c.val % 64, by omega⟩)
        + val_main_v72 (F := Ideal) x0 x1 x3 x4 x5 (ix6 b ⟨t.val / 128, by omega⟩ ⟨t.val % 128, by omega⟩ ⟨c.val / 256, by omega⟩ ⟨c.val / 64 % 4, by omega⟩ ⟨c.val % 64, by omega⟩) := by
  unfold val_main_v75 val_main_v74 val_main_v73
  generalize val_main_v69 (F := Ideal) x0 x1 x2 x3 x5 = y
  generalize val_main_v72 (F := Ideal) x0 x1 x3 x4 x5 = z
  pointwise

end Cert.AttnRefIdeal.Head

end
-- ==== Proof.AttnRow.lean ====
/- The reference of the attention: its result is the exact attention of each head. -/
module

public import proofs.«01_k».proof.Proof.AttnReading
public import Idealize.ShloMosaic.Lib.Pointwise
public import Idealize.ShloMosaic.Lib.WordCmp

@[expose] public section

set_option maxRecDepth 16384

noncomputable section

namespace Cert.AttnRefIdeal.Head

open Cert.AttnRefIdeal Cert.AttnRefIdeal.Gen Cert.AttnRefIdeal.Read Cert.AttnSpec Idealize.ShloMosaic Idealize.ShloMosaic.TcCoe Idealize.SL.Sem

variable (x0 : (⟨S8x2048x8x64, .f32⟩ : BufTy).Contents (Elt Ideal)) (x1 x2 : (⟨S8x2048x2x64, .f32⟩ : BufTy).Contents (Elt Ideal))
  (x3 x4 : (⟨S8x256x2x64, .f32⟩ : BufTy).Contents (Elt Ideal)) (x5 : (⟨S8, .f32⟩ : BufTy).Contents (Elt Ideal))

/-- The arrays that the scores are made of are finite. -/
structure Ok : Prop where
  q : ∀ i, x0 i = ((x0 i).toReal : EReal)
  k : ∀ i, x1 i = ((x1 i).toReal : EReal)
  kc : ∀ i, x3 i = ((x3 i).toReal : EReal)
  s : ∀ i, x5 i = ((x5 i).toReal : EReal)

/-- The scores of a row, as real numbers. -/
def logits (b : Fin 8) (n : Fin 16) (kv : Fin 2) (g : Fin 4) (p : Fin 128) : Fin 640 → ℝ :=
  score (fun d => x0 (ix4 b ⟨128 * n.val + p.val, by omega⟩ ⟨4 * kv.val + g.val, by omega⟩ d)) (fun d r => x1 (ix4 b r kv d))
    (fun d r => x3 (ix4 b r kv d)) n.val

/-- The word of one eighth. -/
theorem eighth : Ideal.ofBits .f32 0x3E000000#32 = ((1 / 8 : ℝ) : EReal) := by
  simp [Ideal.ofBits, Ideal.ieee, -EReal.coe_mul]
  norm_num

/-- A product of finite keys and scaled finite queries is a real sum. -/
theorem dot_real (k q : Fin 64 → EReal) (hk : ∀ d, k d = ((k d).toReal : EReal)) (hq : ∀ d, q d = ((q d).toReal : EReal)) :
    ∑ d, k d * (q d * Ideal.ofBits .f32 0x3E000000#32) = ((∑ d, (q d).toReal * (1 / 8) * (k d).toReal : ℝ) : EReal) := by
  rw [← coe_sum]
  refine Finset.sum_congr rfl fun d _ => ?_
  rw [eighth, EReal.coe_mul, EReal.coe_mul, ← hk, ← hq, mul_comm]

/-- The reference's scores of a row are the real scores where the place is seen, and minus infinity elsewhere. -/
theorem score_at (ok : Ok x0 x1 x3 x5) (b : Fin 8) (n : Fin 16) (kv : Fin 2) (g : Fin 4) (p : Fin 128) (j : Fin 640) :
    val_main_v55 (F := Ideal) x0 x1 x3 x5 (ix6 b n kv g p j.castSucc)
      = if seen n.val p j then ((logits x0 x1 x3 b n kv g p j : ℝ) : EReal) else ⊥ := by
  rw [scores]
  have hj := j.isLt
  by_cases h : j.val < 384
  · rw [dif_pos (show j.castSucc.val < 384 from h), maskedScore, bandScore]
    refine if_congr Iff.rfl ?_ rfl
    simp only [query]
    refine Eq.trans (Finset.sum_congr rfl fun d _ => congrArg (· * _) (banded x1 (fun r => x3 (ix4 b r kv d)) b n ⟨j.val, h⟩ kv d)) ?_
    exact dot_real _ _ (fun d => band_real _ _ (fun t => ok.k _) (fun t => ok.kc _) _ _) (fun d => ok.q _)
  · have hs : seen n.val p j := Or.inl (by omega)
    rw [dif_neg (show ¬j.castSucc.val < 384 from h), dif_pos (show j.castSucc.val - 384 < 256 by show j.val - 384 < 256; omega), if_pos hs, ctxScore]
    simp only [query]
    have hb : ∀ d : Fin 64, x3 (ix4 b ⟨j.val - 384, by omega⟩ kv d) = band (fun r => x1 (ix4 b r kv d)) (fun r => x3 (ix4 b r kv d)) n.val j := by
      intro d; unfold band; rw [dif_neg h]
    refine Eq.trans (Finset.sum_congr rfl fun d _ => congrArg (· * _) (hb d)) ?_
    exact dot_real _ _ (fun d => band_real _ _ (fun t => ok.k _) (fun t => ok.kc _) _ _) (fun d => ok.q _)

/-- The reference's last score of a row is the head's sink. -/
theorem sink_at (b : Fin 8) (n : Fin 16) (kv : Fin 2) (g : Fin 4) (p : Fin 128) :
    val_main_v55 (F := Ideal) x0 x1 x3 x5 (ix6 b n kv g p (Fin.last 640)) = x5 (ix1 ⟨4 * kv.val + g.val, by omega⟩) := by
  rw [scores]
  rfl

/-- No score is plus infinity. -/
theorem score_ne_top (ok : Ok x0 x1 x3 x5) (i : S8x16x2x4x128x641.Idx) : val_main_v55 (F := Ideal) x0 x1 x3 x5 i ≠ ⊤ := by
  obtain ⟨b, n, kv, g, p, j, rfl⟩ : ∃ (b : Fin 8) (n : Fin 16) (kv : Fin 2) (g : Fin 4) (p : Fin 128) (j : Fin 641), i = ix6 b n kv g p j :=
    ⟨i 0, i 1, i 2, i 3, i 4, i 5, eq_ix6 i⟩
  induction j using Fin.lastCases with
  | last => rw [sink_at, ok.s]; exact EReal.coe_ne_top _
  | cast j =>
    rw [score_at x0 x1 x3 x5 ok]
    split
    · exact EReal.coe_ne_top _
    · exact bot_ne_top

/-- The reference's weights of a row are the exact weights. -/
theorem weight_at (ok : Ok x0 x1 x3 x5) (b : Fin 8) (n : Fin 16) (kv : Fin 2) (g : Fin 4) (p : Fin 128) (j : Fin 640) :
    val_main_v66 (F := Ideal) x0 x1 x3 x5 (ix6 b n kv g p j.castSucc)
      = ((weight (seen n.val p) (logits x0 x1 x3 b n kv g p) (x5 (ix1 ⟨4 * kv.val + g.val, by omega⟩)).toReal j : ℝ) : EReal) := by
  have hl := (sink_at x0 x1 x3 x5 b n kv g p).trans (ok.s (ix1 ⟨4 * kv.val + g.val, by omega⟩))
  obtain ⟨M, hM⟩ := top_finite x0 x1 x3 x5 (score_ne_top x0 x1 x3 x5 ok) b n kv g p _ hl
  have hu := score_at x0 x1 x3 x5 ok b n kv g p
  rw [share, Fin.sum_univ_castSucc]
  simp only [expo]
  rw [hM, hl]
  generalize (x5 (ix1 ⟨4 * kv.val + g.val, by omega⟩)).toReal = s
  generalize logits x0 x1 x3 b n kv g p = l at hu ⊢
  generalize val_main_v55 (F := Ideal) x0 x1 x3 x5 = y at hu ⊢
  exact softmax_weight (seen n.val p) l s (fun j => y (ix6 b n kv g p j.castSucc)) M hu j

/-- A sum over `n` places is the sum over the first `a` and the sum over the last `b` of them. -/
theorem sum_two (a b n : ℕ) (h : a + b = n) (f : Fin n → EReal) :
    ∑ j, f j = ∑ j : Fin a, f ⟨j.val, by omega⟩ + ∑ j : Fin b, f ⟨a + j.val, by omega⟩ := by
  subst h
  exact Fin.sum_univ_add f

/-- A sum over the band is a sum over the sequence's places and a sum over the context's. -/
theorem sum_split (f : Fin 640 → EReal) : ∑ j, f j = ∑ j : Fin 384, f ⟨j.val, by omega⟩ + ∑ j : Fin 256, f ⟨384 + j.val, by omega⟩ :=
  sum_two 384 256 640 (by omega) f

/-- The reference's result is the head's attention. -/
theorem head_at (ok : Ok x0 x1 x3 x5) (b : Fin 8) (n : Fin 16) (p : Fin 128) (kv : Fin 2) (g : Fin 4) (d : Fin 64) :
    val_main_v69 (F := Ideal) x0 x1 x2 x3 x5 (ix6 b n p kv g d) + val_main_v72 (F := Ideal) x0 x1 x3 x4 x5 (ix6 b n p kv g d)
      = head n.val p (fun e => x0 (ix4 b ⟨128 * n.val + p.val, by omega⟩ ⟨4 * kv.val + g.val, by omega⟩ e)) (fun e r => x1 (ix4 b r kv e))
          (fun e r => x3 (ix4 b r kv e)) (fun r => x2 (ix4 b r kv d)) (fun r => x4 (ix4 b r kv d)) (x5 (ix1 ⟨4 * kv.val + g.val, by omega⟩)) := by
  have w := weight_at x0 x1 x3 x5 ok b n kv g p
  unfold logits at w
  rw [mixedBand, mixedCtx, banded_values]
  generalize val_main_v66 (F := Ideal) x0 x1 x3 x5 = W at w ⊢
  unfold head row
  rw [sum_split]
  generalize weight (seen n.val p) (score (fun e => x0 (ix4 b ⟨128 * n.val + p.val, by omega⟩ ⟨4 * kv.val + g.val, by omega⟩ e)) (fun e r => x1 (ix4 b r kv e))
          (fun e r => x3 (ix4 b r kv e)) n.val) (x5 (ix1 ⟨4 * kv.val + g.val, by omega⟩)).toReal = f at w ⊢
  refine congrArg₂ (· + ·) (Finset.sum_congr rfl fun j _ => ?_) (Finset.sum_congr rfl fun j _ => ?_)
  · have e : W (ix6 b n kv g p ⟨j.val, by omega⟩) = _ := w ⟨j.val, by omega⟩
    rw [banded x2 (fun r => x4 (ix4 b r kv d)), e, mul_comm]
  · have e : W (ix6 b n kv g p ⟨384 + j.val, by omega⟩) = _ := w ⟨384 + j.val, by omega⟩
    have hb : x4 (ix4 b j kv d) = band (fun r => x2 (ix4 b r kv d)) (fun r => x4 (ix4 b r kv d)) n.val ⟨384 + j.val, by omega⟩ := by
      unfold band
      rw [dif_neg (show ¬384 + j.val < 384 by omega)]
      exact congrArg (fun r => x4 (ix4 b r kv d)) (Fin.ext (show j.val = 384 + j.val - 384 by omega))
    rw [hb, e, mul_comm]

end Cert.AttnRefIdeal.Head

end
-- ==== Proof.AttnClaims.lean ====
/- The claims about the attention kernel and its reference. -/
module

public import proofs.«01_k».proof.Defs
public import proofs.«01_k».proof.Proof.Gen.Attn.Frame
public import proofs.«01_k».proof.Proof.AttnPre
public import proofs.«01_k».proof.Proof.AttnCopies
public import proofs.«01_k».proof.Proof.AttnRow
public import proofs.«01_k».proof.Proof.Gen.AttnIdeal.Value
public import proofs.«01_k».proof.Proof.Gen.AttnRefIdeal.Read
public import Idealize.ShloMosaic.Adequacy

@[expose] public section

set_option maxRecDepth 16384

noncomputable section

namespace Cert.AttnClaims

open Idealize.ShloMosaic Idealize.SL.Sem

/-- The attention kernel ends, leaves its arguments as they were and its counters at zero. -/
theorem frame : Cert.quiescent_Attn := fun m ρ _ => Cert.Attn.Gen.frame m ρ

/-- The same of the attention kernel over the extended reals. -/
theorem frame_ideal : Cert.quiescent_AttnIdeal := fun m ρ _ => Cert.AttnIdeal.Gen.frame m ρ

/-- The attention reference ends and leaves its arguments as they were. -/
theorem frame_ref : Cert.quiescent_AttnRefIdeal := fun m ρ _ =>
  (θ_run Cert.AttnRefIdeal.defs _ _).mono (fun r h => ⟨fun c => (h c).2.2.2.2.2.2.2, sem_eq_zero_of_no_sems (by decide) r.2⟩)
    (Cert.AttnRefIdeal.Value.run (F := Ideal) m ρ)

/-- The frames hold without the precondition, so with it. -/
theorem frame_ideal_pre : Cert.quiescent_AttnIdeal_pre_finite := fun m ρ _ => Cert.AttnIdeal.Gen.frame m ρ

/-- The same of the reference. -/
theorem frame_ref_pre : Cert.quiescent_AttnRefIdeal_pre_finite := fun m ρ _ => frame_ref m ρ trivial

/-- The two named constants, the inverse of log 2 and the mask, print as the words that the kernel holds. -/
theorem preserves : Cert.preserves_Attn_AttnIdeal :=
  ⟨IdealRules.named_const.statement Cert.AttnIdeal.κ "log2e" .f32 0x3FB8AA3B#32 (((Real.log 2)⁻¹ : ℝ) : EReal) rfl,
    IdealRules.named_const.statement Cert.AttnIdeal.κ "mask" .f32 0xF149F2CA#32 ⊥ rfl⟩

/-- The two ways to number heads and tokens agree. -/
theorem regroup (A0 : Cert.AttnIdeal.S8x2048x8x64.Idx → EReal) (A1 A2 : Cert.AttnIdeal.S8x2048x2x64.Idx → EReal)
    (A3 A4 : Cert.AttnIdeal.S8x256x2x64.Idx → EReal) (A5 : Cert.AttnIdeal.S8.Idx → EReal) (b : Fin 8) (t : Fin 2048) (k : Fin 512) :
    Cert.AttnSpec.head (t.val / 128) ⟨t.val % 128, by omega⟩
        (fun e => A0 (ix4 b ⟨128 * (t.val / 128) + t.val % 128, by omega⟩ ⟨4 * (k.val / 256) + k.val / 64 % 4, by omega⟩ e))
        (fun e r => A1 (ix4 b r ⟨k.val / 256, by omega⟩ e)) (fun e r => A3 (ix4 b r ⟨k.val / 256, by omega⟩ e))
        (fun r => A2 (ix4 b r ⟨k.val / 256, by omega⟩ ⟨k.val % 64, by omega⟩)) (fun r => A4 (ix4 b r ⟨k.val / 256, by omega⟩ ⟨k.val % 64, by omega⟩))
        (A5 (ix1 ⟨4 * (k.val / 256) + k.val / 64 % 4, by omega⟩))
      = Cert.AttnIdeal.Tile.result A0 A1 A2 A3 A4 A5 b t k := by
  have e1 : 4 * (k.val / 64 / 4) + k.val / 64 % 4 = k.val / 64 := by omega
  have e2 : k.val / 256 = k.val / 64 / 4 := by omega
  unfold Cert.AttnIdeal.Tile.result Cert.AttnIdeal.Tile.attn
  simp only [e1, e2]

/-- The reference's attention is the kernel's function of the same six arrays, where the scores' arrays are finite. -/
theorem reference (m : (ℓ : Loc Cert.AttnRefIdeal.nD Cert.AttnRefIdeal.τ Cert.AttnRefIdeal.sig) → Buf (Elt Ideal) ℓ) (c : Dev Cert.AttnRefIdeal.nD)
    (ok : Cert.AttnRefIdeal.Head.Ok (m ((c.tc : Thread Cert.AttnRefIdeal.nD Cert.AttnRefIdeal.τ).loc Cert.AttnRefIdeal.main_arg0))
      (m ((c.tc : Thread Cert.AttnRefIdeal.nD Cert.AttnRefIdeal.τ).loc Cert.AttnRefIdeal.main_arg1))
      (m ((c.tc : Thread Cert.AttnRefIdeal.nD Cert.AttnRefIdeal.τ).loc Cert.AttnRefIdeal.main_arg3))
      (m ((c.tc : Thread Cert.AttnRefIdeal.nD Cert.AttnRefIdeal.τ).loc Cert.AttnRefIdeal.main_arg5))) :
    Cert.AttnRefIdeal.Value.res_main_v75 m c = fun i : Cert.AttnIdeal.S8x2048x512.Idx => Cert.AttnIdeal.Tile.result
          (m ((c.tc : Thread Cert.AttnRefIdeal.nD Cert.AttnRefIdeal.τ).loc Cert.AttnRefIdeal.main_arg0))
          (m ((c.tc : Thread Cert.AttnRefIdeal.nD Cert.AttnRefIdeal.τ).loc Cert.AttnRefIdeal.main_arg1))
          (m ((c.tc : Thread Cert.AttnRefIdeal.nD Cert.AttnRefIdeal.τ).loc Cert.AttnRefIdeal.main_arg2))
          (m ((c.tc : Thread Cert.AttnRefIdeal.nD Cert.AttnRefIdeal.τ).loc Cert.AttnRefIdeal.main_arg3))
          (m ((c.tc : Thread Cert.AttnRefIdeal.nD Cert.AttnRefIdeal.τ).loc Cert.AttnRefIdeal.main_arg4))
          (m ((c.tc : Thread Cert.AttnRefIdeal.nD Cert.AttnRefIdeal.τ).loc Cert.AttnRefIdeal.main_arg5)) (i 0) (i 1) (i 2) := by
  rw [Cert.AttnRefIdeal.Read.val_main_v75_eq]
  funext i
  obtain ⟨b, t, k, rfl⟩ : ∃ (b : Fin 8) (t : Fin 2048) (k : Fin 512), i = ix3 b t k := ⟨i 0, i 1, i 2, eq_ix3 i⟩
  refine (Cert.AttnRefIdeal.Head.joined _ _ _ _ _ _ b t k).trans ?_
  refine (Cert.AttnRefIdeal.Head.head_at _ _ _ _ _ _ ok b _ _ _ _ _).trans ?_
  exact regroup _ _ _ _ _ _ b t k

/-- Over the extended reals the attention kernel and its reference end with the same seven arrays, where the queries, the keys, the
    context's keys and the sinks are finite. -/
theorem algebraic : Cert.algebraic_AttnIdeal_AttnRefIdeal_pre_finite := by
  intro m ρ m' ρ' pre hag
  have fin := fun c => AttnPre.read _ _ _ _ _ _ _ _ _ _ _ _ (pre c)
  have fine : ∀ c, Cert.AttnIdeal.Tile.Fine m c := fun c => ⟨(fin c).1, (fin c).2.1, (fin c).2.2.1, (fin c).2.2.2⟩
  refine ⟨_, _, _, _, _, _, _, (θ_run Cert.AttnIdeal.defs _ _).mono (fun _ h c => ⟨(h c).1.trans (Cert.AttnIdeal.Tile.final m c (fine c)),
        (h c).2.1.trans (Cert.AttnIdeal.Tile.final13 m c), (h c).2.2.1.trans (Cert.AttnIdeal.Tile.final14 m c),
        (h c).2.2.2.1.trans (Cert.AttnIdeal.Tile.final15 m c), (h c).2.2.2.2.1.trans (Cert.AttnIdeal.Tile.final16 m c),
        (h c).2.2.2.2.2.1.trans (Cert.AttnIdeal.Tile.final17 m c), (h c).2.2.2.2.2.2.1.trans (Cert.AttnIdeal.Tile.final18 m c),
        (h c).2.2.2.2.2.2.2⟩)
      (Cert.AttnIdeal.Value.run_blocks (F := Ideal) m ρ),
    (θ_run Cert.AttnRefIdeal.defs _ _).mono (fun _ h c => ⟨(h c).1.trans ?_, (h c).2.1.trans ?_, (h c).2.2.1.trans ?_, (h c).2.2.2.1.trans ?_,
        (h c).2.2.2.2.1.trans ?_, (h c).2.2.2.2.2.1.trans ?_, (h c).2.2.2.2.2.2.1.trans ?_, (h c).2.2.2.2.2.2.2⟩)
      (Cert.AttnRefIdeal.Value.run (F := Ideal) m' ρ')⟩
  · obtain ⟨h0, h1, h2, h3, h4, h5, -⟩ := hag c
    refine (reference m' c ⟨?_, ?_, ?_, ?_⟩).trans ?_
    · rw [h0]; exact (fin c).1
    · rw [h1]; exact (fin c).2.1
    · rw [h3]; exact (fin c).2.2.1
    · rw [h5]; exact (fin c).2.2.2
    · rw [h0, h1, h2, h3, h4, h5]
  · exact (hag c).2.2.2.2.2.2.1
  · exact (hag c).2.2.2.2.2.2.2.1
  · exact (hag c).2.2.2.2.2.2.2.2.1
  · exact (hag c).2.2.2.2.2.2.2.2.2.1
  · exact (hag c).2.2.2.2.2.2.2.2.2.2.1
  · exact (hag c).2.2.2.2.2.2.2.2.2.2.2

end Cert.AttnClaims

end
-- ==== Proof.MergeSpec.lean ====
/- The merge of the two branches and the feed-forward block, one token at a time, over the extended reals. -/
module

public import Idealize.ShloMosaic.Lib.Pointwise

@[expose] public section

noncomputable section

namespace Cert.MergeSpec

open Idealize.ShloMosaic

/-- One half, as the kernel spells it. -/
abbrev half : EReal := Ideal.ofBits .f32 0x3F000000#32

/-- A row times a matrix, at a column. -/
def rowMul {a b : ℕ} (v : Fin a → EReal) (w : Fin a → Fin b → EReal) (c : Fin b) : EReal := ∑ k, v k * w k c

/-- The two branches of a token, each projected and gated, added. -/
def gated (yh ya : Fin 512 → EReal) (wh wa : Fin 512 → Fin 1024 → EReal) (gh ga : Fin 1024 → EReal) (c : Fin 1024) : EReal :=
  Ideal.logistic (gh c) * rowMul yh wh c + Ideal.logistic (ga c) * rowMul ya wa c

/-- The same with each gate doubled and one half taken of the sum. -/
def gatedHalf (yh ya : Fin 512 → EReal) (wh wa : Fin 512 → Fin 1024 → EReal) (th ta : Fin 1024 → EReal) (c : Fin 1024) : EReal :=
  half * (th c * rowMul yh wh c + ta c * rowMul ya wa c)

/-- The residual stream after the merged branches have been projected and scaled. -/
def resid (x g : Fin 1024 → EReal) (mix : Fin 1024 → EReal) (wo : Fin 1024 → Fin 1024 → EReal) (c : Fin 1024) : EReal :=
  x c + g c * rowMul mix wo c

/-- Root-mean-square normalisation of a token, its weight, and the shift and scale of the modulation. -/
def normed (x nw sc sh : Fin 1024 → EReal) (c : Fin 1024) : EReal :=
  x c * Ideal.rsqrt (Ideal.div (∑ k, x k * x k) (Ideal.ofBits .f32 0x44800000#32) + Ideal.ofBits .f32 0x358637BD#32)
    * nw c * (1 + sc c) + sh c

/-- The gated activation of the feed-forward block at a hidden unit. -/
def act (h : Fin 1024 → EReal) (wg wu : Fin 1024 → Fin 2816 → EReal) (f : Fin 2816) : EReal :=
  rowMul h wg f * Ideal.logistic (rowMul h wg f) * rowMul h wu f

/-- The feed-forward block's contribution added to the residual stream. -/
def ffn (x1 h g : Fin 1024 → EReal) (wg wu : Fin 1024 → Fin 2816 → EReal) (wd : Fin 2816 → Fin 1024 → EReal) (c : Fin 1024) : EReal :=
  x1 c + g c * rowMul (act h wg wu) wd c

/-- A token of the block's result, from the merged branches on. -/
def token (x mix g1 sh sc g2 nw : Fin 1024 → EReal) (wo : Fin 1024 → Fin 1024 → EReal)
    (wg wu : Fin 1024 → Fin 2816 → EReal) (wd : Fin 2816 → Fin 1024 → EReal) (c : Fin 1024) : EReal :=
  ffn (resid x g1 mix wo) (normed (resid x g1 mix wo) nw sc sh) g2 wg wu wd c

/-- The kernel's one half is one half. -/
theorem half_eq : half = ((1 / 2 : ℝ) : EReal) := by
  unfold half
  simp [Ideal.ofBits, Ideal.ieee, -EReal.coe_mul]; norm_num

/-- The logistic function by the hyperbolic tangent, on every extended real. -/
theorem half_tanh (a : EReal) : half * Ideal.tanh (half * a) + half = Ideal.logistic a := by
  rw [half_eq]
  induction a using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, Real.tanh_eq]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [h1]
    have hp := Real.exp_pos (1 / 2 * r)
    have hq := Real.exp_pos (-(1 / 2 * r))
    set p := Real.exp (1 / 2 * r)
    set q := Real.exp (-(1 / 2 * r))
    field_simp
    nlinarith [h2]

/-- A feed-forward row computed in two chunks of hidden units. -/
theorem rowMul_split (v : Fin 2816 → EReal) (w : Fin 2816 → Fin 1024 → EReal) (c : Fin 1024) :
    rowMul v w c = (∑ k : Fin 1536, v ⟨k, by omega⟩ * w ⟨k, by omega⟩ c)
      + ∑ k : Fin 1280, v ⟨1536 + k, by omega⟩ * w ⟨1536 + k, by omega⟩ c := by
  unfold rowMul
  rw [Fin.sum_univ_two_halves 1536 1280 rfl]

/-- Halving the sum of the doubled gates is gating by the logistic function. -/
theorem gatedHalf_eq (yh ya : Fin 512 → EReal) (wh wa : Fin 512 → Fin 1024 → EReal) (gh ga : Fin 1024 → EReal) (c : Fin 1024) :
    gatedHalf yh ya wh wa (fun k => Ideal.tanh (half * gh k) + 1) (fun k => Ideal.tanh (half * ga k) + 1) c
      = gated yh ya wh wa gh ga c := by
  have hn : (0 : EReal) ≤ half := by rw [half_eq]; exact_mod_cast (by norm_num : (0 : ℝ) ≤ 1 / 2)
  have ht : half ≠ ⊤ := by rw [half_eq]; exact EReal.coe_ne_top _
  have key : ∀ a : EReal, half * (Ideal.tanh (half * a) + 1) = Ideal.logistic a := fun a => by
    rw [EReal.left_distrib_of_nonneg_of_ne_top hn ht, mul_one, half_tanh]
  unfold gatedHalf gated
  rw [EReal.left_distrib_of_nonneg_of_ne_top hn ht, ← mul_assoc, ← mul_assoc, key, key]

/-- A token by the halved doubled gates is the token by the logistic gates, operand by operand. -/
theorem token_congr {x x' g1 g1' sh sh' sc sc' g2 g2' nw nw' : Fin 1024 → EReal} {wo wo' : Fin 1024 → Fin 1024 → EReal}
    {wg wg' wu wu' : Fin 1024 → Fin 2816 → EReal} {wd wd' : Fin 2816 → Fin 1024 → EReal}
    {yh yh' ya ya' : Fin 512 → EReal} {wh wh' wa wa' : Fin 512 → Fin 1024 → EReal} {th ta gh ga : Fin 1024 → EReal} {c c' : Fin 1024}
    (hx : ∀ k, x k = x' k) (hyh : ∀ k, yh k = yh' k) (hya : ∀ k, ya k = ya' k)
    (hwh : ∀ k c, wh k c = wh' k c) (hwa : ∀ k c, wa k c = wa' k c)
    (hth : ∀ k, th k = Ideal.tanh (half * gh k) + 1) (hta : ∀ k, ta k = Ideal.tanh (half * ga k) + 1)
    (hg1 : ∀ k, g1 k = g1' k) (hsh : ∀ k, sh k = sh' k) (hsc : ∀ k, sc k = sc' k) (hg2 : ∀ k, g2 k = g2' k)
    (hnw : ∀ k, nw k = nw' k) (hwo : ∀ k c, wo k c = wo' k c) (hwg : ∀ k c, wg k c = wg' k c) (hwu : ∀ k c, wu k c = wu' k c)
    (hwd : ∀ k c, wd k c = wd' k c) (hc : c = c') :
    token x (gatedHalf yh ya wh wa th ta) g1 sh sc g2 nw wo wg wu wd c
      = token x' (gated yh' ya' wh' wa' gh ga) g1' sh' sc' g2' nw' wo' wg' wu' wd' c' := by
  obtain rfl : x = x' := funext hx
  obtain rfl : yh = yh' := funext hyh
  obtain rfl : ya = ya' := funext hya
  obtain rfl : wh = wh' := funext fun k => funext (hwh k)
  obtain rfl : wa = wa' := funext fun k => funext (hwa k)
  obtain rfl : g1 = g1' := funext hg1
  obtain rfl : sh = sh' := funext hsh
  obtain rfl : sc = sc' := funext hsc
  obtain rfl : g2 = g2' := funext hg2
  obtain rfl : nw = nw' := funext hnw
  obtain rfl : wo = wo' := funext fun k => funext (hwo k)
  obtain rfl : wg = wg' := funext fun k => funext (hwg k)
  obtain rfl : wu = wu' := funext fun k => funext (hwu k)
  obtain rfl : wd = wd' := funext fun k => funext (hwd k)
  obtain rfl : th = _ := funext hth
  obtain rfl : ta = _ := funext hta
  subst hc
  rw [show gatedHalf yh ya wh wa (fun k => Ideal.tanh (half * gh k) + 1) (fun k => Ideal.tanh (half * ga k) + 1)
    = gated yh ya wh wa gh ga from funext fun c => gatedHalf_eq yh ya wh wa gh ga c]

end Cert.MergeSpec

end
-- ==== Proof.MergeTile.lean ====
/- The merge kernel's block result read at an index: each token's row is `MergeSpec.token` of the block's rows. -/
module

public import proofs.«01_k».proof.Proof.Gen.MergeIdeal.Value
public import proofs.«01_k».proof.Proof.MergeSpec
public import Idealize.ShloMosaic.Lib.Pipeline.ValueKit
public import Idealize.ShloMosaic.Lib.Pointwise

@[expose] public section

set_option maxRecDepth 16384

noncomputable section

namespace Cert.MergeIdeal.Tile

open Cert.MergeIdeal Cert.MergeIdeal.Gen Cert.MergeSpec Idealize.ShloMosaic Idealize.ShloMosaic.TcCoe Idealize.SL.Sem

/-- A branch projected, at an index. -/
theorem pay7_apply (v8 : Vec Ideal S1x256x512 .bf16) (v10 : Vec Ideal S512x1024 .bf16) (r : Fin 256) (c : Fin 1024) :
    k0_pay7 v8 v10 (ix2 r c)
      = rowMul (fun k => v8 (ix3 0 r k)) (fun k c => v10 (ix2 k c)) c := by
  pointwise [k0_pay7, rowMul]

/-- A branch projected, at an index. -/
theorem pay8_apply (v13 : Vec Ideal S1x256x512 .bf16) (v15 : Vec Ideal S512x1024 .bf16) (r : Fin 256) (c : Fin 1024) :
    k0_pay8 v13 v15 (ix2 r c)
      = rowMul (fun k => v13 (ix3 0 r k)) (fun k c => v15 (ix2 k c)) c := by
  pointwise [k0_pay8, rowMul]

/-- A branch projected, at an index. -/
theorem pay9_apply (v18 : Vec Ideal S1x256x512 .bf16) (v20 : Vec Ideal S512x1024 .bf16) (r : Fin 256) (c : Fin 1024) :
    k0_pay9 v18 v20 (ix2 r c)
      = rowMul (fun k => v18 (ix3 0 r k)) (fun k c => v20 (ix2 k c)) c := by
  pointwise [k0_pay9, rowMul]

/-- The gated branches of the first rows, projected. -/
theorem pay11_apply (v12 v17 : FVec Ideal S256x1024 .f32) (v28 v32 : Vec Ideal S1x256x1024 .bf16) (v40 : Vec Ideal S1024x1024 .bf16) (r : Fin 256) (c : Fin 1024) :
    k0_pay11 v12 v17 v28 v32 v40 (ix2 r c)
      = rowMul (fun k => half * (v28 (ix3 0 r k) * v12 (ix2 r k) + v32 (ix3 0 r k) * v17 (ix2 r k))) (fun k c => v40 (ix2 k c)) c := by
  pointwise [k0_pay11, rowMul]

/-- The gated branches of the last rows, projected. -/
theorem pay12_apply (v22 : FVec Ideal S256x1024 .f32) (v23 : Vec Ideal S1x256x512 .bf16) (v25 : Vec Ideal S512x1024 .bf16) (v43 v47 : Vec Ideal S1x256x1024 .bf16) (v55 : Vec Ideal S1024x1024 .bf16) (r : Fin 256) (c : Fin 1024) :
    k0_pay12 v22 (k0_pay10 v23) v25 v43 v47 v55 (ix2 r c)
      = rowMul (fun k => half * (v43 (ix3 0 r k) * v22 (ix2 r k) + v47 (ix3 0 r k) * rowMul (fun k => v23 (ix3 0 r k)) (fun k c => v25 (ix2 k c)) k)) (fun k c => v55 (ix2 k c)) c := by
  pointwise [k0_pay12, k0_pay10, rowMul]

/-- The residual stream after the merge. -/
theorem pay13_apply (v1 : FVec Ideal S1x1024 .f32) (v42 : FVec Ideal S256x1024 .f32) (v58 : Vec Ideal S1x256x1024 .f32) (r : Fin 256) (c : Fin 1024) :
    k0_pay13 v1 v42 v58 (ix2 r c)
      = v58 (ix3 0 r c) + v1 (ix2 0 c) * v42 (ix2 r c) := by
  pointwise [k0_pay13]

/-- The residual stream after the merge. -/
theorem pay17_apply (v1 : FVec Ideal S1x1024 .f32) (v42 : FVec Ideal S256x1024 .f32) (v58 : Vec Ideal S1x256x1024 .f32) (r : Fin 256) (c : Fin 1024) :
    k0_pay17 v1 v42 v58 (ix2 r c)
      = v58 (ix3 0 r c) + v1 (ix2 0 c) * v42 (ix2 r c) := by
  pointwise [k0_pay17]

/-- The normalised first rows. -/
theorem pay14_apply (v1 v3 v5 : FVec Ideal S1x1024 .f32) (v42 : FVec Ideal S256x1024 .f32) (v58 : Vec Ideal S1x256x1024 .f32) (v73 : Vec Ideal S1x1024 .f32) (r : Fin 256) (c : Fin 1024) :
    k0_pay14 v1 v3 v5 v42 v58 v73 (ix2 r c)
      = normed (fun c => k0_pay13 v1 v42 v58 (ix2 r c)) (fun c => v73 (ix2 0 c)) (fun c => v5 (ix2 0 c)) (fun c => v3 (ix2 0 c)) c := by
  unfold k0_pay14
  generalize k0_pay13 v1 v42 v58 = x1
  pointwise [normed]

/-- The normalised last rows. -/
theorem pay20_apply (v1 v3 v5 : FVec Ideal S1x1024 .f32) (v57 : FVec Ideal S256x1024 .f32) (v90 : Vec Ideal S1x256x1024 .f32) (v105 : Vec Ideal S1x1024 .f32) (r : Fin 256) (c : Fin 1024) :
    k0_pay20 v3 v5 (k0_pay17 v1 v57 v90) (k0_pay18 v1 v57 v90) k0_pay19 v105 (ix2 r c)
      = normed (fun c => k0_pay17 v1 v57 v90 (ix2 r c)) (fun c => v105 (ix2 0 c)) (fun c => v5 (ix2 0 c)) (fun c => v3 (ix2 0 c)) c := by
  unfold k0_pay20 k0_pay18 k0_pay19
  generalize k0_pay17 v1 v57 v90 = x1
  pointwise [normed]

/-- The first hidden units of the first rows. -/
theorem pay15_apply (v1 v3 v5 : FVec Ideal S1x1024 .f32) (v42 : FVec Ideal S256x1024 .f32) (v58 : Vec Ideal S1x256x1024 .f32) (v73 : Vec Ideal S1x1024 .f32) (v84 : Vec Ideal S1024x1536 .bf16) (r : Fin 256) (c : Fin 1536) :
    k0_pay15 v1 v3 v5 v42 v58 v73 v84 (ix2 r c)
      = rowMul (fun k => k0_pay14 v1 v3 v5 v42 v58 v73 (ix2 r k)) (fun k c => v84 (ix2 k c)) c := by
  unfold k0_pay15
  generalize k0_pay14 v1 v3 v5 v42 v58 v73 = h
  pointwise [rowMul]

/-- The first hidden units of the first rows. -/
theorem pay16_apply (v1 v3 v5 : FVec Ideal S1x1024 .f32) (v42 : FVec Ideal S256x1024 .f32) (v58 : Vec Ideal S1x256x1024 .f32) (v73 : Vec Ideal S1x1024 .f32) (v87 : Vec Ideal S1024x1536 .bf16) (r : Fin 256) (c : Fin 1536) :
    k0_pay16 v1 v3 v5 v42 v58 v73 v87 (ix2 r c)
      = rowMul (fun k => k0_pay14 v1 v3 v5 v42 v58 v73 (ix2 r k)) (fun k c => v87 (ix2 k c)) c := by
  unfold k0_pay16
  generalize k0_pay14 v1 v3 v5 v42 v58 v73 = h
  pointwise [rowMul]

/-- The first hidden units of the last rows. -/
theorem pay21_apply (v3 v5 : FVec Ideal S1x1024 .f32) (v94 : FVec Ideal S256x1024 .f32) (v99 v100 : FVec Ideal S256x1 .f32) (v105 : Vec Ideal S1x1024 .f32) (v119 : Vec Ideal S1024x1536 .bf16) (r : Fin 256) (c : Fin 1536) :
    k0_pay21 v3 v5 v94 v99 v100 v105 v119 (ix2 r c)
      = rowMul (fun k => k0_pay20 v3 v5 v94 v99 v100 v105 (ix2 r k)) (fun k c => v119 (ix2 k c)) c := by
  unfold k0_pay21
  generalize k0_pay20 v3 v5 v94 v99 v100 v105 = h
  pointwise [rowMul]

/-- The first gating units of the last rows, activated. -/
theorem pay23_apply (v3 v5 : FVec Ideal S1x1024 .f32) (v94 : FVec Ideal S256x1024 .f32) (v99 v100 : FVec Ideal S256x1 .f32) (v105 : Vec Ideal S1x1024 .f32) (v116 : Vec Ideal S1024x1536 .bf16) (r : Fin 256) (c : Fin 1536) :
    k0_pay23 v3 v5 v94 v99 v100 v105 v116 (ix2 r c)
      = rowMul (fun k => k0_pay20 v3 v5 v94 v99 v100 v105 (ix2 r k)) (fun k c => v116 (ix2 k c)) c * Ideal.logistic (rowMul (fun k => k0_pay20 v3 v5 v94 v99 v100 v105 (ix2 r k)) (fun k c => v116 (ix2 k c)) c) := by
  unfold k0_pay23
  generalize k0_pay20 v3 v5 v94 v99 v100 v105 = h
  rw [← half_tanh]
  pointwise [rowMul]

/-- The first chunk of the feed-forward block on the first rows. -/
theorem pay22_apply (v86 v89 : FVec Ideal S256x1536 .f32) (v132 : Vec Ideal S1536x1024 .bf16) (r : Fin 256) (c : Fin 1024) :
    k0_pay22 v86 v89 v132 (ix2 r c)
      = ∑ k : Fin 1536, v86 (ix2 r k) * Ideal.logistic (v86 (ix2 r k)) * v89 (ix2 r k) * v132 (ix2 k c) := by
  simp only [← half_tanh]
  pointwise [k0_pay22]

/-- The first chunk of the feed-forward block on the last rows. -/
theorem pay24_apply (v121 v142 : FVec Ideal S256x1536 .f32) (v145 : Vec Ideal S1536x1024 .bf16) (r : Fin 256) (c : Fin 1024) :
    k0_pay24 v121 v142 v145 (ix2 r c)
      = ∑ k : Fin 1536, v142 (ix2 r k) * v121 (ix2 r k) * v145 (ix2 k c) := by
  pointwise [k0_pay24]

/-- The last hidden units of the last rows. -/
theorem pay25_apply (v115 : FVec Ideal S256x1024 .bf16) (v154 : Vec Ideal S1024x1280 .bf16) (r : Fin 256) (c : Fin 1280) :
    k0_pay25 v115 v154 (ix2 r c)
      = rowMul (fun k => v115 (ix2 r k)) (fun k c => v154 (ix2 k c)) c := by
  pointwise [k0_pay25, rowMul]

/-- The last hidden units of the last rows. -/
theorem pay26_apply (v115 : FVec Ideal S256x1024 .bf16) (v157 : Vec Ideal S1024x1280 .bf16) (r : Fin 256) (c : Fin 1280) :
    k0_pay26 v115 v157 (ix2 r c)
      = rowMul (fun k => v115 (ix2 r k)) (fun k c => v157 (ix2 k c)) c := by
  pointwise [k0_pay26, rowMul]

/-- The second chunk of the feed-forward block on the first rows. -/
theorem pay27_apply (v83 : FVec Ideal S256x1024 .bf16) (v148 v151 : Vec Ideal S1024x1280 .bf16) (v170 : Vec Ideal S1280x1024 .bf16) (r : Fin 256) (c : Fin 1024) :
    k0_pay27 v83 v148 v151 v170 (ix2 r c)
      = ∑ k : Fin 1280, rowMul (fun k => v83 (ix2 r k)) (fun k c => v148 (ix2 k c)) k * Ideal.logistic (rowMul (fun k => v83 (ix2 r k)) (fun k c => v148 (ix2 k c)) k) * rowMul (fun k => v83 (ix2 r k)) (fun k c => v151 (ix2 k c)) k * v170 (ix2 k c) := by
  simp only [← half_tanh]
  pointwise [k0_pay27, rowMul]

/-- The first rows of the block result. -/
theorem pay1_apply (v7 : FVec Ideal S1x1024 .f32) (v62 v134 v172 : FVec Ideal S256x1024 .f32) (r : Fin 256) (c : Fin 1024) :
    k0_pay1 v7 v62 v134 v172 (ix3 0 r c)
      = v62 (ix2 r c) + v7 (ix2 0 c) * (v134 (ix2 r c) + v172 (ix2 r c)) := by
  pointwise [k0_pay1]

/-- The last rows of the block result. -/
theorem pay2_apply (v7 : FVec Ideal S1x1024 .f32) (v94 v147 : FVec Ideal S256x1024 .f32) (v115 : FVec Ideal S256x1024 .bf16) (v154 v157 : Vec Ideal S1024x1280 .bf16) (v183 : Vec Ideal S1280x1024 .bf16) (r : Fin 256) (c : Fin 1024) :
    k0_pay2 v7 v94 v147 (k0_pay25 v115 v154) (k0_pay26 v115 v157) (k0_pay28 v115 v154) k0_pay29 v183 (ix3 0 r c)
      = v94 (ix2 r c) + v7 (ix2 0 c) * (v147 (ix2 r c) + ∑ k : Fin 1280, k0_pay25 v115 v154 (ix2 r k) * Ideal.logistic (k0_pay25 v115 v154 (ix2 r k)) * k0_pay26 v115 v157 (ix2 r k) * v183 (ix2 k c)) := by
  simp only [← half_tanh]
  unfold k0_pay2 k0_pay28
  generalize k0_pay25 v115 v154 = g
  generalize k0_pay26 v115 v157 = u
  pointwise [k0_pay29]

/-- A row of the modulation. -/
theorem pay3_apply (v : Vec Ideal S1x1x1024 .f32) (c : Fin 1024) : k0_pay3 v (ix2 0 c) = v (ix3 0 0 c) := by
  pointwise [k0_pay3]

/-- A row of the modulation. -/
theorem pay4_apply (v : Vec Ideal S1x1x1024 .f32) (c : Fin 1024) : k0_pay4 v (ix2 0 c) = v (ix3 0 0 c) := by
  pointwise [k0_pay4]

/-- A row of the modulation. -/
theorem pay5_apply (v : Vec Ideal S1x1x1024 .f32) (c : Fin 1024) : k0_pay5 v (ix2 0 c) = v (ix3 0 0 c) := by
  pointwise [k0_pay5]

/-- A row of the modulation. -/
theorem pay6_apply (v : Vec Ideal S1x1x1024 .f32) (c : Fin 1024) : k0_pay6 v (ix2 0 c) = v (ix3 0 0 c) := by
  pointwise [k0_pay6]

/-- The block result at an index is the token's row of the block's operands. -/
theorem out_apply (w0 : Vec Ideal S1x512x1024 .f32) (w1 w2 : Vec Ideal S1x512x512 .bf16) (w3 : Vec Ideal S1x512x2048 .bf16)
    (w4 : Vec Ideal S1x1x6144 .f32) (w5 : Vec Ideal S1x1024 .f32) (w6 w7 : Vec Ideal S512x1024 .bf16) (w8 : Vec Ideal S1024x1024 .bf16)
    (w9 w10 : Vec Ideal S1024x2816 .bf16) (w11 : Vec Ideal S2816x1024 .bf16) (r : Fin 512) (c : Fin 1024) :
    out0_12 w0 w1 w2 w3 w4 w5 w6 w7 w8 w9 w10 w11 (ix3 0 r c)
      = token (fun k => w0 (ix3 0 r k))
          (gatedHalf (fun k => w1 (ix3 0 r k)) (fun k => w2 (ix3 0 r k)) (fun k c => w6 (ix2 k c)) (fun k c => w7 (ix2 k c))
            (fun k => w3 (ix3 0 r ⟨k, by omega⟩)) (fun k => w3 (ix3 0 r ⟨1024 + k, by omega⟩)))
          (fun k => w4 (ix3 0 0 ⟨2048 + k, by omega⟩)) (fun k => w4 (ix3 0 0 ⟨3072 + k, by omega⟩))
          (fun k => w4 (ix3 0 0 ⟨4096 + k, by omega⟩)) (fun k => w4 (ix3 0 0 ⟨5120 + k, by omega⟩))
          (fun k => w5 (ix2 0 k)) (fun k c => w8 (ix2 k c)) (fun k c => w9 (ix2 k c)) (fun k c => w10 (ix2 k c))
          (fun k c => w11 (ix2 k c)) c := by
  generalize hy : (ix3 0 r c : S1x512x1024.Idx) = y
  unfold_out out0_12
  canon_tiles x h
  · subst hy
    obtain ⟨a, p, q, rfl⟩ : ∃ (a : Fin 1) (p : Fin 256) (q : Fin 1024), x = ix3 a p q := ⟨x 0, x 1, x 2, eq_ix3 x⟩
    obtain rfl : a = 0 := Subsingleton.elim _ _
    obtain rfl : r = ⟨256 + p, Nat.add_lt_add_left p.isLt 256⟩ := Fin.ext h1
    obtain rfl : c = q := Fin.ext h2
    simp only [pay2_apply, pay25_apply, pay26_apply, pay24_apply, pay21_apply, pay23_apply, pay20_apply, pay17_apply, pay12_apply,
      pay9_apply, pay3_apply, pay4_apply, pay5_apply, pay6_apply]
    unfold token ffn
    rw [rowMul_split]
    unfold act resid gatedHalf
    pointwise
    rfl
  · subst hy
    obtain ⟨a, p, q, rfl⟩ : ∃ (a : Fin 1) (p : Fin 256) (q : Fin 1024), x = ix3 a p q := ⟨x 0, x 1, x 2, eq_ix3 x⟩
    obtain rfl : a = 0 := Subsingleton.elim _ _
    obtain rfl : r = ⟨p, Nat.lt_trans p.isLt (by decide)⟩ := Fin.ext h1
    obtain rfl : c = q := Fin.ext h2
    simp only [pay1_apply, pay13_apply, pay22_apply, pay15_apply, pay16_apply, pay14_apply, pay27_apply, pay11_apply, pay7_apply,
      pay8_apply, pay3_apply, pay4_apply, pay5_apply, pay6_apply]
    unfold token ffn
    rw [rowMul_split]
    unfold act resid gatedHalf
    pointwise
    rfl

end Cert.MergeIdeal.Tile

end
-- ==== Proof.MergeFinal.lean ====
/- The merge kernel's result array as one function of its arguments. -/
module

public import proofs.«01_k».proof.Proof.MergeTile
public import Idealize.ShloMosaic.Lib.Claim

@[expose] public section

set_option maxRecDepth 16384

noncomputable section

namespace Cert.MergeIdeal.Tile

open Cert.MergeIdeal Cert.MergeIdeal.Gen Cert.MergeSpec Idealize.ShloMosaic Idealize.ShloMosaic.TcCoe Idealize.SL.Sem

/-- The block's result as one function of the twelve argument arrays: each token is `MergeSpec.token` of its rows. -/
def result (a0 : Vec Ideal S8x2048x1024 .f32) (a1 a2 : Vec Ideal S8x2048x512 .f32) (a3 : Vec Ideal S8x2048x2048 .f32)
    (a4 : Vec Ideal S8x6144 .f32) (a5 : Vec Ideal S1024 .f32) (a6 a7 : Vec Ideal S512x1024 .f32) (a8 : Vec Ideal S1024x1024 .f32)
    (a9 a10 : Vec Ideal S1024x2816 .f32) (a11 : Vec Ideal S2816x1024 .f32) (i : S8x2048x1024.Idx) : EReal :=
  token (fun k => a0 (ix3 (i 0) (i 1) k))
    (gated (fun k => a1 (ix3 (i 0) (i 1) k)) (fun k => a2 (ix3 (i 0) (i 1) k)) (fun k c => a6 (ix2 k c)) (fun k c => a7 (ix2 k c))
      (fun k => a3 (ix3 (i 0) (i 1) ⟨k, by omega⟩)) (fun k => a3 (ix3 (i 0) (i 1) ⟨1024 + k, by omega⟩)))
    (fun k => a4 (ix2 (i 0) ⟨2048 + k, by omega⟩)) (fun k => a4 (ix2 (i 0) ⟨3072 + k, by omega⟩))
    (fun k => a4 (ix2 (i 0) ⟨4096 + k, by omega⟩)) (fun k => a4 (ix2 (i 0) ⟨5120 + k, by omega⟩))
    (fun k => a5 (ix1 k)) (fun k c => a8 (ix2 k c)) (fun k c => a9 (ix2 k c)) (fun k c => a10 (ix2 k c))
    (fun k c => a11 (ix2 k c)) (i 2)

variable (m : (ℓ : Loc nD τ sig) → Buf (Elt Ideal) ℓ)

/-- Which block each window shows at a point: the batch and the block of tokens for the activations, the batch for the
    modulation, everything for the weights. -/
theorem idx (t : Fin cfg0.N) : win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, (grid0.coords t 1).val, 0]) t

/-- The batch of a grid point. -/
def bat (t : Fin cfg0.N) : Fin 8 :=
  ⟨(grid0.coords t 0).val, (by decide +kernel : ∀ t : Fin grid0.N, (grid0.coords t 0).val < 8) t⟩

/-- The token that a row of a grid point's block is. -/
def tok (t : Fin cfg0.N) (p : Fin 512) : Fin 2048 :=
  ⟨(grid0.coords t 1).val * 512 + p,
    Nat.lt_of_lt_of_le (Nat.add_lt_add_left p.isLt _)
      ((by decide +kernel : ∀ t : Fin grid0.N, (grid0.coords t 1).val * 512 + 512 ≤ 2048) t)⟩

/-- Argument 1 as the kernel finds it: itself, its rounding being the identity. -/
theorem V3 (c : Dev nD) : V m c main_v3 = (fun i => m ((c : Thread nD τ).loc main_arg1) i : S8x2048x512.Idx → EReal) := by
  entry_read; rfl

/-- Argument 2 as the kernel finds it: itself, its rounding being the identity. -/
theorem V4 (c : Dev nD) : V m c main_v4 = (fun i => m ((c : Thread nD τ).loc main_arg2) i : S8x2048x512.Idx → EReal) := by
  entry_read; rfl

/-- Argument 6 as the kernel finds it: itself, its rounding being the identity. -/
theorem V12 (c : Dev nD) : V m c main_v12 = (fun i => m ((c : Thread nD τ).loc main_arg6) i : S512x1024.Idx → EReal) := by
  entry_read; rfl

/-- Argument 7 as the kernel finds it: itself, its rounding being the identity. -/
theorem V13 (c : Dev nD) : V m c main_v13 = (fun i => m ((c : Thread nD τ).loc main_arg7) i : S512x1024.Idx → EReal) := by
  entry_read; rfl

/-- Argument 8 as the kernel finds it: itself, its rounding being the identity. -/
theorem V14 (c : Dev nD) : V m c main_v14 = (fun i => m ((c : Thread nD τ).loc main_arg8) i : S1024x1024.Idx → EReal) := by
  entry_read; rfl

/-- Argument 9 as the kernel finds it: itself, its rounding being the identity. -/
theorem V15 (c : Dev nD) : V m c main_v15 = (fun i => m ((c : Thread nD τ).loc main_arg9) i : S1024x2816.Idx → EReal) := by
  entry_read; rfl

/-- Argument 10 as the kernel finds it: itself, its rounding being the identity. -/
theorem V16 (c : Dev nD) : V m c main_v16 = (fun i => m ((c : Thread nD τ).loc main_arg10) i : S1024x2816.Idx → EReal) := by
  entry_read; rfl

/-- Argument 11 as the kernel finds it: itself, its rounding being the identity. -/
theorem V17 (c : Dev nD) : V m c main_v17 = (fun i => m ((c : Thread nD τ).loc main_arg11) i : S2816x1024.Idx → EReal) := by
  entry_read; rfl

/-- The gates as the kernel finds them: doubled, by the hyperbolic tangent. -/
theorem V10 (c : Dev nD) : V m c main_v10 = (fun i => Ideal.tanh (half * m ((c : Thread nD τ).loc main_arg3) i) + 1 : S8x2048x2048.Idx → EReal) := by
  entry_read; funext i; pointwise

/-- The modulation as the kernel finds it, at a batch that exists. -/
theorem V2 (c : Dev nD) (b : Fin 8) (k : Fin 6144) : (V m c main_v2 : S16x1x6144.Idx → EReal) (ix3 ⟨b, by omega⟩ 0 k) = m ((c : Thread nD τ).loc main_arg4) (ix2 b k) := by
  entry_read
  pointwise

/-- The normalisation's weight as the kernel finds it. -/
theorem V11 (c : Dev nD) (k : Fin 1024) : (V m c main_v11 : S1x1024.Idx → EReal) (ix2 0 k) = m ((c : Thread nD τ).loc main_arg5) (ix1 k) := by
  entry_read; pointwise

/-- Operand 0's block at a point, by its array. -/
theorem blk0 (c : Dev nD) (t : Fin cfg0.N) (p : Fin 512) (k : Fin 1024) : iblk m c 0 t (ix3 0 p k)
    = m ((c : Thread nD τ).loc main_arg0) (ix3 (bat t) (tok t p) k) := by
  blk_ext [iblk, V_main_arg0 m c, idx t, bat, tok]

/-- Operand 1's block at a point, by its array. -/
theorem blk1 (c : Dev nD) (t : Fin cfg0.N) (p k : Fin 512) : iblk m c 1 t (ix3 0 p k)
    = m ((c : Thread nD τ).loc main_arg1) (ix3 (bat t) (tok t p) k) := by
  blk_ext [iblk, V3 m c, idx t, bat, tok]

/-- Operand 2's block at a point, by its array. -/
theorem blk2 (c : Dev nD) (t : Fin cfg0.N) (p k : Fin 512) : iblk m c 2 t (ix3 0 p k)
    = m ((c : Thread nD τ).loc main_arg2) (ix3 (bat t) (tok t p) k) := by
  blk_ext [iblk, V4 m c, idx t, bat, tok]

/-- Operand 3's block at a point, by its array. -/
theorem blk3 (c : Dev nD) (t : Fin cfg0.N) (p : Fin 512) (k : Fin 2048) : iblk m c 3 t (ix3 0 p k)
    = Ideal.tanh (half * m ((c : Thread nD τ).loc main_arg3) (ix3 (bat t) (tok t p) k)) + 1 := by
  refine (show iblk m c 3 t (ix3 0 p k) = (V m c main_v10 : S8x2048x2048.Idx → EReal) (ix3 (bat t) (tok t p) k) from ?_).trans
    (congrFun (V10 m c) _)
  blk_ext [iblk, idx t, bat, tok]

/-- Operand 4's block at a point, by its array. -/
theorem blk4 (c : Dev nD) (t : Fin cfg0.N) (k : Fin 6144) : iblk m c 4 t (ix3 0 0 k)
    = m ((c : Thread nD τ).loc main_arg4) (ix2 (bat t) k) := by
  refine (show iblk m c 4 t (ix3 0 0 k) = (V m c main_v2 : S16x1x6144.Idx → EReal) (ix3 ⟨bat t, by omega⟩ 0 k) from ?_).trans
    (V2 m c (bat t) k)
  blk_ext [iblk, idx t, bat]

/-- Operand 5's block at a point, by its array. -/
theorem blk5 (c : Dev nD) (t : Fin cfg0.N) (k : Fin 1024) : iblk m c 5 t (ix2 0 k)
    = m ((c : Thread nD τ).loc main_arg5) (ix1 k) := by
  refine (show iblk m c 5 t (ix2 0 k) = (V m c main_v11 : S1x1024.Idx → EReal) (ix2 0 k) from ?_).trans
    (V11 m c k)
  blk_ext [iblk, idx t]

/-- Operand 6's block at a point, by its array. -/
theorem blk6 (c : Dev nD) (t : Fin cfg0.N) (k : Fin 512) (l : Fin 1024) : iblk m c 6 t (ix2 k l)
    = m ((c : Thread nD τ).loc main_arg6) (ix2 k l) := by
  blk_ext [iblk, V12 m c, idx t]

/-- Operand 7's block at a point, by its array. -/
theorem blk7 (c : Dev nD) (t : Fin cfg0.N) (k : Fin 512) (l : Fin 1024) : iblk m c 7 t (ix2 k l)
    = m ((c : Thread nD τ).loc main_arg7) (ix2 k l) := by
  blk_ext [iblk, V13 m c, idx t]

/-- Operand 8's block at a point, by its array. -/
theorem blk8 (c : Dev nD) (t : Fin cfg0.N) (k : Fin 1024) (l : Fin 1024) : iblk m c 8 t (ix2 k l)
    = m ((c : Thread nD τ).loc main_arg8) (ix2 k l) := by
  blk_ext [iblk, V14 m c, idx t]

/-- Operand 9's block at a point, by its array. -/
theorem blk9 (c : Dev nD) (t : Fin cfg0.N) (k : Fin 1024) (l : Fin 2816) : iblk m c 9 t (ix2 k l)
    = m ((c : Thread nD τ).loc main_arg9) (ix2 k l) := by
  blk_ext [iblk, V15 m c, idx t]

/-- Operand 10's block at a point, by its array. -/
theorem blk10 (c : Dev nD) (t : Fin cfg0.N) (k : Fin 1024) (l : Fin 2816) : iblk m c 10 t (ix2 k l)
    = m ((c : Thread nD τ).loc main_arg10) (ix2 k l) := by
  blk_ext [iblk, V16 m c, idx t]

/-- Operand 11's block at a point, by its array. -/
theorem blk11 (c : Dev nD) (t : Fin cfg0.N) (k : Fin 2816) (l : Fin 1024) : iblk m c 11 t (ix2 k l)
    = m ((c : Thread nD τ).loc main_arg11) (ix2 k l) := by
  blk_ext [iblk, V17 m c, idx t]

/-- The result array after the run. -/
theorem final (c : Dev nD) : (dats m 0 c).arrAt 12 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp
  rw [after0_12]
  obtain ⟨a, p, q, rfl⟩ : ∃ (a : Fin 1) (p : Fin 512) (q : Fin 1024), y = ix3 a p q := ⟨y 0, y 1, y 2, eq_ix3 y⟩
  obtain rfl : a = 0 := Subsingleton.elim _ _
  have e : (win0_12.blk t).view.emb (ix3 0 p q) = ix3 (bat t) (tok t p) q := by
    blk_ext [idx t, bat, tok]
  refine (out_apply _ _ _ _ _ _ _ _ _ _ _ _ p q).trans (Eq.trans ?_ (congrArg _ e.symm))
  exact token_congr (blk0 m c t p) (blk1 m c t p) (blk2 m c t p) (blk6 m c t) (blk7 m c t) (fun k => blk3 m c t p _) (fun k => blk3 m c t p _)
    (fun k => blk4 m c t _) (fun k => blk4 m c t _) (fun k => blk4 m c t _) (fun k => blk4 m c t _) (blk5 m c t)
    (blk8 m c t) (blk9 m c t) (blk10 m c t) (blk11 m c t) rfl

end Cert.MergeIdeal.Tile

end
-- ==== Proof.MergeReading.lean ====
/- The reference of the merge, read one token at a time. -/
module

public import proofs.«01_k».proof.Proof.Gen.MergeRefIdeal.Read
public import proofs.«01_k».proof.Proof.MergeSpec
public import Idealize.ShloMosaic.Lib.Pointwise

@[expose] public section

set_option maxRecDepth 16384

noncomputable section

namespace Cert.MergeRefIdeal.Token

open Cert.MergeRefIdeal Cert.MergeRefIdeal.Read Cert.MergeSpec Idealize.ShloMosaic Idealize.ShloMosaic.TcCoe Idealize.SL.Sem

variable (a0 : (⟨S8x2048x1024, .f32⟩ : BufTy).Contents (Elt Ideal)) (a1 a2 : (⟨S8x2048x512, .f32⟩ : BufTy).Contents (Elt Ideal))
  (a3 : (⟨S8x2048x2048, .f32⟩ : BufTy).Contents (Elt Ideal)) (a4 : (⟨S8x6144, .f32⟩ : BufTy).Contents (Elt Ideal))
  (a5 : (⟨S1024, .f32⟩ : BufTy).Contents (Elt Ideal)) (a6 a7 : (⟨S512x1024, .f32⟩ : BufTy).Contents (Elt Ideal))
  (a8 : (⟨S1024x1024, .f32⟩ : BufTy).Contents (Elt Ideal)) (a9 a10 : (⟨S1024x2816, .f32⟩ : BufTy).Contents (Elt Ideal))
  (a11 : (⟨S2816x1024, .f32⟩ : BufTy).Contents (Elt Ideal))

/-- The merged branches of a token. -/
theorem merged (b : Fin 8) (s : Fin 2048) (c : Fin 1024) :
    val_main_v30 (F := Ideal) a1 a2 a3 a6 a7 (ix3 b s c)
      = gated (fun k => a1 (ix3 b s k)) (fun k => a2 (ix3 b s k)) (fun k c => a6 (ix2 k c)) (fun k c => a7 (ix2 k c))
          (fun k => a3 (ix3 b s ⟨k, by omega⟩)) (fun k => a3 (ix3 b s ⟨1024 + k, by omega⟩)) c := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_cst, val_main_cst_0, val_main_cst_1, val_main_cst_2, gated, rowMul, Ideal.logistic]

/-- The residual stream of a token. -/
theorem residual (b : Fin 8) (s : Fin 2048) (c : Fin 1024) :
    val_main_v34 (F := Ideal) a0 a1 a2 a3 a4 a6 a7 a8 (ix3 b s c)
      = resid (fun k => a0 (ix3 b s k)) (fun k => a4 (ix2 b ⟨2048 + k, by omega⟩))
          (fun k => val_main_v30 (F := Ideal) a1 a2 a3 a6 a7 (ix3 b s k)) (fun k c => a8 (ix2 k c)) c := by
  unfold val_main_v34 val_main_v33 val_main_v31
  generalize val_main_v30 (F := Ideal) a1 a2 a3 a6 a7 = y
  pointwise [val_main_v32, val_main_v8, val_main_v2, resid, rowMul]

/-- The normalised token. -/
theorem normal (b : Fin 8) (s : Fin 2048) (c : Fin 1024) :
    val_main_v53 (F := Ideal) a0 a1 a2 a3 a4 a5 a6 a7 a8 (ix3 b s c)
      = normed (fun k => val_main_v34 (F := Ideal) a0 a1 a2 a3 a4 a6 a7 a8 (ix3 b s k)) (fun k => a5 (ix1 k))
          (fun k => a4 (ix2 b ⟨4096 + k, by omega⟩)) (fun k => a4 (ix2 b ⟨3072 + k, by omega⟩)) c := by
  unfold val_main_v53 val_main_v51 val_main_v47 val_main_v44 val_main_v43 val_main_v42 val_main_v41 val_main_v39 val_main_v37 val_main_v36 val_main_v35
  generalize val_main_v34 (F := Ideal) a0 a1 a2 a3 a4 a6 a7 a8 = y
  pointwise [val_main_v52, val_main_v50, val_main_v49, val_main_v48, val_main_v46, val_main_v45, val_main_v40, val_main_v38, val_main_v10, val_main_v9,
    val_main_v4, val_main_v3, val_main_cst_3, val_main_cst_4, val_main_cst_5, val_main_cst_6, normed]

/-- The hidden units of a token. -/
theorem hidden (b : Fin 8) (s : Fin 2048) (f : Fin 2816) :
    val_main_v57 (F := Ideal) a0 a1 a2 a3 a4 a5 a6 a7 a8 a9 a10 (ix3 b s f)
      = act (fun k => val_main_v53 (F := Ideal) a0 a1 a2 a3 a4 a5 a6 a7 a8 (ix3 b s k)) (fun k c => a9 (ix2 k c)) (fun k c => a10 (ix2 k c)) f := by
  unfold val_main_v57 val_main_v56 val_main_v55 val_main_call0_v5 val_main_call0_v3 val_main_call0_v1 val_main_call0_v0 val_main_v54
  generalize val_main_v53 (F := Ideal) a0 a1 a2 a3 a4 a5 a6 a7 a8 = y
  pointwise [val_main_call0_v4, val_main_call0_v2, val_main_call0_cst, val_main_call0_cst_0, act, rowMul, Ideal.logistic]

/-- The reference's result at a token is `MergeSpec.token` of its rows. -/
theorem reading (b : Fin 8) (s : Fin 2048) (c : Fin 1024) :
    val_main_v61 (F := Ideal) a0 a1 a2 a3 a4 a5 a6 a7 a8 a9 a10 a11 (ix3 b s c)
      = token (fun k => a0 (ix3 b s k))
          (gated (fun k => a1 (ix3 b s k)) (fun k => a2 (ix3 b s k)) (fun k c => a6 (ix2 k c)) (fun k c => a7 (ix2 k c))
            (fun k => a3 (ix3 b s ⟨k, by omega⟩)) (fun k => a3 (ix3 b s ⟨1024 + k, by omega⟩)))
          (fun k => a4 (ix2 b ⟨2048 + k, by omega⟩)) (fun k => a4 (ix2 b ⟨3072 + k, by omega⟩))
          (fun k => a4 (ix2 b ⟨4096 + k, by omega⟩)) (fun k => a4 (ix2 b ⟨5120 + k, by omega⟩))
          (fun k => a5 (ix1 k)) (fun k c => a8 (ix2 k c)) (fun k c => a9 (ix2 k c)) (fun k c => a10 (ix2 k c))
          (fun k c => a11 (ix2 k c)) c := by
  have h : val_main_v61 (F := Ideal) a0 a1 a2 a3 a4 a5 a6 a7 a8 a9 a10 a11 (ix3 b s c)
      = val_main_v34 (F := Ideal) a0 a1 a2 a3 a4 a6 a7 a8 (ix3 b s c) + a4 (ix2 b ⟨5120 + c, by omega⟩)
        * rowMul (fun f => val_main_v57 (F := Ideal) a0 a1 a2 a3 a4 a5 a6 a7 a8 a9 a10 (ix3 b s f)) (fun k c => a11 (ix2 k c)) c := by
    unfold val_main_v61 val_main_v60 val_main_v58
    generalize val_main_v34 (F := Ideal) a0 a1 a2 a3 a4 a6 a7 a8 = y
    generalize val_main_v57 (F := Ideal) a0 a1 a2 a3 a4 a5 a6 a7 a8 a9 a10 = z
    pointwise [val_main_v59, val_main_v11, val_main_v5, rowMul]
  rw [h]
  unfold token ffn
  simp only [hidden, normal, residual, merged]

end Cert.MergeRefIdeal.Token

end
-- ==== Proof.MergeClaims.lean ====
/- The claims about the merge kernel and its reference. -/
module

public import proofs.«01_k».proof.Defs
public import proofs.«01_k».proof.Proof.MergeFinal
public import proofs.«01_k».proof.Proof.MergeReading
public import proofs.«01_k».proof.Proof.Gen.Merge.Frame
public import proofs.«01_k».proof.Proof.Gen.MergeIdeal.Value
public import proofs.«01_k».proof.Proof.Gen.MergeRefIdeal.Read
public import Idealize.ShloMosaic.Adequacy

@[expose] public section

set_option maxRecDepth 16384

noncomputable section

namespace Cert.MergeClaims

open Idealize.ShloMosaic Idealize.SL.Sem

/-- The merge kernel ends, leaves its arguments as they were and its counters at zero. -/
theorem frame : Cert.quiescent_Merge := fun m ρ _ => Cert.Merge.Gen.frame m ρ

/-- The same of the merge kernel over the extended reals. -/
theorem frame_ideal : Cert.quiescent_MergeIdeal := fun m ρ _ => Cert.MergeIdeal.Gen.frame m ρ

/-- The merge reference ends and leaves its arguments as they were. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- Nothing of the merge kernel was rewritten on the way to the extended reals. -/
theorem preserves : Cert.preserves_Merge_MergeIdeal := trivial

/-- The reference's result array is the kernel's function of the same twelve arrays. -/
theorem reference (m : (ℓ : Loc Cert.MergeRefIdeal.nD Cert.MergeRefIdeal.τ Cert.MergeRefIdeal.sig) → Buf (Elt Ideal) ℓ)
    (c : Dev Cert.MergeRefIdeal.nD) :
    Cert.MergeRefIdeal.Value.res_main_v61 m c
      = Cert.MergeIdeal.Tile.result
          (m ((c.tc : Thread Cert.MergeRefIdeal.nD Cert.MergeRefIdeal.τ).loc Cert.MergeRefIdeal.main_arg0))
          (m ((c.tc : Thread Cert.MergeRefIdeal.nD Cert.MergeRefIdeal.τ).loc Cert.MergeRefIdeal.main_arg1))
          (m ((c.tc : Thread Cert.MergeRefIdeal.nD Cert.MergeRefIdeal.τ).loc Cert.MergeRefIdeal.main_arg2))
          (m ((c.tc : Thread Cert.MergeRefIdeal.nD Cert.MergeRefIdeal.τ).loc Cert.MergeRefIdeal.main_arg3))
          (m ((c.tc : Thread Cert.MergeRefIdeal.nD Cert.MergeRefIdeal.τ).loc Cert.MergeRefIdeal.main_arg4))
          (m ((c.tc : Thread Cert.MergeRefIdeal.nD Cert.MergeRefIdeal.τ).loc Cert.MergeRefIdeal.main_arg5))
          (m ((c.tc : Thread Cert.MergeRefIdeal.nD Cert.MergeRefIdeal.τ).loc Cert.MergeRefIdeal.main_arg6))
          (m ((c.tc : Thread Cert.MergeRefIdeal.nD Cert.MergeRefIdeal.τ).loc Cert.MergeRefIdeal.main_arg7))
          (m ((c.tc : Thread Cert.MergeRefIdeal.nD Cert.MergeRefIdeal.τ).loc Cert.MergeRefIdeal.main_arg8))
          (m ((c.tc : Thread Cert.MergeRefIdeal.nD Cert.MergeRefIdeal.τ).loc Cert.MergeRefIdeal.main_arg9))
          (m ((c.tc : Thread Cert.MergeRefIdeal.nD Cert.MergeRefIdeal.τ).loc Cert.MergeRefIdeal.main_arg10))
          (m ((c.tc : Thread Cert.MergeRefIdeal.nD Cert.MergeRefIdeal.τ).loc Cert.MergeRefIdeal.main_arg11)) := by
  rw [Cert.MergeRefIdeal.Read.val_main_v61_eq]
  funext i
  obtain ⟨b, s, k, rfl⟩ : ∃ (b : Fin 8) (s : Fin 2048) (k : Fin 1024), i = ix3 b s k := ⟨i 0, i 1, i 2, eq_ix3 i⟩
  exact Cert.MergeRefIdeal.Token.reading _ _ _ _ _ _ _ _ _ _ _ _ b s k

/-- Over the extended reals the merge kernel and its reference end with the same array, for all arguments. -/
theorem algebraic : Cert.algebraic_MergeIdeal_MergeRefIdeal := by
  intro m ρ m' ρ' _ hag
  refine ⟨_, (θ_run Cert.MergeIdeal.defs _ _).mono (fun _ h c => ⟨(h c).1.trans (Cert.MergeIdeal.Tile.final m c), (h c).2⟩)
      (Cert.MergeIdeal.Value.run_blocks (F := Ideal) m ρ),
    (θ_run Cert.MergeRefIdeal.defs _ _).mono (fun _ h c => ⟨((h c).1.trans (reference m' c)).trans ?_, (h c).2⟩)
      (Cert.MergeRefIdeal.Value.run (F := Ideal) m' ρ')⟩
  obtain ⟨h0, h1, h2, h3, h4, h5, h6, h7, h8, h9, h10, h11⟩ := hag c
  rw [h0, h1, h2, h3, h4, h5, h6, h7, h8, h9, h10, h11]

end Cert.MergeClaims

end
-- ==== Proof.ModTile.lean ====
/- The modulation kernel's two block results read at an index. -/
module

public import proofs.«01_k».proof.Proof.Gen.ModIdeal.Value
public import proofs.«01_k».proof.Proof.MergeSpec
public import Idealize.ShloMosaic.Lib.Pipeline.ValueKit
public import Idealize.ShloMosaic.Lib.Pointwise

@[expose] public section

set_option maxRecDepth 16384

noncomputable section

namespace Cert.ModIdeal.Tile

open Cert.ModIdeal Cert.ModIdeal.Gen Cert.MergeSpec Idealize.ShloMosaic Idealize.ShloMosaic.TcCoe Idealize.SL.Sem

/-- The sixteen conditions: eight of the batches, the context's, and zeros. -/
def stacked (z : Fin 8 → Fin 1024 → EReal) (zc : Fin 1024 → EReal) (r : Fin 16) (k : Fin 1024) : EReal :=
  if h : r.val < 8 then z ⟨r.val, h⟩ k else if r.val < 9 then zc k else 0

/-- A condition, activated, times a column of weights, plus a bias. -/
def affine (z : Fin 1024 → EReal) (w : Fin 1024 → EReal) (b : EReal) : EReal := ∑ k, z k * Ideal.logistic (z k) * w k + b

/-- The sixteen conditions as the kernel lays them end to end. -/
def conds (v0 : Vec Ideal S8x1024 .f32) (v1 : Vec Ideal S1x1024 .f32) : FVec Ideal S16x1024 .f32 :=
  concatenate S16x1024 0 [⟨S8x1024, v0⟩, ⟨S1x1024, shapeCast S1x1024 v1 shapeCasts_S1x1024_S1x1024⟩,
    ⟨S7x1024, broadcast S7x1024 (Scalar.ofBits (F := Ideal) .f32 0x00000000#32)⟩] concatenates_S8x1024_S1x1024_S7x1024_S16x1024_d0

/-- They are read by row. -/
theorem conds_apply (v0 : Vec Ideal S8x1024 .f32) (v1 : Vec Ideal S1x1024 .f32) (r : Fin 16) (k : Fin 1024) :
    conds v0 v1 (ix2 r k) = stacked (fun b k => v0 (ix2 b k)) (fun k => v1 (ix2 0 k)) r k := by
  pointwise [conds, stacked]
  by_cases h : r.val < 8
  · rw [dif_pos h, dif_pos h]
  · rw [dif_neg h, dif_neg h]
    by_cases h9 : r.val < 9
    · rw [dif_pos (show r.val - 8 < 1 by omega), if_pos h9]
      exact congrArg (fun a => v1 (ix2 a k)) (Subsingleton.elim _ _)
    · rw [dif_neg (show ¬ r.val - 8 < 1 by omega), if_neg h9]

/-- The modulation of the sixteen conditions at an index. -/
theorem pay8_apply (v0 : Vec Ideal S8x1024 .f32) (v1 : Vec Ideal S1x1024 .f32) (v14 : Vec Ideal S1024x1024 .f32) (v17 : Vec Ideal S1x1024 .f32)
    (r : Fin 16) (c : Fin 1024) :
    k0_pay8 v0 v1 v14 v17 (ix2 r c)
      = affine (stacked (fun b k => v0 (ix2 b k)) (fun k => v1 (ix2 0 k)) r) (fun k => v14 (ix2 k c)) (v17 (ix2 0 c)) := by
  unfold affine
  simp only [← conds_apply, ← half_tanh]
  unfold k0_pay8
  generalize hz : conds v0 v1 = z
  unfold conds at hz
  rw [hz]
  pointwise

/-- Row by row, the sixteen stores leave the modulation of the sixteen conditions. -/
theorem out6_apply (x0 : Vec Ideal S8x1024 .f32) (x1 : Vec Ideal S1x1024 .f32) (x2 : Vec Ideal S1024x1024 .f32) (x3 : Vec Ideal S1x1024 .f32)
    (x4 : Vec Ideal S1024x896 .f32) (x5 : Vec Ideal S1x896 .f32) (r : Fin 16) (c : Fin 1024) :
    out0_6 x0 x1 x2 x3 x4 x5 (ix3 r 0 c)
      = affine (stacked (fun b k => x0 (ix2 b k)) (fun k => x1 (ix2 0 k)) r) (fun k => x2 (ix2 k c)) (x3 (ix2 0 c)) := by
  refine Eq.trans ?_ ((pay8_apply (View.ld x0 r0_0) (View.ld x1 r0_1) (View.ld x2 r0_2) (View.ld x3 r0_1) r c).trans ?_)
  · generalize hy : (ix3 r 0 c : S16x1x1024.Idx) = y
    unfold_out out0_6
    unfold k0_pay9 k0_pay10 k0_pay11 k0_pay12 k0_pay13
    generalize k0_pay8 (View.ld x0 r0_0) (View.ld x1 r0_1) (View.ld x2 r0_2) (View.ld x3 r0_1) = v
    canon_tiles x h
    all_goals
      subst hy
      obtain ⟨a, b, q, rfl⟩ : ∃ (a : Fin 1) (b : Fin 1) (q : Fin 1024), x = ix3 a b q := ⟨x 0, x 1, x 2, eq_ix3 x⟩
      obtain rfl : a = 0 := Subsingleton.elim _ _
      obtain rfl : b = 0 := Subsingleton.elim _ _
      obtain rfl : c = q := Fin.ext h2
      pointwise [k0_pay1, k0_pay2, k0_pay3, k0_pay4, k0_pay5, k0_pay6, k0_pay14, k0_pay15, k0_pay16, k0_pay17, k0_pay18, k0_pay19, k0_pay20]
      exact congrArg (fun r => v (ix2 r c)) (Fin.ext h0.symm)
  · pointwise

/-- The weights' block, scaled by column. -/
theorem out7_apply (x0 : Vec Ideal S8x1024 .f32) (x1 : Vec Ideal S1x1024 .f32) (x2 : Vec Ideal S1024x1024 .f32) (x3 : Vec Ideal S1x1024 .f32)
    (x4 : Vec Ideal S1024x896 .f32) (x5 : Vec Ideal S1x896 .f32) (p : Fin 1024) (q : Fin 896) :
    out0_7 x0 x1 x2 x3 x4 x5 (ix2 p q) = x4 (ix2 p q) * x5 (ix2 0 q) := by
  generalize hy : (ix2 p q : S1024x896.Idx) = y
  unfold_out out0_7
  canon_tiles x h
  subst hy
  obtain ⟨a, b, rfl⟩ : ∃ (a : Fin 1024) (b : Fin 896), x = ix2 a b := ⟨x 0, x 1, eq_ix2 x⟩
  obtain rfl : p = a := Fin.ext h0
  obtain rfl : q = b := Fin.ext h1
  pointwise [k0_pay7]

end Cert.ModIdeal.Tile

end
-- ==== Proof.ModFinal.lean ====
/- The modulation kernel's two result arrays as functions of its arguments. -/
module

public import proofs.«01_k».proof.Proof.ModTile
public import Idealize.ShloMosaic.Lib.Claim

@[expose] public section

set_option maxRecDepth 16384

noncomputable section

namespace Cert.ModIdeal.Tile

open Cert.ModIdeal Cert.ModIdeal.Gen Idealize.ShloMosaic Idealize.ShloMosaic.TcCoe Idealize.SL.Sem

/-- The modulation of the sixteen rows as one function of the arguments. -/
def modulation (a0 : Vec Ideal S8x1024 .f32) (a1 : Vec Ideal S1024 .f32) (a2 : Vec Ideal S1024x6144 .f32) (a3 : Vec Ideal S6144 .f32)
    (i : S16x1x6144.Idx) : EReal :=
  affine (stacked (fun b k => a0 (ix2 b k)) (fun k => a1 (ix1 k)) (i 0)) (fun k => a2 (ix2 k (i 2))) (a3 (ix1 (i 2)))

/-- The weights scaled by column as one function of the arguments. -/
def scaled (a4 : Vec Ideal S1024x5376 .f32) (a5 : Vec Ideal S5376 .f32) (i : S1024x5376.Idx) : EReal :=
  a4 (ix2 (i 0) (i 1)) * a5 (ix1 (i 1))

/-- The modulation depends only on the values of its parts. -/
theorem affine_congr {z z' : Fin 8 → Fin 1024 → EReal} {zc zc' w w' : Fin 1024 → EReal} {b b' : EReal} (r : Fin 16)
    (hz : ∀ i k, z i k = z' i k) (hc : ∀ k, zc k = zc' k) (hw : ∀ k, w k = w' k) (hb : b = b') :
    affine (stacked z zc r) w b = affine (stacked z' zc' r) w' b' := by
  obtain rfl : z = z' := funext fun i => funext (hz i)
  obtain rfl : zc = zc' := funext hc
  obtain rfl : w = w' := funext hw
  rw [hb]

variable (m : (ℓ : Loc nD τ sig) → Buf (Elt Ideal) ℓ)

/-- Which block each window shows at a point: everything for the conditions, the point's columns for the rest. -/
theorem idx (t : Fin cfg0.N) : win0_0.index t = ![0, 0] ∧ win0_1.index t = ![0, 0]
    ∧ win0_2.index t = ![0, (grid0.coords t 0).val] ∧ win0_3.index t = ![0, (grid0.coords t 0).val]
    ∧ win0_4.index t = ![0, (grid0.coords t 0).val] ∧ win0_5.index t = ![0, (grid0.coords t 0).val]
    ∧ win0_6.index t = ![0, 0, (grid0.coords t 0).val] ∧ win0_7.index t = ![0, (grid0.coords t 0).val] :=
  (by decide +kernel : ∀ t : Fin grid0.N, win0_0.index t = ![0, 0] ∧ win0_1.index t = ![0, 0]
    ∧ win0_2.index t = ![0, (grid0.coords t 0).val] ∧ win0_3.index t = ![0, (grid0.coords t 0).val]
    ∧ win0_4.index t = ![0, (grid0.coords t 0).val] ∧ win0_5.index t = ![0, (grid0.coords t 0).val]
    ∧ win0_6.index t = ![0, 0, (grid0.coords t 0).val] ∧ win0_7.index t = ![0, (grid0.coords t 0).val]) t

/-- The column of the modulation that a column of a point's block is. -/
def mcol (t : Fin cfg0.N) (q : Fin 1024) : Fin 6144 :=
  ⟨(grid0.coords t 0).val * 1024 + q,
    Nat.lt_of_lt_of_le (Nat.add_lt_add_left q.isLt _)
      ((by decide +kernel : ∀ t : Fin grid0.N, (grid0.coords t 0).val * 1024 + 1024 ≤ 6144) t)⟩

/-- The column of the weights that a column of a point's block is. -/
def wcol (t : Fin cfg0.N) (q : Fin 896) : Fin 5376 :=
  ⟨(grid0.coords t 0).val * 896 + q,
    Nat.lt_of_lt_of_le (Nat.add_lt_add_left q.isLt _)
      ((by decide +kernel : ∀ t : Fin grid0.N, (grid0.coords t 0).val * 896 + 896 ≤ 5376) t)⟩

/-- The context's condition as the kernel finds it. -/
theorem V0 (c : Dev nD) (k : Fin 1024) : (V m c main_v0 : S1x1024.Idx → EReal) (ix2 0 k) = m ((c : Thread nD τ).loc main_arg1) (ix1 k) := by
  entry_read; pointwise

/-- The bias as the kernel finds it. -/
theorem V1 (c : Dev nD) (k : Fin 6144) : (V m c main_v1 : S1x6144.Idx → EReal) (ix2 0 k) = m ((c : Thread nD τ).loc main_arg3) (ix1 k) := by
  entry_read; pointwise

/-- The columns' factors as the kernel finds them. -/
theorem V2 (c : Dev nD) (k : Fin 5376) : (V m c main_v2 : S1x5376.Idx → EReal) (ix2 0 k) = m ((c : Thread nD τ).loc main_arg5) (ix1 k) := by
  entry_read; pointwise

/-- Operand 0's block at a point, by its array. -/
theorem blk0 (c : Dev nD) (t : Fin cfg0.N) (b : Fin 8) (k : Fin 1024) : iblk m c 0 t (ix2 b k)
    = m ((c : Thread nD τ).loc main_arg0) (ix2 b k) := by
  blk_ext [iblk, V_main_arg0 m c, idx t]

/-- Operand 1's block at a point, by its array. -/
theorem blk1 (c : Dev nD) (t : Fin cfg0.N) (k : Fin 1024) : iblk m c 1 t (ix2 0 k)
    = m ((c : Thread nD τ).loc main_arg1) (ix1 k) := by
  refine (show iblk m c 1 t (ix2 0 k) = (V m c main_v0 : S1x1024.Idx → EReal) (ix2 0 k) from ?_).trans (V0 m c k)
  blk_ext [iblk, idx t]

/-- Operand 2's block at a point, by its array. -/
theorem blk2 (c : Dev nD) (t : Fin cfg0.N) (k q : Fin 1024) : iblk m c 2 t (ix2 k q)
    = m ((c : Thread nD τ).loc main_arg2) (ix2 k (mcol t q)) := by
  blk_ext [iblk, V_main_arg2 m c, idx t, mcol]

/-- Operand 3's block at a point, by its array. -/
theorem blk3 (c : Dev nD) (t : Fin cfg0.N) (q : Fin 1024) : iblk m c 3 t (ix2 0 q)
    = m ((c : Thread nD τ).loc main_arg3) (ix1 (mcol t q)) := by
  refine (show iblk m c 3 t (ix2 0 q) = (V m c main_v1 : S1x6144.Idx → EReal) (ix2 0 (mcol t q)) from ?_).trans (V1 m c _)
  blk_ext [iblk, idx t, mcol]

/-- Operand 4's block at a point, by its array. -/
theorem blk4 (c : Dev nD) (t : Fin cfg0.N) (p : Fin 1024) (q : Fin 896) : iblk m c 4 t (ix2 p q)
    = m ((c : Thread nD τ).loc main_arg4) (ix2 p (wcol t q)) := by
  blk_ext [iblk, V_main_arg4 m c, idx t, wcol]

/-- Operand 5's block at a point, by its array. -/
theorem blk5 (c : Dev nD) (t : Fin cfg0.N) (q : Fin 896) : iblk m c 5 t (ix2 0 q)
    = m ((c : Thread nD τ).loc main_arg5) (ix1 (wcol t q)) := by
  refine (show iblk m c 5 t (ix2 0 q) = (V m c main_v2 : S1x5376.Idx → EReal) (ix2 0 (wcol t q)) from ?_).trans (V2 m c _)
  blk_ext [iblk, idx t, wcol]

/-- The modulation after the run. -/
theorem final6 (c : Dev nD) : (dats m 0 c).arrAt 6 cfg0.N
    = modulation (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6]
  obtain ⟨r, a, q, rfl⟩ : ∃ (r : Fin 16) (a : Fin 1) (q : Fin 1024), y = ix3 r a q := ⟨y 0, y 1, y 2, eq_ix3 y⟩
  obtain rfl : a = 0 := Subsingleton.elim _ _
  have e : (win0_6.blk t).view.emb (ix3 r 0 q) = ix3 r 0 (mcol t q) := by
    blk_ext [idx t, mcol]
  refine (out6_apply _ _ _ _ _ _ r q).trans (Eq.trans ?_ (congrArg _ e.symm))
  exact affine_congr r (blk0 m c t) (blk1 m c t) (fun k => blk2 m c t k q) (blk3 m c t q)

/-- The scaled weights after the run. -/
theorem final7 (c : Dev nD) : (dats m 0 c).arrAt 7 cfg0.N
    = scaled (m ((c : Thread nD τ).loc main_arg4)) (m ((c : Thread nD τ).loc main_arg5)) := by
  refine (dats m 0 c).arrAt_eq_of_covers 7 _ (by decide +kernel) fun t hf y => ?_
  blk_simp
  rw [after0_7]
  obtain ⟨p, q, rfl⟩ : ∃ (p : Fin 1024) (q : Fin 896), y = ix2 p q := ⟨y 0, y 1, eq_ix2 y⟩
  have e : (win0_7.blk t).view.emb (ix2 p q) = ix2 p (wcol t q) := by
    blk_ext [idx t, wcol]
  refine (out7_apply _ _ _ _ _ _ p q).trans (Eq.trans ?_ (congrArg _ e.symm))
  exact congrArg₂ (· * ·) (blk4 m c t p q) (blk5 m c t q)

end Cert.ModIdeal.Tile

end
-- ==== Proof.ModReading.lean ====
/- The reference of the modulation, read at an index. -/
module

public import proofs.«01_k».proof.Proof.Gen.ModRefIdeal.Read
public import proofs.«01_k».proof.Proof.ModFinal
public import Idealize.ShloMosaic.Lib.Pointwise

@[expose] public section

set_option maxRecDepth 16384

noncomputable section

namespace Cert.ModRefIdeal.Rows

open Cert.ModRefIdeal Cert.ModRefIdeal.Read Cert.ModIdeal.Tile Idealize.ShloMosaic Idealize.ShloMosaic.TcCoe Idealize.SL.Sem

variable (a0 : (⟨S8x1024, .f32⟩ : BufTy).Contents (Elt Ideal)) (a1 : (⟨S1024, .f32⟩ : BufTy).Contents (Elt Ideal))
  (a2 : (⟨S1024x6144, .f32⟩ : BufTy).Contents (Elt Ideal)) (a3 : (⟨S6144, .f32⟩ : BufTy).Contents (Elt Ideal))
  (a4 : (⟨S1024x5376, .f32⟩ : BufTy).Contents (Elt Ideal)) (a5 : (⟨S5376, .f32⟩ : BufTy).Contents (Elt Ideal))

/-- A batch's modulation. -/
theorem batch (b : Fin 8) (j : Fin 6144) :
    val_main_v4 (F := Ideal) a0 a2 a3 (ix2 b j) = affine (fun k => a0 (ix2 b k)) (fun k => a2 (ix2 k j)) (a3 (ix1 j)) := by
  pointwise [val_main_v4, val_main_v3, val_main_v2, val_main_v1, val_main_v0, val_main_call0_v5, val_main_call0_v4, val_main_call0_v3,
    val_main_call0_v2, val_main_call0_v1, val_main_call0_v0, val_main_call0_cst, val_main_call0_cst_0, affine, Ideal.logistic]

/-- The context's modulation. -/
theorem context (j : Fin 6144) :
    val_main_v7 (F := Ideal) a1 a2 a3 (ix1 j) = affine (fun k => a1 (ix1 k)) (fun k => a2 (ix2 k j)) (a3 (ix1 j)) := by
  pointwise [val_main_v7, val_main_v6, val_main_v5, val_main_call1_v5, val_main_call1_v4, val_main_call1_v3,
    val_main_call1_v2, val_main_call1_v1, val_main_call1_v0, val_main_call1_cst, val_main_call1_cst_0, affine, Ideal.logistic]

/-- Without a condition the modulation is the bias. -/
theorem affine_zero (w : Fin 1024 → EReal) (b : EReal) : affine (fun _ => 0) w b = b := by
  simp only [affine, zero_mul, Finset.sum_const_zero, zero_add]

/-- The reference's modulation at an index. -/
theorem reading (r : Fin 16) (j : Fin 6144) : val_main_v11 (F := Ideal) a0 a1 a2 a3 (ix3 r 0 j) = modulation a0 a1 a2 a3 (ix3 r 0 j) := by
  refine Eq.trans (b := if h : r.val < 8 then val_main_v4 (F := Ideal) a0 a2 a3 (ix2 ⟨r.val, h⟩ j)
    else if r.val < 9 then val_main_v7 (F := Ideal) a1 a2 a3 (ix1 j) else a3 (ix1 j)) ?_ ?_
  · unfold val_main_v11 val_main_v10 val_main_v9
    generalize val_main_v4 (F := Ideal) a0 a2 a3 = y
    generalize val_main_v7 (F := Ideal) a1 a2 a3 = z
    pointwise [val_main_v8]
    by_cases h : r.val < 8
    · rw [dif_pos h, dif_pos h]
    · rw [dif_neg h, dif_neg h]
      by_cases h9 : r.val < 9
      · rw [dif_pos (show r.val - 8 < 1 by omega), if_pos h9]
      · rw [dif_neg (show ¬ r.val - 8 < 1 by omega), if_neg h9]
  · change _ = affine (stacked (fun b k => a0 (ix2 b k)) (fun k => a1 (ix1 k)) r) (fun k => a2 (ix2 k j)) (a3 (ix1 j))
    unfold stacked
    by_cases h : r.val < 8
    · simp only [dif_pos h]
      exact batch a0 a2 a3 _ j
    · simp only [dif_neg h]
      by_cases h9 : r.val < 9
      · simp only [if_pos h9]
        exact context a1 a2 a3 j
      · simp only [if_neg h9]
        exact (affine_zero _ _).symm

/-- The reference's scaled weights at an index. -/
theorem weights (p : Fin 1024) (q : Fin 5376) : val_main_v15 (F := Ideal) a4 a5 (ix2 p q) = scaled a4 a5 (ix2 p q) := by
  pointwise [val_main_v15, val_main_v14, val_main_v13, val_main_v12, scaled]

end Cert.ModRefIdeal.Rows

end
-- ==== Proof.ModClaims.lean ====
/- The claims about the modulation kernel and its reference. -/
module

public import proofs.«01_k».proof.Defs
public import proofs.«01_k».proof.Proof.ModFinal
public import proofs.«01_k».proof.Proof.ModReading
public import proofs.«01_k».proof.Proof.Gen.Mod.Frame
public import proofs.«01_k».proof.Proof.Gen.ModIdeal.Value
public import proofs.«01_k».proof.Proof.Gen.ModRefIdeal.Read
public import Idealize.ShloMosaic.Adequacy

@[expose] public section

set_option maxRecDepth 16384

noncomputable section

namespace Cert.ModClaims

open Idealize.ShloMosaic Idealize.SL.Sem

/-- The modulation kernel ends, leaves its arguments as they were and its counters at zero. -/
theorem frame : Cert.quiescent_Mod := fun m ρ _ => Cert.Mod.Gen.frame m ρ

/-- The same of the modulation kernel over the extended reals. -/
theorem frame_ideal : Cert.quiescent_ModIdeal := fun m ρ _ => Cert.ModIdeal.Gen.frame m ρ

/-- The modulation reference ends and leaves its arguments as they were. -/
theorem frame_ref : Cert.quiescent_ModRefIdeal := fun m ρ _ =>
  (θ_run Cert.ModRefIdeal.defs _ _).mono (fun r h => ⟨fun c => (h c).2.2, sem_eq_zero_of_no_sems (by decide) r.2⟩)
    (Cert.ModRefIdeal.Value.run (F := Ideal) m ρ)

/-- Nothing of the modulation kernel was rewritten on the way to the extended reals. -/
theorem preserves : Cert.preserves_Mod_ModIdeal := trivial

/-- The reference's modulation is the kernel's function of the same arrays. -/
theorem reference (a0 : (⟨Cert.ModRefIdeal.S8x1024, .f32⟩ : BufTy).Contents (Elt Ideal))
    (a1 : (⟨Cert.ModRefIdeal.S1024, .f32⟩ : BufTy).Contents (Elt Ideal))
    (a2 : (⟨Cert.ModRefIdeal.S1024x6144, .f32⟩ : BufTy).Contents (Elt Ideal))
    (a3 : (⟨Cert.ModRefIdeal.S6144, .f32⟩ : BufTy).Contents (Elt Ideal)) :
    Cert.ModRefIdeal.Read.val_main_v11 (F := Ideal) a0 a1 a2 a3 = Cert.ModIdeal.Tile.modulation a0 a1 a2 a3 := by
  funext i
  obtain ⟨r, a, j, rfl⟩ : ∃ (r : Fin 16) (a : Fin 1) (j : Fin 6144), i = ix3 r a j := ⟨i 0, i 1, i 2, eq_ix3 i⟩
  obtain rfl : a = 0 := Subsingleton.elim _ _
  exact Cert.ModRefIdeal.Rows.reading _ _ _ _ r j

/-- The reference's scaled weights are the kernel's function of the same arrays. -/
theorem weights (a4 : (⟨Cert.ModRefIdeal.S1024x5376, .f32⟩ : BufTy).Contents (Elt Ideal))
    (a5 : (⟨Cert.ModRefIdeal.S5376, .f32⟩ : BufTy).Contents (Elt Ideal)) :
    Cert.ModRefIdeal.Read.val_main_v15 (F := Ideal) a4 a5 = Cert.ModIdeal.Tile.scaled a4 a5 := by
  funext i
  obtain ⟨p, q, rfl⟩ : ∃ (p : Fin 1024) (q : Fin 5376), i = ix2 p q := ⟨i 0, i 1, eq_ix2 i⟩
  exact Cert.ModRefIdeal.Rows.weights _ _ p q

/-- Over the extended reals the modulation kernel and its reference end with the same two arrays, for all arguments. -/
theorem algebraic : Cert.algebraic_ModIdeal_ModRefIdeal := by
  intro m ρ m' ρ' _ hag
  refine ⟨_, _, (θ_run Cert.ModIdeal.defs _ _).mono
      (fun _ h c => ⟨(h c).1.trans (Cert.ModIdeal.Tile.final6 m c), (h c).2.1.trans (Cert.ModIdeal.Tile.final7 m c), (h c).2.2⟩)
      (Cert.ModIdeal.Value.run_blocks (F := Ideal) m ρ),
    (θ_run Cert.ModRefIdeal.defs _ _).mono
      (fun _ h c => ⟨((h c).1.trans (reference _ _ _ _)).trans ?_, ((h c).2.1.trans (weights _ _)).trans ?_, (h c).2.2⟩)
      (Cert.ModRefIdeal.Value.run (F := Ideal) m' ρ')⟩
  · obtain ⟨h0, h1, h2, h3, h4, h5⟩ := hag c
    rw [h0, h1, h2, h3]
  · obtain ⟨h0, h1, h2, h3, h4, h5⟩ := hag c
    rw [h4, h5]

end Cert.ModClaims

end
-- ==== Proof.ProjSpec.lean ====
/- The projection of a normalised token to the columns of the input weights, over the extended reals. -/
module

public import proofs.«01_k».proof.Proof.MergeSpec

@[expose] public section

noncomputable section

namespace Cert.ProjSpec

open Cert.MergeSpec Idealize.ShloMosaic

/-- A normalised token times the input weights, at a column. -/
def column (x nw sc sh : Fin 1024 → EReal) (w : Fin 1024 → EReal) : EReal := ∑ k, normed x nw sc sh k * w k

/-- The projection of a token depends only on the values of its parts. -/
theorem column_congr {x x' nw nw' sc sc' sh sh' w w' : Fin 1024 → EReal} (hx : ∀ k, x k = x' k) (hn : ∀ k, nw k = nw' k)
    (hc : ∀ k, sc k = sc' k) (hs : ∀ k, sh k = sh' k) (hw : ∀ k, w k = w' k) :
    column x nw sc sh w = column x' nw' sc' sh' w' := by
  obtain rfl : x = x' := funext hx
  obtain rfl : nw = nw' := funext hn
  obtain rfl : sc = sc' := funext hc
  obtain rfl : sh = sh' := funext hs
  obtain rfl : w = w' := funext hw
  rfl

/-- One half distributes over a sum. -/
theorem half_add (a b : EReal) : half * (a + b) = half * a + half * b := by
  have hn : (0 : EReal) ≤ half := by rw [half_eq]; exact_mod_cast (by norm_num : (0 : ℝ) ≤ 1 / 2)
  have ht : half ≠ ⊤ := by rw [half_eq]; exact EReal.coe_ne_top _
  exact EReal.left_distrib_of_nonneg_of_ne_top hn ht a b

/-- One half of the weights is one half of the projection. -/
theorem column_half (x nw sc sh w : Fin 1024 → EReal) : column x nw sc sh (fun k => w k * half) = half * column x nw sc sh w := by
  unfold column
  have h : ∀ s : Finset (Fin 1024), ∑ k ∈ s, normed x nw sc sh k * (w k * half) = half * ∑ k ∈ s, normed x nw sc sh k * w k := by
    intro s
    induction s using Finset.induction_on with
    | empty => simp
    | insert a s ha ih =>
      rw [Finset.sum_insert ha, Finset.sum_insert ha, ih, half_add, ← mul_assoc, mul_comm (_ * w a) half]
  exact h _

/-- One half of one more than the hyperbolic tangent of one half of a number is the logistic function. -/
theorem half_tanh_one (a : EReal) : half * (Ideal.tanh (half * a) + 1) = Ideal.logistic a := by
  rw [half_add, mul_one, half_tanh]

/-- Two, as the reference spells it, times one half. -/
theorem two_half : Ideal.ofBits .f32 0x40000000#32 * half = 1 := by
  have h2 : Ideal.ofBits .f32 0x40000000#32 = ((2 : ℝ) : EReal) := by
    simp [Ideal.ofBits, Ideal.ieee, -EReal.coe_mul]; norm_num
  rw [h2, half_eq, ← EReal.coe_mul]
  norm_num

/-- A doubled gate. -/
theorem double_gate (a : EReal) : Ideal.tanh (half * a) + 1 = Ideal.ofBits .f32 0x40000000#32 * Ideal.logistic a := by
  rw [← half_tanh_one, ← mul_assoc, two_half, one_mul]

/-- A gated activation by one half of its argument. -/
theorem half_silu (a : EReal) : half * a * (Ideal.tanh (half * a) + 1) = a * Ideal.logistic a := by
  rw [← half_tanh_one, ← mul_assoc, mul_comm a half]

end Cert.ProjSpec

end
-- ==== Proof.ProjTile.lean ====
/- The input projection kernel's five claimed block results read at an index. -/
module

public import proofs.«01_k».proof.Proof.Gen.ProjIdeal.Value
public import proofs.«01_k».proof.Proof.ProjSpec
public import Idealize.ShloMosaic.Lib.Pipeline.ValueKit
public import Idealize.ShloMosaic.Lib.Pointwise

@[expose] public section

set_option maxRecDepth 16384

noncomputable section

namespace Cert.ProjIdeal.Tile

open Cert.ProjIdeal Cert.ProjIdeal.Gen Cert.MergeSpec Cert.ProjSpec Idealize.ShloMosaic Idealize.ShloMosaic.TcCoe Idealize.SL.Sem

/-- A normalised token of a block. -/
theorem pay3_apply (v0 : Vec Ideal S1x256x1024 .f32) (v2 v4 : Vec Ideal S1x1x1024 .f32) (v16 : Vec Ideal S1x1024 .f32)
    (r : Fin 256) (c : Fin 1024) :
    k0_pay3 v0 v2 v4 v16 (ix2 r c)
      = normed (fun k => v0 (ix3 0 r k)) (fun k => v16 (ix2 0 k)) (fun k => v4 (ix3 0 0 k)) (fun k => v2 (ix3 0 0 k)) c := by
  unfold normed
  rw [mul_assoc (_ * _) (v16 _) _]
  pointwise [k0_pay3]

/-- A token of a block projected to a column of a block of weights. -/
def bcol (x0 : Vec Ideal S1x256x1024 .f32) (x1 : Vec Ideal S1x1x6144 .f32) (x2 : Vec Ideal S1x1024 .f32) (x3 : Vec Ideal S1024x5376 .bf16)
    (r : Fin 256) (c : Fin 5376) : EReal :=
  column (fun k => x0 (ix3 0 r k)) (fun k => x2 (ix2 0 k)) (fun k => x1 (ix3 0 0 ⟨1024 + k, by omega⟩))
    (fun k => x1 (ix3 0 0 ⟨k, by omega⟩)) (fun k => x3 (ix2 k c))

/-- The normalised tokens of a block. -/
def toks (x0 : Vec Ideal S1x256x1024 .f32) (x1 : Vec Ideal S1x1x6144 .f32) (x2 : Vec Ideal S1x1024 .f32) : FVec Ideal S256x1024 .bf16 :=
  k0_pay3 (View.ld x0 r0_0) (View.ld x1 r0_1) (View.ld x1 r0_2) (View.ld x2 r0_3)

/-- The projection as a sum over the normalised tokens of a block. -/
theorem bcol_eq (x0 : Vec Ideal S1x256x1024 .f32) (x1 : Vec Ideal S1x1x6144 .f32) (x2 : Vec Ideal S1x1024 .f32) (x3 : Vec Ideal S1024x5376 .bf16)
    (r : Fin 256) (c : Fin 5376) : bcol x0 x1 x2 x3 r c = ∑ k : Fin 1024, toks x0 x1 x2 (ix2 r k) * x3 (ix2 k c) := by
  unfold bcol column
  refine Finset.sum_congr rfl fun k _ => congrArg (· * _) ?_
  unfold toks
  rw [pay3_apply]
  pointwise [normed]

variable (x0 : Vec Ideal S1x256x1024 .f32) (x1 : Vec Ideal S1x1x6144 .f32) (x2 : Vec Ideal S1x1024 .f32) (x3 : Vec Ideal S1024x5376 .bf16)
  (x4 : Vec Ideal S2x2x512 .f32) (x5 x6 : Vec Ideal S1x64 .f32) (x7 x8 : Vec Ideal S256x128 .f32)

/-- The recurrence's values of a block. -/
theorem out12_apply (r : Fin 256) (c : Fin 512) :
    out0_12 x0 x1 x2 x3 x4 x5 x6 x7 x8 (ix3 0 r c) = bcol x0 x1 x2 x3 r ⟨1024 + c, by omega⟩ := by
  rw [bcol_eq]
  unfold toks
  generalize hy : (ix3 0 r c : S1x256x512.Idx) = y
  unfold_out out0_12
  generalize k0_pay3 (View.ld x0 r0_0) (View.ld x1 r0_1) (View.ld x1 r0_2) (View.ld x2 r0_3) = h
  canon_tiles x e
  subst hy
  obtain ⟨a, b, q, rfl⟩ : ∃ (a : Fin 1) (b : Fin 256) (q : Fin 512), x = ix3 a b q := ⟨x 0, x 1, x 2, eq_ix3 x⟩
  obtain rfl : a = 0 := Subsingleton.elim _ _
  obtain rfl : r = b := Fin.ext e1
  obtain rfl : c = q := Fin.ext e2
  pointwise [k0_pay99, k0_pay88]

/-- The recurrence's output gate of a block: the projection with its doubled logistic function. -/
theorem out13_apply (r : Fin 256) (c : Fin 512) :
    out0_13 x0 x1 x2 x3 x4 x5 x6 x7 x8 (ix3 0 r c)
      = bcol x0 x1 x2 x3 r ⟨2304 + c, by omega⟩ * (Ideal.tanh (bcol x0 x1 x2 x3 r ⟨2304 + c, by omega⟩) + 1) := by
  simp only [bcol_eq]
  unfold toks
  generalize hy : (ix3 0 r c : S1x256x512.Idx) = y
  unfold_out out0_13
  generalize k0_pay3 (View.ld x0 r0_0) (View.ld x1 r0_1) (View.ld x1 r0_2) (View.ld x2 r0_3) = h
  canon_tiles x e
  subst hy
  obtain ⟨a, b, q, rfl⟩ : ∃ (a : Fin 1) (b : Fin 256) (q : Fin 512), x = ix3 a b q := ⟨x 0, x 1, x 2, eq_ix3 x⟩
  obtain rfl : a = 0 := Subsingleton.elim _ _
  obtain rfl : r = b := Fin.ext e1
  obtain rfl : c = q := Fin.ext e2
  pointwise [k0_pay124, k0_pay100]

/-- The attention's values of a block. -/
theorem out16_apply (r : Fin 256) (c : Fin 128) :
    out0_16 x0 x1 x2 x3 x4 x5 x6 x7 x8 (ix3 0 r c) = bcol x0 x1 x2 x3 r ⟨1664 + c, by omega⟩ := by
  rw [bcol_eq]
  unfold toks
  generalize hy : (ix3 0 r c : S1x256x128.Idx) = y
  unfold_out out0_16
  generalize k0_pay3 (View.ld x0 r0_0) (View.ld x1 r0_1) (View.ld x1 r0_2) (View.ld x2 r0_3) = h
  canon_tiles x e
  subst hy
  obtain ⟨a, b, q, rfl⟩ : ∃ (a : Fin 1) (b : Fin 256) (q : Fin 128), x = ix3 a b q := ⟨x 0, x 1, x 2, eq_ix3 x⟩
  obtain rfl : a = 0 := Subsingleton.elim _ _
  obtain rfl : r = b := Fin.ext e1
  obtain rfl : c = q := Fin.ext e2
  pointwise [k0_pay103, k0_pay90]
  refine Finset.sum_congr rfl fun k _ => congrArg (fun j => h (ix2 r k) * x3 (ix2 k j)) (Fin.ext ?_)
  show 1536 + (128 + c.val) = 1664 + c.val
  omega

/-- The recurrence's values of a block, page by page, a row a channel. -/
theorem out11_apply (g : Fin 2) (c : Fin 512) (p : Fin 128) :
    out0_11 x0 x1 x2 x3 x4 x5 x6 x7 x8 (ix4 0 g c p) = bcol x0 x1 x2 x3 ⟨g * 128 + p, by omega⟩ ⟨1024 + c, by omega⟩ := by
  rw [bcol_eq]
  unfold toks
  generalize hy : (ix4 0 g c p : S1x2x512x128.Idx) = y
  unfold_out out0_11
  generalize k0_pay3 (View.ld x0 r0_0) (View.ld x1 r0_1) (View.ld x1 r0_2) (View.ld x2 r0_3) = h
  canon_tiles x e
  all_goals
    subst hy
    obtain ⟨a, b, q, s, rfl⟩ : ∃ (a : Fin 1) (b : Fin 1) (q : Fin 512) (s : Fin 128), x = ix4 a b q s := ⟨x 0, x 1, x 2, x 3, eq_ix4 x⟩
    obtain rfl : a = 0 := Subsingleton.elim _ _
    obtain rfl : b = 0 := Subsingleton.elim _ _
    obtain rfl : c = q := Fin.ext e2
    obtain rfl : p = s := Fin.ext e3
    pointwise [k0_pay97, k0_pay98, k0_pay88]
  · obtain rfl : g = 1 := Fin.ext e1
    rfl
  · obtain rfl : g = 0 := Fin.ext e1
    refine Finset.sum_congr rfl fun k _ => congrArg (fun j => h (ix2 j k) * _) (Fin.ext ?_)
    show p.val = 0 * 128 + p.val
    omega

/-- The merge gates of a block, doubled. -/
theorem out17_apply (r : Fin 256) (c : Fin 2048) :
    out0_17 x0 x1 x2 x3 x4 x5 x6 x7 x8 (ix3 0 r c) = Ideal.tanh (bcol x0 x1 x2 x3 r ⟨3328 + c, by omega⟩) + 1 := by
  rw [bcol_eq]
  unfold toks
  generalize hy : (ix3 0 r c : S1x256x2048.Idx) = y
  unfold_out out0_17
  generalize k0_pay3 (View.ld x0 r0_0) (View.ld x1 r0_1) (View.ld x1 r0_2) (View.ld x2 r0_3) = h
  canon_tiles x e
  all_goals
    subst hy
    obtain ⟨a, b, q, rfl⟩ : ∃ (a : Fin 1) (b : Fin 256) (q : Fin 512), x = ix3 a b q := ⟨x 0, x 1, x 2, eq_ix3 x⟩
    obtain rfl : a = 0 := Subsingleton.elim _ _
    obtain rfl : r = b := Fin.ext e1
    have e2' : c.val = _ := e2
    pointwise [k0_pay89, k0_pay68, k0_pay69, k0_pay48, k0_pay50, k0_pay49, k0_pay33, k0_pay34, k0_pay17]
    refine congrArg (fun z => Ideal.tanh z + 1) (Finset.sum_congr rfl fun k _ => congrArg (fun j => h (ix2 r k) * x3 (ix2 k j)) (Fin.ext ?_))
    have e4 : ((ix3 0 r q : S1x256x512.Idx) 2).val = q.val := rfl
    simp only [e2']
    omega

end Cert.ProjIdeal.Tile

end
-- ==== Proof.ProjFinal.lean ====
/- The input projection kernel's five claimed result arrays as functions of its arguments. -/
module

public import proofs.«01_k».proof.Proof.ProjTile
public import Idealize.ShloMosaic.Lib.Claim

@[expose] public section

set_option maxRecDepth 16384

noncomputable section

namespace Cert.ProjIdeal.Tile

open Cert.ProjIdeal Cert.ProjIdeal.Gen Cert.MergeSpec Cert.ProjSpec Idealize.ShloMosaic Idealize.ShloMosaic.TcCoe Idealize.SL.Sem

variable (m : (ℓ : Loc nD τ sig) → Buf (Elt Ideal) ℓ)

/-- Which block each window shows at a point: the batch and the block of tokens for the activations, the batch for the
    modulation, everything for the weights. -/
theorem idx (t : Fin cfg0.N) : win0_0.index t = ![(grid0.coords t 0).val, (grid0.coords t 1).val, 0]
    ∧ win0_1.index t = ![(grid0.coords t 0).val, 0, 0] ∧ win0_2.index t = ![0, 0] ∧ win0_3.index t = ![0, 0]
    ∧ win0_11.index t = ![(grid0.coords t 0).val, (grid0.coords t 1).val, 0, 0]
    ∧ win0_12.index t = ![(grid0.coords t 0).val, (grid0.coords t 1).val, 0]
    ∧ win0_13.index t = ![(grid0.coords t 0).val, (grid0.coords t 1).val, 0]
    ∧ win0_16.index t = ![(grid0.coords t 0).val, (grid0.coords t 1).val, 0]
    ∧ win0_17.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_11.index t = ![(grid0.coords t 0).val, (grid0.coords t 1).val, 0, 0]
    ∧ win0_12.index t = ![(grid0.coords t 0).val, (grid0.coords t 1).val, 0]
    ∧ win0_13.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]) t

/-- The batch of a grid point. -/
def bat (t : Fin cfg0.N) : Fin 8 :=
  ⟨(grid0.coords t 0).val, (by decide +kernel : ∀ t : Fin grid0.N, (grid0.coords t 0).val < 8) t⟩

/-- The token that a row of a grid point's block is. -/
def tok (t : Fin cfg0.N) (p : Fin 256) : Fin 2048 :=
  ⟨(grid0.coords t 1).val * 256 + p,
    Nat.lt_of_lt_of_le (Nat.add_lt_add_left p.isLt _)
      ((by decide +kernel : ∀ t : Fin grid0.N, (grid0.coords t 1).val * 256 + 256 ≤ 2048) t)⟩

/-- The page that a page of a grid point's block is. -/
def page (t : Fin cfg0.N) (p : Fin 2) : Fin 16 :=
  ⟨(grid0.coords t 1).val * 2 + p,
    Nat.lt_of_lt_of_le (Nat.add_lt_add_left p.isLt _)
      ((by decide +kernel : ∀ t : Fin grid0.N, (grid0.coords t 1).val * 2 + 2 ≤ 16) t)⟩

/-- The modulation as the kernel finds it, at a batch that exists. -/
theorem V11 (c : Dev nD) (b : Fin 8) (k : Fin 6144) : (V m c main_v11 : S16x1x6144.Idx → EReal) (ix3 ⟨b, by omega⟩ 0 k) = m ((c : Thread nD τ).loc main_arg1) (ix2 b k) := by
  entry_read
  pointwise

/-- The normalisation's weight as the kernel finds it. -/
theorem V12 (c : Dev nD) (k : Fin 1024) : (V m c main_v12 : S1x1024.Idx → EReal) (ix2 0 k) = m ((c : Thread nD τ).loc main_arg2) (ix1 k) := by
  entry_read; pointwise

/-- A weight of the arguments. -/
def wt (a3 : Vec Ideal S1024x5376 .f32) (k : Fin 1024) (j : Fin 5376) : EReal := a3 (ix2 k j)

/-- The weights of the values' columns as the kernel finds them. -/
theorem V16_one (c : Dev nD) (k : Fin 1024) (j : Fin 5376) (h0 : 1024 ≤ j.val) (h1 : j.val < 1792) :
    (V m c main_v16 : S1024x5376.Idx → EReal) (ix2 k j) = wt (m ((c : Thread nD τ).loc main_arg3)) k j := by
  entry_read
  pointwise [wt]
  repeat' split
  all_goals first | exact mul_one (M := EReal) _ | (exfalso; omega)

/-- The weights of the output gate's columns as the kernel finds them. -/
theorem V16_gate (c : Dev nD) (k : Fin 1024) (j : Fin 5376) (h0 : 2304 ≤ j.val) (h1 : j.val < 2816) :
    (V m c main_v16 : S1024x5376.Idx → EReal) (ix2 k j) = wt (m ((c : Thread nD τ).loc main_arg3)) k j * half := by
  entry_read
  pointwise [wt]
  repeat' split
  all_goals first | rfl | (exfalso; omega)

/-- The weights of the merge gates' columns as the kernel finds them. -/
theorem V16_merge (c : Dev nD) (k : Fin 1024) (j : Fin 5376) (h0 : 3328 ≤ j.val) :
    (V m c main_v16 : S1024x5376.Idx → EReal) (ix2 k j) = wt (m ((c : Thread nD τ).loc main_arg3)) k j * half := by
  entry_read
  pointwise [wt]
  repeat' split
  all_goals first | rfl | (exfalso; omega)

/-- Operand 0's block at a point, by its array. -/
theorem blk0 (c : Dev nD) (t : Fin cfg0.N) (p : Fin 256) (k : Fin 1024) : iblk m c 0 t (ix3 0 p k)
    = m ((c : Thread nD τ).loc main_arg0) (ix3 (bat t) (tok t p) k) := by
  blk_ext [iblk, V_main_arg0 m c, idx t, bat, tok]

/-- Operand 1's block at a point, by its array. -/
theorem blk1 (c : Dev nD) (t : Fin cfg0.N) (k : Fin 6144) : iblk m c 1 t (ix3 0 0 k)
    = m ((c : Thread nD τ).loc main_arg1) (ix2 (bat t) k) := by
  refine (show iblk m c 1 t (ix3 0 0 k) = (V m c main_v11 : S16x1x6144.Idx → EReal) (ix3 ⟨bat t, by omega⟩ 0 k) from ?_).trans
    (V11 m c (bat t) k)
  blk_ext [iblk, idx t, bat]

/-- Operand 2's block at a point, by its array. -/
theorem blk2 (c : Dev nD) (t : Fin cfg0.N) (k : Fin 1024) : iblk m c 2 t (ix2 0 k)
    = m ((c : Thread nD τ).loc main_arg2) (ix1 k) := by
  refine (show iblk m c 2 t (ix2 0 k) = (V m c main_v12 : S1x1024.Idx → EReal) (ix2 0 k) from ?_).trans
    (V12 m c k)
  blk_ext [iblk, idx t]

/-- Operand 3's block at a point, by the weights the kernel finds. -/
theorem blk3 (c : Dev nD) (t : Fin cfg0.N) (k : Fin 1024) (j : Fin 5376) : iblk m c 3 t (ix2 k j)
    = (V m c main_v16 : S1024x5376.Idx → EReal) (ix2 k j) := by
  blk_ext [iblk, idx t]

/-- A token of an array projected to a column of the weights. -/
def col (a0 : Vec Ideal S8x2048x1024 .f32) (a1 : Vec Ideal S8x6144 .f32) (a2 : Vec Ideal S1024 .f32) (a3 : Vec Ideal S1024x5376 .f32)
    (b : Fin 8) (s : Fin 2048) (j : Fin 5376) : EReal :=
  column (fun k => a0 (ix3 b s k)) (fun k => a2 (ix1 k)) (fun k => a1 (ix2 b ⟨1024 + k, by omega⟩)) (fun k => a1 (ix2 b ⟨k, by omega⟩))
    (fun k => a3 (ix2 k j))

/-- The recurrence's values, page by page, a row a channel, as one function of the arguments. -/
def pages (a0 : Vec Ideal S8x2048x1024 .f32) (a1 : Vec Ideal S8x6144 .f32) (a2 : Vec Ideal S1024 .f32) (a3 : Vec Ideal S1024x5376 .f32)
    (i : S8x16x512x128.Idx) : EReal :=
  col a0 a1 a2 a3 (i 0) ⟨(i 1).val * 128 + (i 3).val, by have h1 : (i 1).val < 16 := (i 1).isLt; have h3 : (i 3).val < 128 := (i 3).isLt; omega⟩
    ⟨1024 + (i 2).val, by have h2 : (i 2).val < 512 := (i 2).isLt; omega⟩

/-- The recurrence's values as one function of the arguments. -/
def vals (a0 : Vec Ideal S8x2048x1024 .f32) (a1 : Vec Ideal S8x6144 .f32) (a2 : Vec Ideal S1024 .f32) (a3 : Vec Ideal S1024x5376 .f32)
    (i : S8x2048x512.Idx) : EReal :=
  col a0 a1 a2 a3 (i 0) (i 1) ⟨1024 + (i 2).val, by have h2 : (i 2).val < 512 := (i 2).isLt; omega⟩

/-- The recurrence's output gate as one function of the arguments. -/
def gate (a0 : Vec Ideal S8x2048x1024 .f32) (a1 : Vec Ideal S8x6144 .f32) (a2 : Vec Ideal S1024 .f32) (a3 : Vec Ideal S1024x5376 .f32)
    (i : S8x2048x512.Idx) : EReal :=
  col a0 a1 a2 a3 (i 0) (i 1) ⟨2304 + (i 2).val, by have h2 : (i 2).val < 512 := (i 2).isLt; omega⟩
    * Ideal.logistic (col a0 a1 a2 a3 (i 0) (i 1) ⟨2304 + (i 2).val, by have h2 : (i 2).val < 512 := (i 2).isLt; omega⟩)

/-- The attention's values as one function of the arguments. -/
def attVals (a0 : Vec Ideal S8x2048x1024 .f32) (a1 : Vec Ideal S8x6144 .f32) (a2 : Vec Ideal S1024 .f32) (a3 : Vec Ideal S1024x5376 .f32)
    (i : S8x2048x128.Idx) : EReal :=
  col a0 a1 a2 a3 (i 0) (i 1) ⟨1664 + (i 2).val, by have h2 : (i 2).val < 128 := (i 2).isLt; omega⟩

/-- The doubled merge gates as one function of the arguments. -/
def gates (a0 : Vec Ideal S8x2048x1024 .f32) (a1 : Vec Ideal S8x6144 .f32) (a2 : Vec Ideal S1024 .f32) (a3 : Vec Ideal S1024x5376 .f32)
    (i : S8x2048x2048.Idx) : EReal :=
  Ideal.ofBits .f32 0x40000000#32
    * Ideal.logistic (col a0 a1 a2 a3 (i 0) (i 1) ⟨3328 + (i 2).val, by have h2 : (i 2).val < 2048 := (i 2).isLt; omega⟩)

/-- A token of a point's block projected to a column of the values, by the arguments. -/
theorem bcol_one (c : Dev nD) (t : Fin cfg0.N) (p : Fin 256) (j : Fin 5376) (h0 : 1024 ≤ j.val) (h1 : j.val < 1792) :
    bcol (iblk m c 0 t) (iblk m c 1 t) (iblk m c 2 t) (iblk m c 3 t) p j
      = col (m ((c : Thread nD τ).loc main_arg0)) (m ((c : Thread nD τ).loc main_arg1)) (m ((c : Thread nD τ).loc main_arg2))
        (m ((c : Thread nD τ).loc main_arg3)) (bat t) (tok t p) j :=
  column_congr (blk0 m c t p) (blk2 m c t) (fun k => blk1 m c t _) (fun k => blk1 m c t _)
    (fun k => (blk3 m c t k j).trans (V16_one m c k j h0 h1))

/-- A token of a point's block projected to a halved column, by the arguments. -/
theorem bcol_half (c : Dev nD) (t : Fin cfg0.N) (p : Fin 256) (j : Fin 5376)
    (h : ∀ k, (V m c main_v16 : S1024x5376.Idx → EReal) (ix2 k j) = wt (m ((c : Thread nD τ).loc main_arg3)) k j * half) :
    bcol (iblk m c 0 t) (iblk m c 1 t) (iblk m c 2 t) (iblk m c 3 t) p j
      = half * col (m ((c : Thread nD τ).loc main_arg0)) (m ((c : Thread nD τ).loc main_arg1)) (m ((c : Thread nD τ).loc main_arg2))
        (m ((c : Thread nD τ).loc main_arg3)) (bat t) (tok t p) j :=
  (column_congr (blk0 m c t p) (blk2 m c t) (fun k => blk1 m c t _) (fun k => blk1 m c t _)
    (fun k => (blk3 m c t k j).trans (h k))).trans (column_half _ _ _ _ _)

/-- The recurrence's values by pages after the run. -/
theorem final11 (c : Dev nD) : (dats m 0 c).arrAt 11 cfg0.N
    = pages (m ((c : Thread nD τ).loc main_arg0)) (m ((c : Thread nD τ).loc main_arg1)) (m ((c : Thread nD τ).loc main_arg2))
      (m ((c : Thread nD τ).loc main_arg3)) := by
  refine (dats m 0 c).arrAt_eq_of_covers 11 _ (by decide +kernel) fun t hf y => ?_
  blk_simp
  rw [after0_11]
  obtain ⟨a, g, q, p, rfl⟩ : ∃ (a : Fin 1) (g : Fin 2) (q : Fin 512) (p : Fin 128), y = ix4 a g q p := ⟨y 0, y 1, y 2, y 3, eq_ix4 y⟩
  obtain rfl : a = 0 := Subsingleton.elim _ _
  have e : (win0_11.blk t).view.emb (ix4 0 g q p) = ix4 (bat t) (page t g) q p := by
    blk_ext [idx t, bat, page]
  refine (out11_apply _ _ _ _ _ _ _ _ _ g q p).trans (Eq.trans ?_ (congrArg _ e.symm))
  refine (bcol_one m c t _ _ (show 1024 ≤ 1024 + q.val by omega) (show 1024 + q.val < 1792 by omega)).trans ?_
  refine congrArg (fun s => col _ _ _ _ (bat t) s _) (Fin.ext ?_)
  show (grid0.coords t 1).val * 256 + (g.val * 128 + p.val) = ((grid0.coords t 1).val * 2 + g.val) * 128 + p.val
  omega

/-- The recurrence's values after the run. -/
theorem final12 (c : Dev nD) : (dats m 0 c).arrAt 12 cfg0.N
    = vals (m ((c : Thread nD τ).loc main_arg0)) (m ((c : Thread nD τ).loc main_arg1)) (m ((c : Thread nD τ).loc main_arg2))
      (m ((c : Thread nD τ).loc main_arg3)) := by
  refine (dats m 0 c).arrAt_eq_of_covers 12 _ (by decide +kernel) fun t hf y => ?_
  blk_simp
  rw [after0_12]
  obtain ⟨a, p, q, rfl⟩ : ∃ (a : Fin 1) (p : Fin 256) (q : Fin 512), y = ix3 a p q := ⟨y 0, y 1, y 2, eq_ix3 y⟩
  obtain rfl : a = 0 := Subsingleton.elim _ _
  have e : (win0_12.blk t).view.emb (ix3 0 p q) = ix3 (bat t) (tok t p) q := by
    blk_ext [idx t, bat, tok]
  refine (out12_apply _ _ _ _ _ _ _ _ _ p q).trans (Eq.trans ?_ (congrArg _ e.symm))
  exact bcol_one m c t _ _ (show 1024 ≤ 1024 + q.val by omega) (show 1024 + q.val < 1792 by omega)

/-- The recurrence's output gate after the run. -/
theorem final13 (c : Dev nD) : (dats m 0 c).arrAt 13 cfg0.N
    = gate (m ((c : Thread nD τ).loc main_arg0)) (m ((c : Thread nD τ).loc main_arg1)) (m ((c : Thread nD τ).loc main_arg2))
      (m ((c : Thread nD τ).loc main_arg3)) := by
  refine (dats m 0 c).arrAt_eq_of_covers 13 _ (by decide +kernel) fun t hf y => ?_
  blk_simp
  rw [after0_13]
  obtain ⟨a, p, q, rfl⟩ : ∃ (a : Fin 1) (p : Fin 256) (q : Fin 512), y = ix3 a p q := ⟨y 0, y 1, y 2, eq_ix3 y⟩
  obtain rfl : a = 0 := Subsingleton.elim _ _
  have e : (win0_13.blk t).view.emb (ix3 0 p q) = ix3 (bat t) (tok t p) q := by
    blk_ext [idx t, bat, tok]
  refine (out13_apply _ _ _ _ _ _ _ _ _ p q).trans (Eq.trans ?_ (congrArg _ e.symm))
  rw [bcol_half m c t p _ fun k => V16_gate m c k _ (show 2304 ≤ 2304 + q.val by omega) (show 2304 + q.val < 2816 by omega), half_silu]
  rfl

/-- The attention's values after the run. -/
theorem final16 (c : Dev nD) : (dats m 0 c).arrAt 16 cfg0.N
    = attVals (m ((c : Thread nD τ).loc main_arg0)) (m ((c : Thread nD τ).loc main_arg1)) (m ((c : Thread nD τ).loc main_arg2))
      (m ((c : Thread nD τ).loc main_arg3)) := by
  refine (dats m 0 c).arrAt_eq_of_covers 16 _ (by decide +kernel) fun t hf y => ?_
  blk_simp
  rw [after0_16]
  obtain ⟨a, p, q, rfl⟩ : ∃ (a : Fin 1) (p : Fin 256) (q : Fin 128), y = ix3 a p q := ⟨y 0, y 1, y 2, eq_ix3 y⟩
  obtain rfl : a = 0 := Subsingleton.elim _ _
  have e : (win0_16.blk t).view.emb (ix3 0 p q) = ix3 (bat t) (tok t p) q := by
    blk_ext [idx t, bat, tok]
  refine (out16_apply _ _ _ _ _ _ _ _ _ p q).trans (Eq.trans ?_ (congrArg _ e.symm))
  exact bcol_one m c t _ _ (show 1024 ≤ 1664 + q.val by omega) (show 1664 + q.val < 1792 by omega)

/-- The doubled merge gates after the run. -/
theorem final17 (c : Dev nD) : (dats m 0 c).arrAt 17 cfg0.N
    = gates (m ((c : Thread nD τ).loc main_arg0)) (m ((c : Thread nD τ).loc main_arg1)) (m ((c : Thread nD τ).loc main_arg2))
      (m ((c : Thread nD τ).loc main_arg3)) := by
  refine (dats m 0 c).arrAt_eq_of_covers 17 _ (by decide +kernel) fun t hf y => ?_
  blk_simp
  rw [after0_17]
  obtain ⟨a, p, q, rfl⟩ : ∃ (a : Fin 1) (p : Fin 256) (q : Fin 2048), y = ix3 a p q := ⟨y 0, y 1, y 2, eq_ix3 y⟩
  obtain rfl : a = 0 := Subsingleton.elim _ _
  have e : (win0_17.blk t).view.emb (ix3 0 p q) = ix3 (bat t) (tok t p) q := by
    blk_ext [idx t, bat, tok]
  refine (out17_apply _ _ _ _ _ _ _ _ _ p q).trans (Eq.trans ?_ (congrArg _ e.symm))
  rw [bcol_half m c t p _ fun k => V16_merge m c k _ (show 3328 ≤ 3328 + q.val by omega), double_gate]
  rfl

end Cert.ProjIdeal.Tile

end
-- ==== Proof.ProjReading.lean ====
/- The reference of the input projection, read one token at a time. -/
module

public import proofs.«01_k».proof.Proof.Gen.ProjRefIdeal.Read
public import proofs.«01_k».proof.Proof.ProjSpec
public import Idealize.ShloMosaic.Lib.Pointwise

@[expose] public section

set_option maxRecDepth 16384

noncomputable section

namespace Cert.ProjRefIdeal.Token

open Cert.ProjRefIdeal Cert.ProjRefIdeal.Read Cert.MergeSpec Cert.ProjSpec Idealize.ShloMosaic Idealize.ShloMosaic.TcCoe Idealize.SL.Sem

variable (a0 : (⟨S8x2048x1024, .f32⟩ : BufTy).Contents (Elt Ideal)) (a1 : (⟨S8x6144, .f32⟩ : BufTy).Contents (Elt Ideal))
  (a2 : (⟨S1024, .f32⟩ : BufTy).Contents (Elt Ideal)) (a3 : (⟨S1024x5376, .f32⟩ : BufTy).Contents (Elt Ideal))

/-- The normalised token. -/
theorem normal (b : Fin 8) (s : Fin 2048) (c : Fin 1024) :
    val_main_v30 (F := Ideal) a0 a1 a2 (ix3 b s c)
      = normed (fun k => a0 (ix3 b s k)) (fun k => a2 (ix1 k)) (fun k => a1 (ix2 b ⟨1024 + k, by omega⟩)) (fun k => a1 (ix2 b ⟨k, by omega⟩)) c := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v6, val_main_v7, val_main_v0, val_main_v1, val_main_cst, val_main_cst_0, val_main_cst_1, val_main_cst_2, normed]

/-- The projection of a token. -/
theorem projected (b : Fin 8) (s : Fin 2048) (j : Fin 5376) :
    val_main_v31 (F := Ideal) a0 a1 a2 a3 (ix3 b s j)
      = column (fun k => a0 (ix3 b s k)) (fun k => a2 (ix1 k)) (fun k => a1 (ix2 b ⟨1024 + k, by omega⟩)) (fun k => a1 (ix2 b ⟨k, by omega⟩))
          (fun k => a3 (ix2 k j)) := by
  unfold column
  simp only [← normal]
  unfold val_main_v31
  generalize val_main_v30 (F := Ideal) a0 a1 a2 = h
  pointwise

/-- The recurrence's values by pages. -/
theorem pages (b : Fin 8) (g : Fin 16) (c : Fin 512) (p : Fin 128) :
    val_main_v47 (F := Ideal) a0 a1 a2 a3 (ix4 b g c p)
      = val_main_v31 (F := Ideal) a0 a1 a2 a3 (ix3 b ⟨g * 128 + p, by omega⟩ ⟨1024 + c, by omega⟩) := by
  unfold val_main_v47 val_main_v37 val_main_v36 val_main_v32
  generalize val_main_v31 (F := Ideal) a0 a1 a2 a3 = h
  pointwise

/-- The recurrence's values. -/
theorem vals (b : Fin 8) (s : Fin 2048) (c : Fin 512) :
    val_main_v48 (F := Ideal) a0 a1 a2 a3 (ix3 b s c) = val_main_v31 (F := Ideal) a0 a1 a2 a3 (ix3 b s ⟨1024 + c, by omega⟩) := by
  unfold val_main_v48 val_main_v32
  generalize val_main_v31 (F := Ideal) a0 a1 a2 a3 = h
  pointwise

/-- The recurrence's output gate. -/
theorem gate (b : Fin 8) (s : Fin 2048) (c : Fin 512) :
    val_main_v49 (F := Ideal) a0 a1 a2 a3 (ix3 b s c)
      = val_main_v31 (F := Ideal) a0 a1 a2 a3 (ix3 b s ⟨2304 + c, by omega⟩)
        * Ideal.logistic (val_main_v31 (F := Ideal) a0 a1 a2 a3 (ix3 b s ⟨2304 + c, by omega⟩)) := by
  unfold val_main_v49 val_main_v38 val_main_call0_v5 val_main_call0_v3 val_main_call0_v1 val_main_call0_v0 val_main_v34
  generalize val_main_v31 (F := Ideal) a0 a1 a2 a3 = h
  pointwise [val_main_call0_v4, val_main_call0_v2, val_main_call0_cst, val_main_call0_cst_0, Ideal.logistic]

/-- The attention's values. -/
theorem attVals (b : Fin 8) (s : Fin 2048) (c : Fin 128) :
    val_main_v50 (F := Ideal) a0 a1 a2 a3 (ix3 b s c) = val_main_v31 (F := Ideal) a0 a1 a2 a3 (ix3 b s ⟨1664 + c, by omega⟩) := by
  unfold val_main_v50 val_main_v33
  generalize val_main_v31 (F := Ideal) a0 a1 a2 a3 = h
  pointwise

/-- The doubled merge gates. -/
theorem gates (b : Fin 8) (s : Fin 2048) (c : Fin 2048) :
    val_main_v51 (F := Ideal) a0 a1 a2 a3 (ix3 b s c)
      = Ideal.ofBits .f32 0x40000000#32 * Ideal.logistic (val_main_v31 (F := Ideal) a0 a1 a2 a3 (ix3 b s ⟨3328 + c, by omega⟩)) := by
  unfold val_main_v51 val_main_v46 val_main_v44 val_main_v42 val_main_v40 val_main_v39 val_main_v35
  generalize val_main_v31 (F := Ideal) a0 a1 a2 a3 = h
  pointwise [val_main_v45, val_main_v43, val_main_v41, val_main_cst_3, val_main_cst_4, val_main_cst_5, Ideal.logistic]

end Cert.ProjRefIdeal.Token

end
-- ==== Proof.ProjClaims.lean ====
/- The claims about the input projection kernel and its reference. -/
module

public import proofs.«01_k».proof.Defs
public import proofs.«01_k».proof.Proof.ProjFinal
public import proofs.«01_k».proof.Proof.ProjReading
public import proofs.«01_k».proof.Proof.Gen.Proj.Frame
public import proofs.«01_k».proof.Proof.Gen.ProjIdeal.Value
public import proofs.«01_k».proof.Proof.Gen.ProjRefIdeal.Read
public import Idealize.ShloMosaic.Adequacy

@[expose] public section

set_option maxRecDepth 16384

noncomputable section

namespace Cert.ProjClaims

open Idealize.ShloMosaic Idealize.SL.Sem

/-- The input projection kernel ends, leaves its arguments as they were and its counters at zero. -/
theorem frame : Cert.quiescent_Proj := fun m ρ _ => Cert.Proj.Gen.frame m ρ

/-- The same of the input projection kernel over the extended reals. -/
theorem frame_ideal : Cert.quiescent_ProjIdeal := fun m ρ _ => Cert.ProjIdeal.Gen.frame m ρ

/-- The input projection reference ends and leaves its arguments as they were. -/
theorem frame_ref : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

/-- Nothing of the input projection kernel was rewritten on the way to the extended reals. -/
theorem preserves : Cert.preserves_Proj_ProjIdeal := trivial

section

variable (a0 : (⟨Cert.ProjRefIdeal.S8x2048x1024, .f32⟩ : BufTy).Contents (Elt Ideal))
  (a1 : (⟨Cert.ProjRefIdeal.S8x6144, .f32⟩ : BufTy).Contents (Elt Ideal)) (a2 : (⟨Cert.ProjRefIdeal.S1024, .f32⟩ : BufTy).Contents (Elt Ideal))
  (a3 : (⟨Cert.ProjRefIdeal.S1024x5376, .f32⟩ : BufTy).Contents (Elt Ideal))

/-- The reference's pages of values are the kernel's function of the same arrays. -/
theorem pages : Cert.ProjRefIdeal.Read.val_main_v47 (F := Ideal) a0 a1 a2 a3 = Cert.ProjIdeal.Tile.pages a0 a1 a2 a3 := by
  funext i
  obtain ⟨b, g, q, p, rfl⟩ : ∃ (b : Fin 8) (g : Fin 16) (q : Fin 512) (p : Fin 128), i = ix4 b g q p := ⟨i 0, i 1, i 2, i 3, eq_ix4 i⟩
  exact (Cert.ProjRefIdeal.Token.pages _ _ _ _ b g q p).trans (Cert.ProjRefIdeal.Token.projected _ _ _ _ _ _ _)

/-- The reference's values are the kernel's function of the same arrays. -/
theorem vals : Cert.ProjRefIdeal.Read.val_main_v48 (F := Ideal) a0 a1 a2 a3 = Cert.ProjIdeal.Tile.vals a0 a1 a2 a3 := by
  funext i
  obtain ⟨b, s, q, rfl⟩ : ∃ (b : Fin 8) (s : Fin 2048) (q : Fin 512), i = ix3 b s q := ⟨i 0, i 1, i 2, eq_ix3 i⟩
  exact (Cert.ProjRefIdeal.Token.vals _ _ _ _ b s q).trans (Cert.ProjRefIdeal.Token.projected _ _ _ _ _ _ _)

/-- The reference's output gate is the kernel's function of the same arrays. -/
theorem gate : Cert.ProjRefIdeal.Read.val_main_v49 (F := Ideal) a0 a1 a2 a3 = Cert.ProjIdeal.Tile.gate a0 a1 a2 a3 := by
  funext i
  obtain ⟨b, s, q, rfl⟩ : ∃ (b : Fin 8) (s : Fin 2048) (q : Fin 512), i = ix3 b s q := ⟨i 0, i 1, i 2, eq_ix3 i⟩
  rw [Cert.ProjRefIdeal.Token.gate, Cert.ProjRefIdeal.Token.projected]
  rfl

/-- The reference's attention values are the kernel's function of the same arrays. -/
theorem attVals : Cert.ProjRefIdeal.Read.val_main_v50 (F := Ideal) a0 a1 a2 a3 = Cert.ProjIdeal.Tile.attVals a0 a1 a2 a3 := by
  funext i
  obtain ⟨b, s, q, rfl⟩ : ∃ (b : Fin 8) (s : Fin 2048) (q : Fin 128), i = ix3 b s q := ⟨i 0, i 1, i 2, eq_ix3 i⟩
  exact (Cert.ProjRefIdeal.Token.attVals _ _ _ _ b s q).trans (Cert.ProjRefIdeal.Token.projected _ _ _ _ _ _ _)

/-- The reference's doubled merge gates are the kernel's function of the same arrays. -/
theorem gates : Cert.ProjRefIdeal.Read.val_main_v51 (F := Ideal) a0 a1 a2 a3 = Cert.ProjIdeal.Tile.gates a0 a1 a2 a3 := by
  funext i
  obtain ⟨b, s, q, rfl⟩ : ∃ (b : Fin 8) (s : Fin 2048) (q : Fin 2048), i = ix3 b s q := ⟨i 0, i 1, i 2, eq_ix3 i⟩
  rw [Cert.ProjRefIdeal.Token.gates, Cert.ProjRefIdeal.Token.projected]
  rfl

end

/-- Over the extended reals the input projection kernel and its reference end with the same five arrays, for all arguments. -/
theorem algebraic : Cert.algebraic_ProjIdeal_ProjRefIdeal := by
  intro m ρ m' ρ' _ hag
  refine ⟨_, _, _, _, _, (θ_run Cert.ProjIdeal.defs _ _).mono
      (fun _ h c => ⟨(h c).2.2.1.trans (Cert.ProjIdeal.Tile.final11 m c), (h c).2.2.2.1.trans (Cert.ProjIdeal.Tile.final12 m c),
        (h c).2.2.2.2.1.trans (Cert.ProjIdeal.Tile.final13 m c), (h c).2.2.2.2.2.2.2.1.trans (Cert.ProjIdeal.Tile.final16 m c),
        (h c).2.2.2.2.2.2.2.2.1.trans (Cert.ProjIdeal.Tile.final17 m c), (h c).2.2.2.2.2.2.2.2.2⟩)
      (Cert.ProjIdeal.Value.run_blocks (F := Ideal) m ρ),
    (θ_run Cert.ProjRefIdeal.defs _ _).mono
      (fun _ h c => ⟨((h c).1.trans (pages _ _ _ _)).trans ?_, ((h c).2.1.trans (vals _ _ _ _)).trans ?_,
        ((h c).2.2.1.trans (gate _ _ _ _)).trans ?_, ((h c).2.2.2.1.trans (attVals _ _ _ _)).trans ?_,
        ((h c).2.2.2.2.1.trans (gates _ _ _ _)).trans ?_, (h c).2.2.2.2.2⟩)
      (Cert.ProjRefIdeal.Value.run (F := Ideal) m' ρ')⟩
  all_goals
    obtain ⟨h0, h1, h2, h3, _⟩ := hag c
    rw [h0, h1, h2, h3]

end Cert.ProjClaims

end
-- ==== Proof.lean ====
/- The whole claim, from the claims about the attention, the merge, the modulation and the input projection kernel. -/
module

public import proofs.«01_k».proof.Defs
public import proofs.«01_k».proof.Proof.AttnClaims
public import proofs.«01_k».proof.Proof.MergeClaims
public import proofs.«01_k».proof.Proof.ModClaims
public import proofs.«01_k».proof.Proof.ProjClaims

@[expose] public section

noncomputable section

namespace Cert.Proof

open Idealize.ShloMosaic Idealize.SL.Sem

/-- Everything claimed: frames, preservation and values of the four kernels. -/
theorem claim : Cert.Claim :=
  ⟨Cert.Attn.Gen.facts, Cert.AttnIdeal.Gen.facts, Cert.AttnRefIdeal.Gen.facts, Cert.Merge.Gen.facts, Cert.MergeIdeal.Gen.facts,
    Cert.MergeRefIdeal.Gen.facts, Cert.Mod.Gen.facts, Cert.ModIdeal.Gen.facts, Cert.ModRefIdeal.Gen.facts, Cert.Proj.Gen.facts,
    Cert.ProjIdeal.Gen.facts, Cert.ProjRefIdeal.Gen.facts, AttnPre.facts, AttnClaims.frame, AttnClaims.frame_ideal, AttnClaims.frame_ideal_pre,
    AttnClaims.frame_ref, AttnClaims.frame_ref_pre, MergeClaims.frame, MergeClaims.frame_ideal, MergeClaims.frame_ref,
    ModClaims.frame, ModClaims.frame_ideal, ModClaims.frame_ref, ProjClaims.frame, ProjClaims.frame_ideal, ProjClaims.frame_ref,
    AttnClaims.preserves, AttnClaims.algebraic, MergeClaims.preserves, MergeClaims.algebraic, ModClaims.preserves, ModClaims.algebraic,
    ProjClaims.preserves, ProjClaims.algebraic⟩

end Cert.Proof

end
